-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Valid (m : (ℓ : Loc Cert.Valid.nD Cert.Valid.τ Cert.Valid.sig) → Buf (Elt Bits) ℓ) : Prop :=
  True

def Pre_ValidIdeal (m : (ℓ : Loc Cert.ValidIdeal.nD Cert.ValidIdeal.τ Cert.ValidIdeal.sig) → Buf (Elt Ideal) ℓ) : Prop :=
  True

def Pre_ValidIdeal_finite [hPre_finite : Cert.Pre_finite.Facts] (m : (ℓ : Loc Cert.ValidIdeal.nD Cert.ValidIdeal.τ Cert.ValidIdeal.sig) → Buf (Elt Ideal) ℓ) : Prop :=
  ∀ c : Dev Cert.ValidIdeal.nD,
    (Cert.Pre_finite.fn (F := Ideal) (m ((c.tc : Thread Cert.ValidIdeal.nD Cert.ValidIdeal.τ).loc Cert.ValidIdeal.main_arg0)) (m ((c.tc : Thread Cert.ValidIdeal.nD Cert.ValidIdeal.τ).loc Cert.ValidIdeal.main_arg1))) = (fun _ => 1#1)

def Pre_MaskedIdeal (m : (ℓ : Loc Cert.MaskedIdeal.nD Cert.MaskedIdeal.τ Cert.MaskedIdeal.sig) → Buf (Elt Ideal) ℓ) : Prop :=
  True

def Pre_MaskedIdeal_finite [hPre_finite : Cert.Pre_finite.Facts] (m : (ℓ : Loc Cert.MaskedIdeal.nD Cert.MaskedIdeal.τ Cert.MaskedIdeal.sig) → Buf (Elt Ideal) ℓ) : Prop :=
  ∀ c : Dev Cert.MaskedIdeal.nD,
    (Cert.Pre_finite.fn (F := Ideal) (m ((c.tc : Thread Cert.MaskedIdeal.nD Cert.MaskedIdeal.τ).loc Cert.MaskedIdeal.main_arg0)) (m ((c.tc : Thread Cert.MaskedIdeal.nD Cert.MaskedIdeal.τ).loc Cert.MaskedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Valid [hValid : Cert.Valid.Facts] : Prop :=
  ∀ (m : (ℓ : Loc Cert.Valid.nD Cert.Valid.τ Cert.Valid.sig) → Buf (Elt Bits) ℓ) (g : Dev Cert.Valid.nD → PrngReg), Pre_Valid m →
    θ_run (Cert.Valid.defs (F := Bits)) (onTc (τ := Cert.Valid.τ) (Cert.Valid.main (F := Bits))) ⟨m, fun _ => 0, g⟩ (fun r => (∀ c : Dev Cert.Valid.nD,
      r.2.mem ((c.tc : Thread Cert.Valid.nD Cert.Valid.τ).loc Cert.Valid.main_arg0) = m ((c.tc : Thread Cert.Valid.nD Cert.Valid.τ).loc Cert.Valid.main_arg0)
      ∧ r.2.mem ((c.tc : Thread Cert.Valid.nD Cert.Valid.τ).loc Cert.Valid.main_arg1) = m ((c.tc : Thread Cert.Valid.nD Cert.Valid.τ).loc Cert.Valid.main_arg1))
      ∧ r.2.sem = fun _ => 0)

def quiescent_ValidIdeal [hValidIdeal : Cert.ValidIdeal.Facts] : Prop :=
  ∀ (m : (ℓ : Loc Cert.ValidIdeal.nD Cert.ValidIdeal.τ Cert.ValidIdeal.sig) → Buf (Elt Ideal) ℓ) (g : Dev Cert.ValidIdeal.nD → PrngReg), Pre_ValidIdeal m →
    θ_run (Cert.ValidIdeal.defs (F := Ideal)) (onTc (τ := Cert.ValidIdeal.τ) (Cert.ValidIdeal.main (F := Ideal))) ⟨m, fun _ => 0, g⟩ (fun r => (∀ c : Dev Cert.ValidIdeal.nD,
      r.2.mem ((c.tc : Thread Cert.ValidIdeal.nD Cert.ValidIdeal.τ).loc Cert.ValidIdeal.main_arg0) = m ((c.tc : Thread Cert.ValidIdeal.nD Cert.ValidIdeal.τ).loc Cert.ValidIdeal.main_arg0)
      ∧ r.2.mem ((c.tc : Thread Cert.ValidIdeal.nD Cert.ValidIdeal.τ).loc Cert.ValidIdeal.main_arg1) = m ((c.tc : Thread Cert.ValidIdeal.nD Cert.ValidIdeal.τ).loc Cert.ValidIdeal.main_arg1))
      ∧ r.2.sem = fun _ => 0)

def quiescent_ValidIdeal_pre_finite [hValidIdeal : Cert.ValidIdeal.Facts] [hPre_finite : Cert.Pre_finite.Facts] : Prop :=
  ∀ (m : (ℓ : Loc Cert.ValidIdeal.nD Cert.ValidIdeal.τ Cert.ValidIdeal.sig) → Buf (Elt Ideal) ℓ) (g : Dev Cert.ValidIdeal.nD → PrngReg), Pre_ValidIdeal_finite m →
    θ_run (Cert.ValidIdeal.defs (F := Ideal)) (onTc (τ := Cert.ValidIdeal.τ) (Cert.ValidIdeal.main (F := Ideal))) ⟨m, fun _ => 0, g⟩ (fun r => (∀ c : Dev Cert.ValidIdeal.nD,
      r.2.mem ((c.tc : Thread Cert.ValidIdeal.nD Cert.ValidIdeal.τ).loc Cert.ValidIdeal.main_arg0) = m ((c.tc : Thread Cert.ValidIdeal.nD Cert.ValidIdeal.τ).loc Cert.ValidIdeal.main_arg0)
      ∧ r.2.mem ((c.tc : Thread Cert.ValidIdeal.nD Cert.ValidIdeal.τ).loc Cert.ValidIdeal.main_arg1) = m ((c.tc : Thread Cert.ValidIdeal.nD Cert.ValidIdeal.τ).loc Cert.ValidIdeal.main_arg1))
      ∧ r.2.sem = fun _ => 0)

def quiescent_MaskedIdeal [hMaskedIdeal : Cert.MaskedIdeal.Facts] : Prop :=
  ∀ (m : (ℓ : Loc Cert.MaskedIdeal.nD Cert.MaskedIdeal.τ Cert.MaskedIdeal.sig) → Buf (Elt Ideal) ℓ) (g : Dev Cert.MaskedIdeal.nD → PrngReg), Pre_MaskedIdeal m →
    θ_run (Cert.MaskedIdeal.defs (F := Ideal)) (onTc (τ := Cert.MaskedIdeal.τ) (Cert.MaskedIdeal.main (F := Ideal))) ⟨m, fun _ => 0, g⟩ (fun r => (∀ c : Dev Cert.MaskedIdeal.nD,
      r.2.mem ((c.tc : Thread Cert.MaskedIdeal.nD Cert.MaskedIdeal.τ).loc Cert.MaskedIdeal.main_arg0) = m ((c.tc : Thread Cert.MaskedIdeal.nD Cert.MaskedIdeal.τ).loc Cert.MaskedIdeal.main_arg0)
      ∧ r.2.mem ((c.tc : Thread Cert.MaskedIdeal.nD Cert.MaskedIdeal.τ).loc Cert.MaskedIdeal.main_arg1) = m ((c.tc : Thread Cert.MaskedIdeal.nD Cert.MaskedIdeal.τ).loc Cert.MaskedIdeal.main_arg1))
      ∧ r.2.sem = fun _ => 0)

def quiescent_MaskedIdeal_pre_finite [hMaskedIdeal : Cert.MaskedIdeal.Facts] [hPre_finite : Cert.Pre_finite.Facts] : Prop :=
  ∀ (m : (ℓ : Loc Cert.MaskedIdeal.nD Cert.MaskedIdeal.τ Cert.MaskedIdeal.sig) → Buf (Elt Ideal) ℓ) (g : Dev Cert.MaskedIdeal.nD → PrngReg), Pre_MaskedIdeal_finite m →
    θ_run (Cert.MaskedIdeal.defs (F := Ideal)) (onTc (τ := Cert.MaskedIdeal.τ) (Cert.MaskedIdeal.main (F := Ideal))) ⟨m, fun _ => 0, g⟩ (fun r => (∀ c : Dev Cert.MaskedIdeal.nD,
      r.2.mem ((c.tc : Thread Cert.MaskedIdeal.nD Cert.MaskedIdeal.τ).loc Cert.MaskedIdeal.main_arg0) = m ((c.tc : Thread Cert.MaskedIdeal.nD Cert.MaskedIdeal.τ).loc Cert.MaskedIdeal.main_arg0)
      ∧ r.2.mem ((c.tc : Thread Cert.MaskedIdeal.nD Cert.MaskedIdeal.τ).loc Cert.MaskedIdeal.main_arg1) = m ((c.tc : Thread Cert.MaskedIdeal.nD Cert.MaskedIdeal.τ).loc Cert.MaskedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def preserves_Valid_ValidIdeal : Prop :=
  True

def algebraic_ValidIdeal_MaskedIdeal_pre_finite [hValidIdeal : Cert.ValidIdeal.Facts] [hMaskedIdeal : Cert.MaskedIdeal.Facts] [hPre_finite : Cert.Pre_finite.Facts] : Prop :=
  ∀ (m : (ℓ : Loc Cert.ValidIdeal.nD Cert.ValidIdeal.τ Cert.ValidIdeal.sig) → Buf (Elt Ideal) ℓ) (g : Dev Cert.ValidIdeal.nD → PrngReg)
    (m' : (ℓ : Loc Cert.MaskedIdeal.nD Cert.MaskedIdeal.τ Cert.MaskedIdeal.sig) → Buf (Elt Ideal) ℓ) (g' : Dev Cert.MaskedIdeal.nD → PrngReg), Pre_ValidIdeal_finite m →
    (∀ c : Dev Cert.ValidIdeal.nD,
      m' ((c.tc : Thread Cert.MaskedIdeal.nD Cert.MaskedIdeal.τ).loc Cert.MaskedIdeal.main_arg0) = m ((c.tc : Thread Cert.ValidIdeal.nD Cert.ValidIdeal.τ).loc Cert.ValidIdeal.main_arg0)
      ∧ m' ((c.tc : Thread Cert.MaskedIdeal.nD Cert.MaskedIdeal.τ).loc Cert.MaskedIdeal.main_arg1) = m ((c.tc : Thread Cert.ValidIdeal.nD Cert.ValidIdeal.τ).loc Cert.ValidIdeal.main_arg1)) →
    ∃ (v0 : (c : Dev Cert.ValidIdeal.nD) → Buf (Elt Ideal) ((c.tc : Thread Cert.ValidIdeal.nD Cert.ValidIdeal.τ).loc Cert.ValidIdeal.main_v8)),
      θ_run (Cert.ValidIdeal.defs (F := Ideal)) (onTc (τ := Cert.ValidIdeal.τ) (Cert.ValidIdeal.main (F := Ideal))) ⟨m, fun _ => 0, g⟩ (fun r => ∀ c : Dev Cert.ValidIdeal.nD,
          r.2.mem ((c.tc : Thread Cert.ValidIdeal.nD Cert.ValidIdeal.τ).loc Cert.ValidIdeal.main_v8) = v0 c
          ∧ r.2.mem ((c.tc : Thread Cert.ValidIdeal.nD Cert.ValidIdeal.τ).loc Cert.ValidIdeal.main_arg0) = m ((c.tc : Thread Cert.ValidIdeal.nD Cert.ValidIdeal.τ).loc Cert.ValidIdeal.main_arg0)
          ∧ r.2.mem ((c.tc : Thread Cert.ValidIdeal.nD Cert.ValidIdeal.τ).loc Cert.ValidIdeal.main_arg1) = m ((c.tc : Thread Cert.ValidIdeal.nD Cert.ValidIdeal.τ).loc Cert.ValidIdeal.main_arg1))
      ∧ θ_run (Cert.MaskedIdeal.defs (F := Ideal)) (onTc (τ := Cert.MaskedIdeal.τ) (Cert.MaskedIdeal.main (F := Ideal))) ⟨m', fun _ => 0, g'⟩ (fun r => ∀ c : Dev Cert.MaskedIdeal.nD,
          r.2.mem ((c.tc : Thread Cert.MaskedIdeal.nD Cert.MaskedIdeal.τ).loc Cert.MaskedIdeal.main_v20) = v0 c
          ∧ r.2.mem ((c.tc : Thread Cert.MaskedIdeal.nD Cert.MaskedIdeal.τ).loc Cert.MaskedIdeal.main_arg0) = m' ((c.tc : Thread Cert.MaskedIdeal.nD Cert.MaskedIdeal.τ).loc Cert.MaskedIdeal.main_arg0)
          ∧ r.2.mem ((c.tc : Thread Cert.MaskedIdeal.nD Cert.MaskedIdeal.τ).loc Cert.MaskedIdeal.main_arg1) = m' ((c.tc : Thread Cert.MaskedIdeal.nD Cert.MaskedIdeal.τ).loc Cert.MaskedIdeal.main_arg1))

def Claim : Prop :=
  ∃ (hKernel : Cert.Kernel.Facts) (hKernelIdeal : Cert.KernelIdeal.Facts) (hReferenceIdeal : Cert.ReferenceIdeal.Facts) (hReference : Cert.Reference.Facts) (hValid : Cert.Valid.Facts) (hValidIdeal : Cert.ValidIdeal.Facts) (hMaskedIdeal : Cert.MaskedIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Valid (hValid := hValid)
    ∧ quiescent_ValidIdeal (hValidIdeal := hValidIdeal)
    ∧ quiescent_ValidIdeal_pre_finite (hValidIdeal := hValidIdeal) (hPre_finite := hPre_finite)
    ∧ quiescent_MaskedIdeal (hMaskedIdeal := hMaskedIdeal)
    ∧ quiescent_MaskedIdeal_pre_finite (hMaskedIdeal := hMaskedIdeal) (hPre_finite := hPre_finite)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Valid_ValidIdeal
    ∧ algebraic_ValidIdeal_MaskedIdeal_pre_finite (hValidIdeal := hValidIdeal) (hMaskedIdeal := hMaskedIdeal) (hPre_finite := hPre_finite)
-- ==== Pre_finite.lean ====
abbrev S10000x2048 : Shape := ⟨2, ![10000, 2048]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel

variable [Facts]

def fn {F : FTy → Type} [FloatOps F] (main_arg0 : FVec F S10000x2048 .f32) (main_arg1 : FVec F S10000x2048 .f32) : IVec S_ 1 :=
  let main_v0 : FVec F S10000x2048 .f32 := Host.absf main_arg1
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  main_v3
-- ==== Kernel.lean ====
abbrev S20480000 : Shape := ⟨1, ![20480000]⟩
abbrev S32x32768 : Shape := ⟨2, ![32, 32768]⟩
abbrev S32x2048 : Shape := ⟨2, ![32, 2048]⟩
abbrev S2560 : Shape := ⟨1, ![2560]⟩
abbrev S32768 : Shape := ⟨1, ![32768]⟩
abbrev S2048 : Shape := ⟨1, ![2048]⟩
abbrev S_ : Shape := ⟨0, ![]⟩
abbrev S16 : Shape := ⟨1, ![16]⟩
abbrev S160 : Shape := ⟨1, ![160]⟩
abbrev S1x32768 : Shape := ⟨2, ![1, 32768]⟩
abbrev S1x2048 : Shape := ⟨2, ![1, 2048]⟩
abbrev S1280 : Shape := ⟨1, ![1280]⟩

abbrev nBuf : Table → Nat
  | .hbm => 12
  | .local .scVector .vmem => 33
  | _ => 0

abbrev bufTy : (tb : Table) → Fin (nBuf tb) → BufTy
  | .hbm, ⟨0, _⟩ => ⟨S20480000, .i32⟩
  | .hbm, ⟨1, _⟩ => ⟨S32x32768, .i32⟩
  | .hbm, ⟨2, _⟩ => ⟨S32x2048, .i32⟩
  | .hbm, ⟨3, _⟩ => ⟨S20480000, .i32⟩
  | .hbm, ⟨4, _⟩ => ⟨S20480000, .i32⟩
  | .hbm, ⟨5, _⟩ => ⟨S32x32768, .i32⟩
  | .hbm, ⟨6, _⟩ => ⟨S32x2048, .i32⟩
  | .hbm, ⟨7, _⟩ => ⟨S20480000, .i32⟩
  | .hbm, ⟨8, _⟩ => ⟨S20480000, .i32⟩
  | .hbm, ⟨9, _⟩ => ⟨S32x32768, .i32⟩
  | .hbm, ⟨10, _⟩ => ⟨S32x2048, .i32⟩
  | .hbm, ⟨11, _⟩ => ⟨S20480000, .i32⟩
  | .local .scVector .vmem, ⟨0, _⟩ => ⟨S2560, .i32⟩
  | .local .scVector .vmem, ⟨1, _⟩ => ⟨S32768, .i32⟩
  | .local .scVector .vmem, ⟨2, _⟩ => ⟨S2048, .i32⟩
  | .local .scVector .vmem, ⟨3, _⟩ => ⟨S2560, .i32⟩
  | .local .scVector .vmem, ⟨4, _⟩ => ⟨S2560, .i32⟩
  | .local .scVector .vmem, ⟨5, _⟩ => ⟨S2560, .i32⟩
  | .local .scVector .vmem, ⟨6, _⟩ => ⟨S32768, .i32⟩
  | .local .scVector .vmem, ⟨7, _⟩ => ⟨S32768, .i32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | .local .scVector .vmem, ⟨11, _⟩ => ⟨S2560, .i32⟩
  | .local .scVector .vmem, ⟨12, _⟩ => ⟨S32768, .i32⟩
  | .local .scVector .vmem, ⟨13, _⟩ => ⟨S2048, .i32⟩
  | .local .scVector .vmem, ⟨14, _⟩ => ⟨S2560, .i32⟩
  | .local .scVector .vmem, ⟨15, _⟩ => ⟨S2560, .i32⟩
  | .local .scVector .vmem, ⟨16, _⟩ => ⟨S2560, .i32⟩
  | .local .scVector .vmem, ⟨17, _⟩ => ⟨S32768, .i32⟩
  | .local .scVector .vmem, ⟨18, _⟩ => ⟨S32768, .i32⟩
  | .local .scVector .vmem, ⟨19, _⟩ => ⟨S2048, .i32⟩
  | .local .scVector .vmem, ⟨20, _⟩ => ⟨S2048, .i32⟩
  | .local .scVector .vmem, ⟨21, _⟩ => ⟨S2048, .i32⟩
  | .local .scVector .vmem, ⟨22, _⟩ => ⟨S2560, .i32⟩
  | .local .scVector .vmem, ⟨23, _⟩ => ⟨S32768, .i32⟩
  | .local .scVector .vmem, ⟨24, _⟩ => ⟨S2048, .i32⟩
  | .local .scVector .vmem, ⟨25, _⟩ => ⟨S2560, .i32⟩
  | .local .scVector .vmem, ⟨26, _⟩ => ⟨S2560, .i32⟩
  | .local .scVector .vmem, ⟨27, _⟩ => ⟨S2560, .i32⟩
  | .local .scVector .vmem, ⟨28, _⟩ => ⟨S32768, .i32⟩
  | .local .scVector .vmem, ⟨29, _⟩ => ⟨S32768, .i32⟩
  | .local .scVector .vmem, ⟨30, _⟩ => ⟨S2048, .i32⟩
  | .local .scVector .vmem, ⟨31, _⟩ => ⟨S2048, .i32⟩
  | .local .scVector .vmem, ⟨32, _⟩ => ⟨S2048, .i32⟩
  | _, _ => ⟨S20480000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v1_0_scv : Ref sig .scVector := ⟨.hbm, 3, rfl⟩
abbrev main_v1_1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v3_0_scv : Ref sig .scVector := ⟨.hbm, 7, rfl⟩
abbrev main_v3_1_scv : Ref sig .scVector := ⟨.hbm, 8, rfl⟩
abbrev main_v4_0_scv : Ref sig .scVector := ⟨.hbm, 9, rfl⟩
abbrev main_v4_1_scv : Ref sig .scVector := ⟨.hbm, 10, rfl⟩
abbrev main_v5_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev cc1_scratch5 : Ref sig .scVector := ⟨.vmem, 8, rfl⟩
abbrev cc1_scratch6 : Ref sig .scVector := ⟨.vmem, 9, rfl⟩
abbrev cc1_scratch7 : Ref sig .scVector := ⟨.vmem, 10, rfl⟩
abbrev cc2_scratch0 : Ref sig .scVector := ⟨.vmem, 11, rfl⟩
abbrev cc2_scratch1 : Ref sig .scVector := ⟨.vmem, 12, rfl⟩
abbrev cc2_scratch2 : Ref sig .scVector := ⟨.vmem, 13, rfl⟩
abbrev cc3_scratch0 : Ref sig .scVector := ⟨.vmem, 14, rfl⟩
abbrev cc3_scratch1 : Ref sig .scVector := ⟨.vmem, 15, rfl⟩
abbrev cc3_scratch2 : Ref sig .scVector := ⟨.vmem, 16, rfl⟩
abbrev cc3_scratch3 : Ref sig .scVector := ⟨.vmem, 17, rfl⟩
abbrev cc3_scratch4 : Ref sig .scVector := ⟨.vmem, 18, rfl⟩
abbrev cc3_scratch5 : Ref sig .scVector := ⟨.vmem, 19, rfl⟩
abbrev cc3_scratch6 : Ref sig .scVector := ⟨.vmem, 20, rfl⟩
abbrev cc3_scratch7 : Ref sig .scVector := ⟨.vmem, 21, rfl⟩
abbrev cc4_scratch0 : Ref sig .scVector := ⟨.vmem, 22, rfl⟩
abbrev cc4_scratch1 : Ref sig .scVector := ⟨.vmem, 23, rfl⟩
abbrev cc4_scratch2 : Ref sig .scVector := ⟨.vmem, 24, rfl⟩
abbrev cc5_scratch0 : Ref sig .scVector := ⟨.vmem, 25, rfl⟩
abbrev cc5_scratch1 : Ref sig .scVector := ⟨.vmem, 26, rfl⟩
abbrev cc5_scratch2 : Ref sig .scVector := ⟨.vmem, 27, rfl⟩
abbrev cc5_scratch3 : Ref sig .scVector := ⟨.vmem, 28, rfl⟩
abbrev cc5_scratch4 : Ref sig .scVector := ⟨.vmem, 29, rfl⟩
abbrev cc5_scratch5 : Ref sig .scVector := ⟨.vmem, 30, rfl⟩
abbrev cc5_scratch6 : Ref sig .scVector := ⟨.vmem, 31, rfl⟩
abbrev cc5_scratch7 : Ref sig .scVector := ⟨.vmem, 32, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2048_i32 : BitVec 32 := 2048#32
  let v5 : BitVec 32 := Scalar.addi c0_i32_1 c2048_i32
  let c1_i32_2 : BitVec 32 := 1#32
  ⟨c0_i32_1, v5, c1_i32_2⟩
def k0_off1 (k0_t1 : Fin k0_t1_loop.trips) : Fin 1 → Nat :=
  let c0_i32_1 : BitVec 32 := 0#32
  let c1_i32_2 : BitVec 32 := 1#32
  let arg9 : BitVec 32 := Scf.iv c0_i32_1 c1_i32_2 k0_t1
  let c16_i32_12 : BitVec 32 := 16#32
  let v12 : BitVec 32 := Scalar.muli arg9 c16_i32_12
  let v13 : Index := Scalar.indexCast v12
  ![v13.toNat]
@[reducible] def k0_t2_loop : Scf.Loop 32 :=
  let c0_i32_5 : BitVec 32 := 0#32
  let c250_i32 : BitVec 32 := 250#32
  let v8 : BitVec 32 := Scalar.addi c0_i32_5 c250_i32
  let c1_i32_6 : BitVec 32 := 1#32
  ⟨c0_i32_5, v8, c1_i32_6⟩
def k0_off2 (i : grid0.Coords) (k0_t2 : Fin k0_t2_loop.trips) (c0_i32_12 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v7 : BitVec 32 := Scalar.muli v1 c640000_i32
  let v12 : BitVec 32 := Scalar.addi v7 c0_i32_12
  let c0_i32_5 : BitVec 32 := 0#32
  let c1_i32_6 : BitVec 32 := 1#32
  let arg9 : BitVec 32 := Scf.iv c0_i32_5 c1_i32_6 k0_t2
  let c160_i32 : BitVec 32 := 160#32
  let v13 : BitVec 32 := Scalar.muli arg9 c160_i32
  let v14 : BitVec 32 := Scalar.addi v12 v13
  ![v14.toNat]
@[reducible] def k0_t3_loop : Scf.Loop 32 :=
  let c0_i32_79 : BitVec 32 := 0#32
  let c160_i32_80 : BitVec 32 := 160#32
  let v188 : BitVec 32 := Scalar.addi c0_i32_79 c160_i32_80
  let c1_i32_81 : BitVec 32 := 1#32
  ⟨c0_i32_79, v188, c1_i32_81⟩

def k0_chk1 (v193 : IVec S16 32) : Prop :=
  (∀ a x, ((![v193] : Fin 1 → IVec S16 32) a x).toNat < S2560.size a)
theorem k0_idx1_inb : ∀ (v193 : IVec S16 32) (k0_hw1 : k0_chk1 v193), ∀ a x, ((![v193] : Fin 1 → IVec S16 32) a x).toNat < S2560.size a := fun v193 k0_hw1 => k0_hw1

def k0_chk2 (v201 : IVec S16 32) : Prop :=
  (∀ a x, ((![v201] : Fin 1 → IVec S16 32) a x).toNat < S32768.size a)
theorem k0_idx2_inb : ∀ (v201 : IVec S16 32) (k0_hw2 : k0_chk2 v201), ∀ a x, ((![v201] : Fin 1 → IVec S16 32) a x).toNat < S32768.size a := fun v201 k0_hw2 => k0_hw2
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r0 : BitVec 32 := 0#32
  ![v1.toNat, 0]
@[reducible] def k0_t4_loop : Scf.Loop 32 :=
  let c0_i32_9 : BitVec 32 := 0#32
  let c128_i32 : BitVec 32 := 128#32
  let v10 : BitVec 32 := Scalar.addi c0_i32_9 c128_i32
  let c1_i32_10 : BitVec 32 := 1#32
  ⟨c0_i32_9, v10, c1_i32_10⟩
@[reducible] def k0_t5_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k0_off4 (k0_t4 : Fin k0_t4_loop.trips) (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c2048_i32_18 : BitVec 32 := 2048#32
  let v17 : BitVec 32 := Scalar.muli arg11 c2048_i32_18
  let c0_i32_9 : BitVec 32 := 0#32
  let c1_i32_10 : BitVec 32 := 1#32
  let arg9 : BitVec 32 := Scf.iv c0_i32_9 c1_i32_10 k0_t4
  let c16_i32_19 : BitVec 32 := 16#32
  let v18 : BitVec 32 := Scalar.muli arg9 c16_i32_19
  let v19 : BitVec 32 := Scalar.addi v17 v18
  let v20 : Index := Scalar.indexCast v19
  ![v20.toNat]
def k0_off5 (k0_t4 : Fin k0_t4_loop.trips) : Fin 1 → Nat :=
  let c0_i32_9 : BitVec 32 := 0#32
  let c1_i32_10 : BitVec 32 := 1#32
  let arg9 : BitVec 32 := Scf.iv c0_i32_9 c1_i32_10 k0_t4
  let c16_i32_16 : BitVec 32 := 16#32
  let v14 : BitVec 32 := Scalar.muli arg9 c16_i32_16
  let v15 : Index := Scalar.indexCast v14
  ![v15.toNat]
def k0_off6 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r1 : BitVec 32 := 0#32
  ![v1.toNat, 0]
abbrev grid1 : Pipeline.Grid := ⟨2, ![2, 16], ![false, false]⟩

@[reducible] def k1_t1_loop : Scf.Loop 32 :=
  let c0_i32_1 : BitVec 32 := 0#32
  let c128_i32 : BitVec 32 := 128#32
  let v5 : BitVec 32 := Scalar.addi c0_i32_1 c128_i32
  let c1_i32_2 : BitVec 32 := 1#32
  ⟨c0_i32_1, v5, c1_i32_2⟩
def k1_off1 (k1_t1 : Fin k1_t1_loop.trips) : Fin 1 → Nat :=
  let c0_i32_1 : BitVec 32 := 0#32
  let c1_i32_2 : BitVec 32 := 1#32
  let arg17 : BitVec 32 := Scf.iv c0_i32_1 c1_i32_2 k1_t1
  let c16_i32_22 : BitVec 32 := 16#32
  let v16 : BitVec 32 := Scalar.muli arg17 c16_i32_22
  let v17 : Index := Scalar.indexCast v16
  ![v17.toNat]
@[reducible] def k1_t2_loop : Scf.Loop 32 :=
  let c0_i32_5 : BitVec 32 := 0#32
  let c32_i32 : BitVec 32 := 32#32
  let v7 : BitVec 32 := Scalar.addi c0_i32_5 c32_i32
  let c1_i32_6 : BitVec 32 := 1#32
  ⟨c0_i32_5, v7, c1_i32_6⟩
def k1_off2 (k1_t2 : Fin k1_t2_loop.trips) : Fin 2 → Nat :=
  let c0_i32_5 : BitVec 32 := 0#32
  let c1_i32_6 : BitVec 32 := 1#32
  let arg17 : BitVec 32 := Scf.iv c0_i32_5 c1_i32_6 k1_t2
  let c0_i32_28_r0 : BitVec 32 := 0#32
  ![arg17.toNat, 0]
@[reducible] def k1_t3_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k1_off3 (k1_t3 : Fin k1_t3_loop.trips) : Fin 1 → Nat :=
  let c0_i32_23 : BitVec 32 := 0#32
  let c1_i32_25 : BitVec 32 := 1#32
  let arg19 : BitVec 32 := Scf.iv c0_i32_23 c1_i32_25 k1_t3
  let c16_i32_28 : BitVec 32 := 16#32
  let v18 : BitVec 32 := Scalar.muli arg19 c16_i32_28
  let v19 : Index := Scalar.indexCast v18
  ![v19.toNat]
@[reducible] def k1_t4_loop : Scf.Loop 32 :=
  let c0_i32_9 : BitVec 32 := 0#32
  let c128_i32_10 : BitVec 32 := 128#32
  let v9 : BitVec 32 := Scalar.addi c0_i32_9 c128_i32_10
  let c1_i32_11 : BitVec 32 := 1#32
  ⟨c0_i32_9, v9, c1_i32_11⟩
def k1_off4 (k1_t4 : Fin k1_t4_loop.trips) : Fin 1 → Nat :=
  let c0_i32_9 : BitVec 32 := 0#32
  let c1_i32_11 : BitVec 32 := 1#32
  let arg17 : BitVec 32 := Scf.iv c0_i32_9 c1_i32_11 k1_t4
  let c16_i32_22 : BitVec 32 := 16#32
  let v16 : BitVec 32 := Scalar.muli arg17 c16_i32_22
  let v17 : Index := Scalar.indexCast v16
  ![v17.toNat]
def k1_off5 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_22_r1 : BitVec 32 := 0#32
  ![v1.toNat, 0]
@[reducible] def k1_t5_loop : Scf.Loop 32 :=
  let c0_i32_14 : BitVec 32 := 0#32
  let c16_i32_15 : BitVec 32 := 16#32
  let v11 : BitVec 32 := Scalar.addi c0_i32_14 c16_i32_15
  let c1_i32_16 : BitVec 32 := 1#32
  ⟨c0_i32_14, v11, c1_i32_16⟩
@[reducible] def k1_t6_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k1_off6 (k1_t6 : Fin k1_t6_loop.trips) : Fin 1 → Nat :=
  let c0_i32_23 : BitVec 32 := 0#32
  let c1_i32_25 : BitVec 32 := 1#32
  let arg19 : BitVec 32 := Scf.iv c0_i32_23 c1_i32_25 k1_t6
  let c16_i32_28 : BitVec 32 := 16#32
  let v18 : BitVec 32 := Scalar.muli arg19 c16_i32_28
  let v19 : Index := Scalar.indexCast v18
  ![v19.toNat]
def k1_off7 (k1_t5 : Fin k1_t5_loop.trips) (k1_t6 : Fin k1_t6_loop.trips) : Fin 1 → Nat :=
  let c0_i32_14 : BitVec 32 := 0#32
  let c1_i32_16 : BitVec 32 := 1#32
  let arg17 : BitVec 32 := Scf.iv c0_i32_14 c1_i32_16 k1_t5
  let c2048_i32 : BitVec 32 := 2048#32
  let v21 : BitVec 32 := Scalar.muli arg17 c2048_i32
  let c0_i32_23 : BitVec 32 := 0#32
  let c1_i32_25 : BitVec 32 := 1#32
  let arg19 : BitVec 32 := Scf.iv c0_i32_23 c1_i32_25 k1_t6
  let c16_i32_29 : BitVec 32 := 16#32
  let v22 : BitVec 32 := Scalar.muli arg19 c16_i32_29
  let v23 : BitVec 32 := Scalar.addi v21 v22
  let v24 : Index := Scalar.indexCast v23
  ![v24.toNat]
@[reducible] def k1_t7_loop : Scf.Loop 32 :=
  let c0_i32_19 : BitVec 32 := 0#32
  let c250_i32 : BitVec 32 := 250#32
  let v14 : BitVec 32 := Scalar.addi c0_i32_19 c250_i32
  let c1_i32_20 : BitVec 32 := 1#32
  ⟨c0_i32_19, v14, c1_i32_20⟩
def k1_off8 (i : grid1.Coords) (k1_t7 : Fin k1_t7_loop.trips) (c0_i32_22 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v13 : BitVec 32 := Scalar.muli v1 c640000_i32
  let v16 : BitVec 32 := Scalar.addi v13 c0_i32_22
  let c0_i32_19 : BitVec 32 := 0#32
  let c1_i32_20 : BitVec 32 := 1#32
  let arg17 : BitVec 32 := Scf.iv c0_i32_19 c1_i32_20 k1_t7
  let c160_i32 : BitVec 32 := 160#32
  let v17 : BitVec 32 := Scalar.muli arg17 c160_i32
  let v18 : BitVec 32 := Scalar.addi v16 v17
  ![v18.toNat]
@[reducible] def k1_t8_loop : Scf.Loop 32 :=
  let c0_i32_89 : BitVec 32 := 0#32
  let c160_i32_90 : BitVec 32 := 160#32
  let v192 : BitVec 32 := Scalar.addi c0_i32_89 c160_i32_90
  let c1_i32_91 : BitVec 32 := 1#32
  ⟨c0_i32_89, v192, c1_i32_91⟩

def k1_chk2 (v209 : IVec S16 32) : Prop :=
  (∀ a x, ((![v209] : Fin 1 → IVec S16 32) a x).toNat < S32768.size a) ∧
  (∀ a x, ((![v209] : Fin 1 → IVec S16 32) a x).toNat < S32768.size a)
theorem k1_idx2_inb : ∀ (v209 : IVec S16 32) (k1_hw2 : k1_chk2 v209), ∀ a x, ((![v209] : Fin 1 → IVec S16 32) a x).toNat < S32768.size a := fun v209 k1_hw2 => k1_hw2.1
theorem k1_idx3_inb : ∀ (v209 : IVec S16 32) (k1_hw2 : k1_chk2 v209), ∀ a x, ((![v209] : Fin 1 → IVec S16 32) a x).toNat < S32768.size a := fun v209 k1_hw2 => k1_hw2.2

def k1_chk1 (v201 : IVec S16 32) : Prop :=
  (∀ a x, ((![v201] : Fin 1 → IVec S16 32) a x).toNat < S2560.size a) ∧
  (∀ a x, ((![v201] : Fin 1 → IVec S16 32) a x).toNat < S2560.size a) ∧
  (∀ a x, ((![v201] : Fin 1 → IVec S16 32) a x).toNat < S2560.size a)
theorem k1_idx1_inb : ∀ (v201 : IVec S16 32) (k1_hw1 : k1_chk1 v201), ∀ a x, ((![v201] : Fin 1 → IVec S16 32) a x).toNat < S2560.size a := fun v201 k1_hw1 => k1_hw1.1
theorem k1_idx4_inb : ∀ (v201 : IVec S16 32) (k1_hw1 : k1_chk1 v201), ∀ a x, ((![v201] : Fin 1 → IVec S16 32) a x).toNat < S2560.size a := fun v201 k1_hw1 => k1_hw1.2.1
theorem k1_idx5_inb : ∀ (v201 : IVec S16 32) (k1_hw1 : k1_chk1 v201), ∀ a x, ((![v201] : Fin 1 → IVec S16 32) a x).toNat < S2560.size a := fun v201 k1_hw1 => k1_hw1.2.2
abbrev grid2 : Pipeline.Grid := ⟨2, ![2, 16], ![false, false]⟩

@[reducible] def k2_t1_loop : Scf.Loop 32 :=
  let c0_i32_1 : BitVec 32 := 0#32
  let c2048_i32 : BitVec 32 := 2048#32
  let v5 : BitVec 32 := Scalar.addi c0_i32_1 c2048_i32
  let c1_i32_2 : BitVec 32 := 1#32
  ⟨c0_i32_1, v5, c1_i32_2⟩
def k2_off1 (k2_t1 : Fin k2_t1_loop.trips) : Fin 1 → Nat :=
  let c0_i32_1 : BitVec 32 := 0#32
  let c1_i32_2 : BitVec 32 := 1#32
  let arg9 : BitVec 32 := Scf.iv c0_i32_1 c1_i32_2 k2_t1
  let c16_i32_12 : BitVec 32 := 16#32
  let v12 : BitVec 32 := Scalar.muli arg9 c16_i32_12
  let v13 : Index := Scalar.indexCast v12
  ![v13.toNat]
@[reducible] def k2_t2_loop : Scf.Loop 32 :=
  let c0_i32_5 : BitVec 32 := 0#32
  let c250_i32 : BitVec 32 := 250#32
  let v8 : BitVec 32 := Scalar.addi c0_i32_5 c250_i32
  let c1_i32_6 : BitVec 32 := 1#32
  ⟨c0_i32_5, v8, c1_i32_6⟩
def k2_off2 (i : grid2.Coords) (k2_t2 : Fin k2_t2_loop.trips) (c0_i32_12 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v7 : BitVec 32 := Scalar.muli v1 c640000_i32
  let v12 : BitVec 32 := Scalar.addi v7 c0_i32_12
  let c0_i32_5 : BitVec 32 := 0#32
  let c1_i32_6 : BitVec 32 := 1#32
  let arg9 : BitVec 32 := Scf.iv c0_i32_5 c1_i32_6 k2_t2
  let c160_i32 : BitVec 32 := 160#32
  let v13 : BitVec 32 := Scalar.muli arg9 c160_i32
  let v14 : BitVec 32 := Scalar.addi v12 v13
  ![v14.toNat]
@[reducible] def k2_t3_loop : Scf.Loop 32 :=
  let c0_i32_79 : BitVec 32 := 0#32
  let c160_i32_80 : BitVec 32 := 160#32
  let v188 : BitVec 32 := Scalar.addi c0_i32_79 c160_i32_80
  let c1_i32_81 : BitVec 32 := 1#32
  ⟨c0_i32_79, v188, c1_i32_81⟩

def k2_chk1 (v193 : IVec S16 32) : Prop :=
  (∀ a x, ((![v193] : Fin 1 → IVec S16 32) a x).toNat < S2560.size a)
theorem k2_idx1_inb : ∀ (v193 : IVec S16 32) (k2_hw1 : k2_chk1 v193), ∀ a x, ((![v193] : Fin 1 → IVec S16 32) a x).toNat < S2560.size a := fun v193 k2_hw1 => k2_hw1

def k2_chk2 (v201 : IVec S16 32) : Prop :=
  (∀ a x, ((![v201] : Fin 1 → IVec S16 32) a x).toNat < S32768.size a)
theorem k2_idx2_inb : ∀ (v201 : IVec S16 32) (k2_hw2 : k2_chk2 v201), ∀ a x, ((![v201] : Fin 1 → IVec S16 32) a x).toNat < S32768.size a := fun v201 k2_hw2 => k2_hw2
def k2_off3 (i : grid2.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r0 : BitVec 32 := 0#32
  ![v1.toNat, 0]
@[reducible] def k2_t4_loop : Scf.Loop 32 :=
  let c0_i32_9 : BitVec 32 := 0#32
  let c128_i32 : BitVec 32 := 128#32
  let v10 : BitVec 32 := Scalar.addi c0_i32_9 c128_i32
  let c1_i32_10 : BitVec 32 := 1#32
  ⟨c0_i32_9, v10, c1_i32_10⟩
@[reducible] def k2_t5_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k2_off4 (k2_t4 : Fin k2_t4_loop.trips) (k2_t5 : Fin k2_t5_loop.trips) : Fin 1 → Nat :=
  let c0_i32_12 : BitVec 32 := 0#32
  let c1_i32_14 : BitVec 32 := 1#32
  let arg11 : BitVec 32 := Scf.iv c0_i32_12 c1_i32_14 k2_t5
  let c2048_i32_18 : BitVec 32 := 2048#32
  let v17 : BitVec 32 := Scalar.muli arg11 c2048_i32_18
  let c0_i32_9 : BitVec 32 := 0#32
  let c1_i32_10 : BitVec 32 := 1#32
  let arg9 : BitVec 32 := Scf.iv c0_i32_9 c1_i32_10 k2_t4
  let c16_i32_19 : BitVec 32 := 16#32
  let v18 : BitVec 32 := Scalar.muli arg9 c16_i32_19
  let v19 : BitVec 32 := Scalar.addi v17 v18
  let v20 : Index := Scalar.indexCast v19
  ![v20.toNat]
def k2_off5 (k2_t4 : Fin k2_t4_loop.trips) : Fin 1 → Nat :=
  let c0_i32_9 : BitVec 32 := 0#32
  let c1_i32_10 : BitVec 32 := 1#32
  let arg9 : BitVec 32 := Scf.iv c0_i32_9 c1_i32_10 k2_t4
  let c16_i32_16 : BitVec 32 := 16#32
  let v14 : BitVec 32 := Scalar.muli arg9 c16_i32_16
  let v15 : Index := Scalar.indexCast v14
  ![v15.toNat]
def k2_off6 (i : grid2.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r1 : BitVec 32 := 0#32
  ![v1.toNat, 0]
abbrev grid3 : Pipeline.Grid := ⟨2, ![2, 16], ![false, false]⟩

@[reducible] def k3_t1_loop : Scf.Loop 32 :=
  let c0_i32_1 : BitVec 32 := 0#32
  let c128_i32 : BitVec 32 := 128#32
  let v5 : BitVec 32 := Scalar.addi c0_i32_1 c128_i32
  let c1_i32_2 : BitVec 32 := 1#32
  ⟨c0_i32_1, v5, c1_i32_2⟩
def k3_off1 (k3_t1 : Fin k3_t1_loop.trips) : Fin 1 → Nat :=
  let c0_i32_1 : BitVec 32 := 0#32
  let c1_i32_2 : BitVec 32 := 1#32
  let arg18 : BitVec 32 := Scf.iv c0_i32_1 c1_i32_2 k3_t1
  let c16_i32_22 : BitVec 32 := 16#32
  let v16 : BitVec 32 := Scalar.muli arg18 c16_i32_22
  let v17 : Index := Scalar.indexCast v16
  ![v17.toNat]
@[reducible] def k3_t2_loop : Scf.Loop 32 :=
  let c0_i32_5 : BitVec 32 := 0#32
  let c32_i32 : BitVec 32 := 32#32
  let v7 : BitVec 32 := Scalar.addi c0_i32_5 c32_i32
  let c1_i32_6 : BitVec 32 := 1#32
  ⟨c0_i32_5, v7, c1_i32_6⟩
def k3_off2 (k3_t2 : Fin k3_t2_loop.trips) : Fin 2 → Nat :=
  let c0_i32_5 : BitVec 32 := 0#32
  let c1_i32_6 : BitVec 32 := 1#32
  let arg18 : BitVec 32 := Scf.iv c0_i32_5 c1_i32_6 k3_t2
  let c0_i32_28_r0 : BitVec 32 := 0#32
  ![arg18.toNat, 0]
@[reducible] def k3_t3_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k3_off3 (k3_t3 : Fin k3_t3_loop.trips) : Fin 1 → Nat :=
  let c0_i32_23 : BitVec 32 := 0#32
  let c1_i32_25 : BitVec 32 := 1#32
  let arg20 : BitVec 32 := Scf.iv c0_i32_23 c1_i32_25 k3_t3
  let c16_i32_28 : BitVec 32 := 16#32
  let v18 : BitVec 32 := Scalar.muli arg20 c16_i32_28
  let v19 : Index := Scalar.indexCast v18
  ![v19.toNat]
@[reducible] def k3_t4_loop : Scf.Loop 32 :=
  let c0_i32_9 : BitVec 32 := 0#32
  let c128_i32_10 : BitVec 32 := 128#32
  let v9 : BitVec 32 := Scalar.addi c0_i32_9 c128_i32_10
  let c1_i32_11 : BitVec 32 := 1#32
  ⟨c0_i32_9, v9, c1_i32_11⟩
def k3_off4 (k3_t4 : Fin k3_t4_loop.trips) : Fin 1 → Nat :=
  let c0_i32_9 : BitVec 32 := 0#32
  let c1_i32_11 : BitVec 32 := 1#32
  let arg18 : BitVec 32 := Scf.iv c0_i32_9 c1_i32_11 k3_t4
  let c16_i32_22 : BitVec 32 := 16#32
  let v16 : BitVec 32 := Scalar.muli arg18 c16_i32_22
  let v17 : Index := Scalar.indexCast v16
  ![v17.toNat]
def k3_off5 (i : grid3.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_22_r1 : BitVec 32 := 0#32
  ![v1.toNat, 0]
@[reducible] def k3_t5_loop : Scf.Loop 32 :=
  let c0_i32_14 : BitVec 32 := 0#32
  let c16_i32_15 : BitVec 32 := 16#32
  let v11 : BitVec 32 := Scalar.addi c0_i32_14 c16_i32_15
  let c1_i32_16 : BitVec 32 := 1#32
  ⟨c0_i32_14, v11, c1_i32_16⟩
@[reducible] def k3_t6_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k3_off6 (k3_t6 : Fin k3_t6_loop.trips) : Fin 1 → Nat :=
  let c0_i32_23 : BitVec 32 := 0#32
  let c1_i32_25 : BitVec 32 := 1#32
  let arg20 : BitVec 32 := Scf.iv c0_i32_23 c1_i32_25 k3_t6
  let c16_i32_28 : BitVec 32 := 16#32
  let v18 : BitVec 32 := Scalar.muli arg20 c16_i32_28
  let v19 : Index := Scalar.indexCast v18
  ![v19.toNat]
def k3_off7 (k3_t5 : Fin k3_t5_loop.trips) (k3_t6 : Fin k3_t6_loop.trips) : Fin 1 → Nat :=
  let c0_i32_14 : BitVec 32 := 0#32
  let c1_i32_16 : BitVec 32 := 1#32
  let arg18 : BitVec 32 := Scf.iv c0_i32_14 c1_i32_16 k3_t5
  let c2048_i32 : BitVec 32 := 2048#32
  let v21 : BitVec 32 := Scalar.muli arg18 c2048_i32
  let c0_i32_23 : BitVec 32 := 0#32
  let c1_i32_25 : BitVec 32 := 1#32
  let arg20 : BitVec 32 := Scf.iv c0_i32_23 c1_i32_25 k3_t6
  let c16_i32_29 : BitVec 32 := 16#32
  let v22 : BitVec 32 := Scalar.muli arg20 c16_i32_29
  let v23 : BitVec 32 := Scalar.addi v21 v22
  let v24 : Index := Scalar.indexCast v23
  ![v24.toNat]
@[reducible] def k3_t7_loop : Scf.Loop 32 :=
  let c0_i32_19 : BitVec 32 := 0#32
  let c250_i32 : BitVec 32 := 250#32
  let v14 : BitVec 32 := Scalar.addi c0_i32_19 c250_i32
  let c1_i32_20 : BitVec 32 := 1#32
  ⟨c0_i32_19, v14, c1_i32_20⟩
def k3_off8 (i : grid3.Coords) (k3_t7 : Fin k3_t7_loop.trips) (c0_i32_22 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v13 : BitVec 32 := Scalar.muli v1 c640000_i32
  let v16 : BitVec 32 := Scalar.addi v13 c0_i32_22
  let c0_i32_19 : BitVec 32 := 0#32
  let c1_i32_20 : BitVec 32 := 1#32
  let arg18 : BitVec 32 := Scf.iv c0_i32_19 c1_i32_20 k3_t7
  let c160_i32 : BitVec 32 := 160#32
  let v17 : BitVec 32 := Scalar.muli arg18 c160_i32
  let v18 : BitVec 32 := Scalar.addi v16 v17
  ![v18.toNat]
@[reducible] def k3_t8_loop : Scf.Loop 32 :=
  let c0_i32_185 : BitVec 32 := 0#32
  let c160_i32_186 : BitVec 32 := 160#32
  let v368 : BitVec 32 := Scalar.addi c0_i32_185 c160_i32_186
  let c1_i32_187 : BitVec 32 := 1#32
  ⟨c0_i32_185, v368, c1_i32_187⟩

def k3_chk2 (v385 : IVec S16 32) : Prop :=
  (∀ a x, ((![v385] : Fin 1 → IVec S16 32) a x).toNat < S32768.size a) ∧
  (∀ a x, ((![v385] : Fin 1 → IVec S16 32) a x).toNat < S32768.size a)
theorem k3_idx2_inb : ∀ (v385 : IVec S16 32) (k3_hw2 : k3_chk2 v385), ∀ a x, ((![v385] : Fin 1 → IVec S16 32) a x).toNat < S32768.size a := fun v385 k3_hw2 => k3_hw2.1
theorem k3_idx3_inb : ∀ (v385 : IVec S16 32) (k3_hw2 : k3_chk2 v385), ∀ a x, ((![v385] : Fin 1 → IVec S16 32) a x).toNat < S32768.size a := fun v385 k3_hw2 => k3_hw2.2

def k3_chk1 (v377 : IVec S16 32) : Prop :=
  (∀ a x, ((![v377] : Fin 1 → IVec S16 32) a x).toNat < S2560.size a) ∧
  (∀ a x, ((![v377] : Fin 1 → IVec S16 32) a x).toNat < S2560.size a)
theorem k3_idx1_inb : ∀ (v377 : IVec S16 32) (k3_hw1 : k3_chk1 v377), ∀ a x, ((![v377] : Fin 1 → IVec S16 32) a x).toNat < S2560.size a := fun v377 k3_hw1 => k3_hw1.1
theorem k3_idx4_inb : ∀ (v377 : IVec S16 32) (k3_hw1 : k3_chk1 v377), ∀ a x, ((![v377] : Fin 1 → IVec S16 32) a x).toNat < S2560.size a := fun v377 k3_hw1 => k3_hw1.2
abbrev grid4 : Pipeline.Grid := ⟨2, ![2, 16], ![false, false]⟩

@[reducible] def k4_t1_loop : Scf.Loop 32 :=
  let c0_i32_1 : BitVec 32 := 0#32
  let c2048_i32 : BitVec 32 := 2048#32
  let v5 : BitVec 32 := Scalar.addi c0_i32_1 c2048_i32
  let c1_i32_2 : BitVec 32 := 1#32
  ⟨c0_i32_1, v5, c1_i32_2⟩
def k4_off1 (k4_t1 : Fin k4_t1_loop.trips) : Fin 1 → Nat :=
  let c0_i32_1 : BitVec 32 := 0#32
  let c1_i32_2 : BitVec 32 := 1#32
  let arg9 : BitVec 32 := Scf.iv c0_i32_1 c1_i32_2 k4_t1
  let c16_i32_12 : BitVec 32 := 16#32
  let v12 : BitVec 32 := Scalar.muli arg9 c16_i32_12
  let v13 : Index := Scalar.indexCast v12
  ![v13.toNat]
@[reducible] def k4_t2_loop : Scf.Loop 32 :=
  let c0_i32_5 : BitVec 32 := 0#32
  let c250_i32 : BitVec 32 := 250#32
  let v8 : BitVec 32 := Scalar.addi c0_i32_5 c250_i32
  let c1_i32_6 : BitVec 32 := 1#32
  ⟨c0_i32_5, v8, c1_i32_6⟩
def k4_off2 (i : grid4.Coords) (k4_t2 : Fin k4_t2_loop.trips) (c0_i32_12 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v7 : BitVec 32 := Scalar.muli v1 c640000_i32
  let v12 : BitVec 32 := Scalar.addi v7 c0_i32_12
  let c0_i32_5 : BitVec 32 := 0#32
  let c1_i32_6 : BitVec 32 := 1#32
  let arg9 : BitVec 32 := Scf.iv c0_i32_5 c1_i32_6 k4_t2
  let c160_i32 : BitVec 32 := 160#32
  let v13 : BitVec 32 := Scalar.muli arg9 c160_i32
  let v14 : BitVec 32 := Scalar.addi v12 v13
  ![v14.toNat]
@[reducible] def k4_t3_loop : Scf.Loop 32 :=
  let c0_i32_79 : BitVec 32 := 0#32
  let c160_i32_80 : BitVec 32 := 160#32
  let v188 : BitVec 32 := Scalar.addi c0_i32_79 c160_i32_80
  let c1_i32_81 : BitVec 32 := 1#32
  ⟨c0_i32_79, v188, c1_i32_81⟩

def k4_chk1 (v193 : IVec S16 32) : Prop :=
  (∀ a x, ((![v193] : Fin 1 → IVec S16 32) a x).toNat < S2560.size a)
theorem k4_idx1_inb : ∀ (v193 : IVec S16 32) (k4_hw1 : k4_chk1 v193), ∀ a x, ((![v193] : Fin 1 → IVec S16 32) a x).toNat < S2560.size a := fun v193 k4_hw1 => k4_hw1

def k4_chk2 (v201 : IVec S16 32) : Prop :=
  (∀ a x, ((![v201] : Fin 1 → IVec S16 32) a x).toNat < S32768.size a)
theorem k4_idx2_inb : ∀ (v201 : IVec S16 32) (k4_hw2 : k4_chk2 v201), ∀ a x, ((![v201] : Fin 1 → IVec S16 32) a x).toNat < S32768.size a := fun v201 k4_hw2 => k4_hw2
def k4_off3 (i : grid4.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r0 : BitVec 32 := 0#32
  ![v1.toNat, 0]
@[reducible] def k4_t4_loop : Scf.Loop 32 :=
  let c0_i32_9 : BitVec 32 := 0#32
  let c128_i32 : BitVec 32 := 128#32
  let v10 : BitVec 32 := Scalar.addi c0_i32_9 c128_i32
  let c1_i32_10 : BitVec 32 := 1#32
  ⟨c0_i32_9, v10, c1_i32_10⟩
@[reducible] def k4_t5_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k4_off4 (k4_t4 : Fin k4_t4_loop.trips) (k4_t5 : Fin k4_t5_loop.trips) : Fin 1 → Nat :=
  let c0_i32_12 : BitVec 32 := 0#32
  let c1_i32_14 : BitVec 32 := 1#32
  let arg11 : BitVec 32 := Scf.iv c0_i32_12 c1_i32_14 k4_t5
  let c2048_i32_18 : BitVec 32 := 2048#32
  let v17 : BitVec 32 := Scalar.muli arg11 c2048_i32_18
  let c0_i32_9 : BitVec 32 := 0#32
  let c1_i32_10 : BitVec 32 := 1#32
  let arg9 : BitVec 32 := Scf.iv c0_i32_9 c1_i32_10 k4_t4
  let c16_i32_19 : BitVec 32 := 16#32
  let v18 : BitVec 32 := Scalar.muli arg9 c16_i32_19
  let v19 : BitVec 32 := Scalar.addi v17 v18
  let v20 : Index := Scalar.indexCast v19
  ![v20.toNat]
def k4_off5 (k4_t4 : Fin k4_t4_loop.trips) : Fin 1 → Nat :=
  let c0_i32_9 : BitVec 32 := 0#32
  let c1_i32_10 : BitVec 32 := 1#32
  let arg9 : BitVec 32 := Scf.iv c0_i32_9 c1_i32_10 k4_t4
  let c16_i32_16 : BitVec 32 := 16#32
  let v14 : BitVec 32 := Scalar.muli arg9 c16_i32_16
  let v15 : Index := Scalar.indexCast v14
  ![v15.toNat]
def k4_off6 (i : grid4.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r1 : BitVec 32 := 0#32
  ![v1.toNat, 0]
abbrev grid5 : Pipeline.Grid := ⟨2, ![2, 16], ![false, false]⟩

@[reducible] def k5_t1_loop : Scf.Loop 32 :=
  let c0_i32_1 : BitVec 32 := 0#32
  let c128_i32 : BitVec 32 := 128#32
  let v5 : BitVec 32 := Scalar.addi c0_i32_1 c128_i32
  let c1_i32_2 : BitVec 32 := 1#32
  ⟨c0_i32_1, v5, c1_i32_2⟩
def k5_off1 (k5_t1 : Fin k5_t1_loop.trips) : Fin 1 → Nat :=
  let c0_i32_1 : BitVec 32 := 0#32
  let c1_i32_2 : BitVec 32 := 1#32
  let arg17 : BitVec 32 := Scf.iv c0_i32_1 c1_i32_2 k5_t1
  let c16_i32_22 : BitVec 32 := 16#32
  let v16 : BitVec 32 := Scalar.muli arg17 c16_i32_22
  let v17 : Index := Scalar.indexCast v16
  ![v17.toNat]
@[reducible] def k5_t2_loop : Scf.Loop 32 :=
  let c0_i32_5 : BitVec 32 := 0#32
  let c32_i32 : BitVec 32 := 32#32
  let v7 : BitVec 32 := Scalar.addi c0_i32_5 c32_i32
  let c1_i32_6 : BitVec 32 := 1#32
  ⟨c0_i32_5, v7, c1_i32_6⟩
def k5_off2 (k5_t2 : Fin k5_t2_loop.trips) : Fin 2 → Nat :=
  let c0_i32_5 : BitVec 32 := 0#32
  let c1_i32_6 : BitVec 32 := 1#32
  let arg17 : BitVec 32 := Scf.iv c0_i32_5 c1_i32_6 k5_t2
  let c0_i32_28_r0 : BitVec 32 := 0#32
  ![arg17.toNat, 0]
@[reducible] def k5_t3_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k5_off3 (k5_t3 : Fin k5_t3_loop.trips) : Fin 1 → Nat :=
  let c0_i32_23 : BitVec 32 := 0#32
  let c1_i32_25 : BitVec 32 := 1#32
  let arg19 : BitVec 32 := Scf.iv c0_i32_23 c1_i32_25 k5_t3
  let c16_i32_28 : BitVec 32 := 16#32
  let v18 : BitVec 32 := Scalar.muli arg19 c16_i32_28
  let v19 : Index := Scalar.indexCast v18
  ![v19.toNat]
@[reducible] def k5_t4_loop : Scf.Loop 32 :=
  let c0_i32_9 : BitVec 32 := 0#32
  let c128_i32_10 : BitVec 32 := 128#32
  let v9 : BitVec 32 := Scalar.addi c0_i32_9 c128_i32_10
  let c1_i32_11 : BitVec 32 := 1#32
  ⟨c0_i32_9, v9, c1_i32_11⟩
def k5_off4 (k5_t4 : Fin k5_t4_loop.trips) : Fin 1 → Nat :=
  let c0_i32_9 : BitVec 32 := 0#32
  let c1_i32_11 : BitVec 32 := 1#32
  let arg17 : BitVec 32 := Scf.iv c0_i32_9 c1_i32_11 k5_t4
  let c16_i32_22 : BitVec 32 := 16#32
  let v16 : BitVec 32 := Scalar.muli arg17 c16_i32_22
  let v17 : Index := Scalar.indexCast v16
  ![v17.toNat]
def k5_off5 (i : grid5.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_22_r1 : BitVec 32 := 0#32
  ![v1.toNat, 0]
@[reducible] def k5_t5_loop : Scf.Loop 32 :=
  let c0_i32_14 : BitVec 32 := 0#32
  let c16_i32_15 : BitVec 32 := 16#32
  let v11 : BitVec 32 := Scalar.addi c0_i32_14 c16_i32_15
  let c1_i32_16 : BitVec 32 := 1#32
  ⟨c0_i32_14, v11, c1_i32_16⟩
@[reducible] def k5_t6_loop : Scf.Loop 32 :=
  let c0_i32_23 : BitVec 32 := 0#32
  let c128_i32_24 : BitVec 32 := 128#32
  let v16 : BitVec 32 := Scalar.addi c0_i32_23 c128_i32_24
  let c1_i32_25 : BitVec 32 := 1#32
  ⟨c0_i32_23, v16, c1_i32_25⟩
def k5_off6 (k5_t6 : Fin k5_t6_loop.trips) : Fin 1 → Nat :=
  let c0_i32_23 : BitVec 32 := 0#32
  let c1_i32_25 : BitVec 32 := 1#32
  let arg19 : BitVec 32 := Scf.iv c0_i32_23 c1_i32_25 k5_t6
  let c16_i32_28 : BitVec 32 := 16#32
  let v18 : BitVec 32 := Scalar.muli arg19 c16_i32_28
  let v19 : Index := Scalar.indexCast v18
  ![v19.toNat]
def k5_off7 (k5_t5 : Fin k5_t5_loop.trips) (k5_t6 : Fin k5_t6_loop.trips) : Fin 1 → Nat :=
  let c0_i32_14 : BitVec 32 := 0#32
  let c1_i32_16 : BitVec 32 := 1#32
  let arg17 : BitVec 32 := Scf.iv c0_i32_14 c1_i32_16 k5_t5
  let c2048_i32 : BitVec 32 := 2048#32
  let v21 : BitVec 32 := Scalar.muli arg17 c2048_i32
  let c0_i32_23 : BitVec 32 := 0#32
  let c1_i32_25 : BitVec 32 := 1#32
  let arg19 : BitVec 32 := Scf.iv c0_i32_23 c1_i32_25 k5_t6
  let c16_i32_29 : BitVec 32 := 16#32
  let v22 : BitVec 32 := Scalar.muli arg19 c16_i32_29
  let v23 : BitVec 32 := Scalar.addi v21 v22
  let v24 : Index := Scalar.indexCast v23
  ![v24.toNat]
@[reducible] def k5_t7_loop : Scf.Loop 32 :=
  let c0_i32_19 : BitVec 32 := 0#32
  let c250_i32 : BitVec 32 := 250#32
  let v14 : BitVec 32 := Scalar.addi c0_i32_19 c250_i32
  let c1_i32_20 : BitVec 32 := 1#32
  ⟨c0_i32_19, v14, c1_i32_20⟩
def k5_off8 (i : grid5.Coords) (k5_t7 : Fin k5_t7_loop.trips) (c0_i32_22 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c640000_i32 : BitVec 32 := 640000#32
  let v13 : BitVec 32 := Scalar.muli v1 c640000_i32
  let v16 : BitVec 32 := Scalar.addi v13 c0_i32_22
  let c0_i32_19 : BitVec 32 := 0#32
  let c1_i32_20 : BitVec 32 := 1#32
  let arg17 : BitVec 32 := Scf.iv c0_i32_19 c1_i32_20 k5_t7
  let c160_i32 : BitVec 32 := 160#32
  let v17 : BitVec 32 := Scalar.muli arg17 c160_i32
  let v18 : BitVec 32 := Scalar.addi v16 v17
  ![v18.toNat]
@[reducible] def k5_t8_loop : Scf.Loop 32 :=
  let c0_i32_185 : BitVec 32 := 0#32
  let c160_i32_186 : BitVec 32 := 160#32
  let v368 : BitVec 32 := Scalar.addi c0_i32_185 c160_i32_186
  let c1_i32_187 : BitVec 32 := 1#32
  ⟨c0_i32_185, v368, c1_i32_187⟩

def k5_chk2 (v393 : IVec S16 32) : Prop :=
  (∀ a x, ((![v393] : Fin 1 → IVec S16 32) a x).toNat < S32768.size a) ∧
  (∀ a x, ((![v393] : Fin 1 → IVec S16 32) a x).toNat < S32768.size a)
theorem k5_idx2_inb : ∀ (v393 : IVec S16 32) (k5_hw2 : k5_chk2 v393), ∀ a x, ((![v393] : Fin 1 → IVec S16 32) a x).toNat < S32768.size a := fun v393 k5_hw2 => k5_hw2.1
theorem k5_idx3_inb : ∀ (v393 : IVec S16 32) (k5_hw2 : k5_chk2 v393), ∀ a x, ((![v393] : Fin 1 → IVec S16 32) a x).toNat < S32768.size a := fun v393 k5_hw2 => k5_hw2.2

def k5_chk1 (v385 : IVec S16 32) : Prop :=
  (∀ a x, ((![v385] : Fin 1 → IVec S16 32) a x).toNat < S2560.size a) ∧
  (∀ a x, ((![v385] : Fin 1 → IVec S16 32) a x).toNat < S2560.size a)
theorem k5_idx1_inb : ∀ (v385 : IVec S16 32) (k5_hw1 : k5_chk1 v385), ∀ a x, ((![v385] : Fin 1 → IVec S16 32) a x).toNat < S2560.size a := fun v385 k5_hw1 => k5_hw1.1
theorem k5_idx4_inb : ∀ (v385 : IVec S16 32) (k5_hw1 : k5_chk1 v385), ∀ a x, ((![v385] : Fin 1 → IVec S16 32) a x).toNat < S2560.size a := fun v385 k5_hw1 => k5_hw1.2
abbrev scKind : Fin 6 → Kind := fun | 0 => .scVector | 1 => .scVector | 2 => .scVector | 3 => .scVector | 4 => .scVector | 5 => .scVector | ⟨_ + 6, h⟩ => absurd h (Nat.not_lt.2 (Nat.le_add_left _ _))
abbrev scNCore : Fin 6 → Nat := fun | 0 => 2 | 1 => 2 | 2 => 2 | 3 => 2 | 4 => 2 | 5 => 2 | ⟨_ + 6, h⟩ => absurd h (Nat.not_lt.2 (Nat.le_add_left _ _))
abbrev scNSub : Fin 6 → Nat := fun | 0 => 16 | 1 => 16 | 2 => 16 | 3 => 16 | 4 => 16 | 5 => 16 | ⟨_ + 6, h⟩ => absurd h (Nat.not_lt.2 (Nat.le_add_left _ _))
-- ==== Reference.lean ====
abbrev S20480000 : Shape := ⟨1, ![20480000]⟩

abbrev nBuf : Space → Nat
  | .hbm => 5
  | .vmem => 0
  | .smem => 0
  | _ => 0

abbrev bufTy : (tb : Table) → Fin (tcTables nBuf tb) → BufTy
  | .hbm, ⟨0, _⟩ => ⟨S20480000, .i32⟩
  | .hbm, ⟨1, _⟩ => ⟨S20480000, .i32⟩
  | .hbm, ⟨2, _⟩ => ⟨S20480000, .i32⟩
  | .hbm, ⟨3, _⟩ => ⟨S20480000, .i32⟩
  | .hbm, ⟨4, _⟩ => ⟨S20480000, .i32⟩
  | _, _ => ⟨S20480000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Valid.lean ====
abbrev S10000x2048 : Shape := ⟨2, ![10000, 2048]⟩
abbrev S8x2048 : Shape := ⟨2, ![8, 2048]⟩
abbrev S8x128 : Shape := ⟨2, ![8, 128]⟩
abbrev S200x2048 : Shape := ⟨2, ![200, 2048]⟩
abbrev S25x8x2048 : Shape := ⟨3, ![25, 8, 2048]⟩
abbrev S1x200x2048 : Shape := ⟨3, ![1, 200, 2048]⟩
abbrev S1 : Shape := ⟨1, ![1]⟩
abbrev S1x1x1 : Shape := ⟨3, ![1, 1, 1]⟩
abbrev S_ : Shape := ⟨0, ![]⟩
abbrev S2048 : Shape := ⟨1, ![2048]⟩
abbrev S1x2048 : Shape := ⟨2, ![1, 2048]⟩
abbrev S1x1 : Shape := ⟨2, ![1, 1]⟩
abbrev S1x128 : Shape := ⟨2, ![1, 128]⟩
abbrev S200 : Shape := ⟨1, ![200]⟩
abbrev S200x1 : Shape := ⟨2, ![200, 1]⟩

abbrev nBuf : Space → Nat
  | .hbm => 15
  | .vmem => 14
  | .smem => 0
  | _ => 0

abbrev bufTy : (tb : Table) → Fin (tcTables nBuf tb) → BufTy
  | .hbm, ⟨0, _⟩ => ⟨S10000x2048, .f32⟩
  | .hbm, ⟨1, _⟩ => ⟨S10000x2048, .f32⟩
  | .hbm, ⟨2, _⟩ => ⟨S8x2048, .f32⟩
  | .hbm, ⟨3, _⟩ => ⟨S8x128, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S10000x2048, .f32⟩
  | .local _ .vmem, ⟨0, _⟩ => ⟨S200x2048, .f32⟩
  | .local _ .vmem, ⟨1, _⟩ => ⟨S200x2048, .f32⟩
  | .local _ .vmem, ⟨2, _⟩ => ⟨S200x2048, .f32⟩
  | .local _ .vmem, ⟨3, _⟩ => ⟨S200x2048, .f32⟩
  | .local _ .vmem, ⟨4, _⟩ => ⟨S8x2048, .f32⟩
  | .local _ .vmem, ⟨5, _⟩ => ⟨S8x128, .f32⟩
  | .local _ .vmem, ⟨6, _⟩ => ⟨S200x2048, .f32⟩
  | .local _ .vmem, ⟨7, _⟩ => ⟨S200x2048, .f32⟩
  | .local _ .vmem, ⟨8, _⟩ => ⟨S200x2048, .f32⟩
  | .local _ .vmem, ⟨9, _⟩ => ⟨S200x2048, .f32⟩
  | .local _ .vmem, ⟨10, _⟩ => ⟨S1x2048, .f32⟩
  | .local _ .vmem, ⟨11, _⟩ => ⟨S1x128, .f32⟩
  | .local _ .vmem, ⟨12, _⟩ => ⟨S200x2048, .f32⟩
  | .local _ .vmem, ⟨13, _⟩ => ⟨S200x2048, .f32⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== MaskedIdeal.lean ====
abbrev S10000x2048 : Shape := ⟨2, ![10000, 2048]⟩
abbrev S_ : Shape := ⟨0, ![]⟩
abbrev S10000 : Shape := ⟨1, ![10000]⟩
abbrev S10000x1 : Shape := ⟨2, ![10000, 1]⟩
abbrev S10000x1x2048 : Shape := ⟨3, ![10000, 1, 2048]⟩
abbrev S2048 : Shape := ⟨1, ![2048]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S10000x2048, .f32⟩
  | .hbm, ⟨2, _⟩ => ⟨S_, .f32⟩
  | .hbm, ⟨3, _⟩ => ⟨S10000x2048, .i1⟩
  | .hbm, ⟨4, _⟩ => ⟨S_, .f32⟩
  | .hbm, ⟨5, _⟩ => ⟨S10000x2048, .f32⟩
  | .hbm, ⟨6, _⟩ => ⟨S10000x2048, .f32⟩
  | .hbm, ⟨7, _⟩ => ⟨S_, .f32⟩
  | .hbm, ⟨8, _⟩ => ⟨S10000x2048, .f32⟩
  | .hbm, ⟨9, _⟩ => ⟨S10000x2048, .i1⟩
  | .hbm, ⟨10, _⟩ => ⟨S_, .f32⟩
  | .hbm, ⟨11, _⟩ => ⟨S10000x2048, .f32⟩
  | .hbm, ⟨12, _⟩ => ⟨S10000x2048, .f32⟩
  | .hbm, ⟨13, _⟩ => ⟨S_, .f32⟩
  | .hbm, ⟨14, _⟩ => ⟨S10000x2048, .f32⟩
  | .hbm, ⟨15, _⟩ => ⟨S10000x2048, .i1⟩
  | .hbm, ⟨16, _⟩ => ⟨S_, .f32⟩
  | .hbm, ⟨17, _⟩ => ⟨S10000x2048, .f32⟩
  | .hbm, ⟨18, _⟩ => ⟨S10000x2048, .f32⟩
  | .hbm, ⟨19, _⟩ => ⟨S_, .f32⟩
  | .hbm, ⟨20, _⟩ => ⟨S_, .f32⟩
  | .hbm, ⟨21, _⟩ => ⟨S10000x2048, .f32⟩
  | .hbm, ⟨22, _⟩ => ⟨S10000x2048, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S10000x1, .i1⟩
  | .hbm, ⟨29, _⟩ => ⟨S10000x1x2048, .i1⟩
  | .hbm, ⟨30, _⟩ => ⟨S10000x2048, .i1⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .i1⟩
  | .hbm, ⟨36, _⟩ => ⟨S1x2048, .i1⟩
  | .hbm, ⟨37, _⟩ => ⟨S10000x2048, .i1⟩
  | .hbm, ⟨38, _⟩ => ⟨S10000x2048, .i1⟩
  | .hbm, ⟨39, _⟩ => ⟨S10000x2048, .f32⟩
  | .hbm, ⟨40, _⟩ => ⟨S10000x2048, .f32⟩
  | .hbm, ⟨41, _⟩ => ⟨S_, .f32⟩
  | .hbm, ⟨42, _⟩ => ⟨S10000x2048, .f32⟩
  | .hbm, ⟨43, _⟩ => ⟨S10000x2048, .f32⟩
  | .hbm, ⟨44, _⟩ => ⟨S10000x2048, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_call0_call0_v0 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_call1_v0 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_call0_cst_2 : Ref sig .tc := ⟨.hbm, 16, rfl⟩
abbrev main_call0_call2_v0 : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_cst_4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩

abbrev nD : Nat := 1
abbrev τ : Topo := Topo.v7x

variable {F : FTy → Type} [FloatOps F]
-- ==== Proof.Math.lean ====
/-
  The mathematics of one stable counting pass and of three of them in a row: where an element goes when elements are
  placed by digit and, within a digit, in the order they stand in; that this is a permutation; and that passes over the
  three digits of a key, the least one first, leave the indices in the order of the keys, equal keys in index order.
-/
module

public import Mathlib.Order.Interval.Finset.Nat
public import Mathlib.Data.Finset.Card
public import Mathlib.Data.Fintype.Card
public import Mathlib.Tactic.Ring
public import Mathlib.Tactic.Linarith

@[expose] public section

namespace Cert.Proof.Count

/-- How many of the first `n` elements have digit `b`. -/
def cnt (d : ℕ → ℕ) (b n : ℕ) : ℕ := ((Finset.range n).filter fun e => d e = b).card

/-- How many of the first `N` elements have a digit below `b`. -/
def below (d : ℕ → ℕ) (N b : ℕ) : ℕ := ((Finset.range N).filter fun e => d e < b).card

/-- The place of element `e` in the order by digit. -/
def pos (d : ℕ → ℕ) (N e : ℕ) : ℕ := below d N (d e) + cnt d (d e) e

variable {d : ℕ → ℕ} {N : ℕ}

@[simp] theorem cnt_zero (b : ℕ) : cnt d b 0 = 0 := by simp [cnt]

theorem cnt_succ (b n : ℕ) : cnt d b (n + 1) = cnt d b n + if d n = b then 1 else 0 := by
  unfold cnt
  rw [Finset.range_add_one, Finset.filter_insert]
  split
  · rw [Finset.card_insert_of_notMem (by simp)]
  · simp

theorem cnt_mono (b : ℕ) {m n : ℕ} (h : m ≤ n) : cnt d b m ≤ cnt d b n :=
  Finset.card_le_card (Finset.filter_subset_filter _ (Finset.range_mono h))

@[simp] theorem below_zero : below d N 0 = 0 := by simp [below]

theorem below_succ (b : ℕ) : below d N (b + 1) = below d N b + cnt d b N := by
  unfold below cnt
  rw [← Finset.card_union_of_disjoint]
  · congr 1; ext e; simp only [Finset.mem_filter, Finset.mem_union, Finset.mem_range]; omega
  · rw [Finset.disjoint_left]; intro e; simp only [Finset.mem_filter, Finset.mem_range]; omega

theorem below_mono {b c : ℕ} (h : b ≤ c) : below d N b ≤ below d N c := by
  refine Finset.card_le_card fun e => ?_
  simp only [Finset.mem_filter, Finset.mem_range]; omega

theorem below_le (b : ℕ) : below d N b ≤ N := by
  have := Finset.card_filter_le (Finset.range N) fun e => d e < b
  simpa [below] using this

/-- Before `e` in digit, or the same digit and before it in place. -/
theorem pos_lt_pos {e f : ℕ} (he : e < N) (h : d e < d f ∨ (d e = d f ∧ e < f)) : pos d N e < pos d N f := by
  have hs := cnt_succ (d := d) (d e) e
  rw [if_pos rfl] at hs
  unfold pos
  rcases h with h | ⟨h, hl⟩
  · have h1 : cnt d (d e) (e + 1) ≤ cnt d (d e) N := cnt_mono _ he
    have h2 := below_succ (d := d) (N := N) (d e)
    have h3 : below d N (d e + 1) ≤ below d N (d f) := below_mono h
    omega
  · have h1 : cnt d (d e) (e + 1) ≤ cnt d (d e) f := cnt_mono _ hl
    rw [← h]; omega

theorem pos_lt {e : ℕ} (he : e < N) : pos d N e < N := by
  have hs := cnt_succ (d := d) (d e) e
  rw [if_pos rfl] at hs
  have h1 : cnt d (d e) (e + 1) ≤ cnt d (d e) N := cnt_mono _ he
  have h2 := below_succ (d := d) (N := N) (d e)
  have h3 := below_le (d := d) (N := N) (d e + 1)
  unfold pos; omega

theorem lex_of_pos_lt {e f : ℕ} (hf : f < N) (h : pos d N e < pos d N f) : d e < d f ∨ (d e = d f ∧ e < f) := by
  by_contra hn
  rcases Nat.lt_trichotomy (d e) (d f) with h1 | h1 | h1
  · exact hn (.inl h1)
  · rcases Nat.lt_trichotomy e f with h2 | h2 | h2
    · exact hn (.inr ⟨h1, h2⟩)
    · subst h2; omega
    · have := pos_lt_pos (d := d) (N := N) hf (f := e) (.inr ⟨h1.symm, h2⟩); omega
  · have := pos_lt_pos (d := d) (N := N) hf (f := e) (.inl h1); omega

theorem pos_inj {e f : ℕ} (he : e < N) (hf : f < N) (h : pos d N e = pos d N f) : e = f := by
  rcases Nat.lt_trichotomy e f with h2 | h2 | h2
  · by_cases h1 : d e ≤ d f
    · have := pos_lt_pos (d := d) (N := N) he (f := f) (by omega); omega
    · have := pos_lt_pos (d := d) (N := N) hf (f := e) (by omega); omega
  · exact h2
  · by_cases h1 : d f ≤ d e
    · have := pos_lt_pos (d := d) (N := N) hf (f := e) (by omega); omega
    · have := pos_lt_pos (d := d) (N := N) he (f := f) (by omega); omega

theorem pos_surj {p : ℕ} (hp : p < N) : ∃ e, e < N ∧ pos d N e = p := by
  have hinj : Function.Injective (fun e : Fin N => (⟨pos d N e.1, pos_lt e.2⟩ : Fin N)) := fun a b h =>
    Fin.ext (pos_inj a.2 b.2 (congrArg Fin.val h))
  obtain ⟨e, he⟩ := (Finite.injective_iff_surjective.mp hinj) ⟨p, hp⟩
  exact ⟨e.1, e.2, congrArg Fin.val he⟩

open Classical in
/-- The element a place holds. -/
noncomputable def inv (d : ℕ → ℕ) (N p : ℕ) : ℕ := if h : ∃ e, e < N ∧ pos d N e = p then h.choose else 0

theorem inv_spec {p : ℕ} (hp : p < N) : inv d N p < N ∧ pos d N (inv d N p) = p := by
  have h := pos_surj (d := d) hp
  unfold inv; rw [dif_pos h]; exact h.choose_spec

theorem inv_pos {e : ℕ} (he : e < N) : inv d N (pos d N e) = e :=
  pos_inj (inv_spec (pos_lt he)).1 he (inv_spec (pos_lt he)).2

/-- The digit of a key at weight `M`. -/
def dig (K : ℕ → ℕ) (M : ℕ) (e : ℕ) : ℕ := K e / M % 2048

/-- The indices `s` stand in the order of the keys modulo `M`, equal ones in index order. -/
def Ordered (K s : ℕ → ℕ) (N M : ℕ) : Prop :=
  ∀ p q, p < q → q < N → K (s p) % M < K (s q) % M ∨ (K (s p) % M = K (s q) % M ∧ s p < s q)

theorem ordered_id (K : ℕ → ℕ) : Ordered K (fun p => p) N 1 := fun p q h _ => .inr ⟨by simp [Nat.mod_one], h⟩

/-- One more pass, over the next digit. -/
theorem Ordered.step {K s : ℕ → ℕ} {M : ℕ} (hM : 0 < M) (h : Ordered K s N M) :
    Ordered K (fun p => s (inv (dig (fun e => K (s e)) M) N p)) N (M * 2048) := by
  intro p q hpq hq
  beta_reduce
  set D := dig (fun e => K (s e)) M with hD
  obtain ⟨hp1, hp2⟩ := inv_spec (d := D) (N := N) (hpq.trans hq)
  obtain ⟨hq1, hq2⟩ := inv_spec (d := D) (N := N) hq
  have hl := lex_of_pos_lt (d := D) (N := N) (e := inv D N p) (f := inv D N q) hq1 (by omega)
  generalize inv D N p = e at *
  generalize inv D N q = f at *
  have e1 : ∀ x, D x = K (s x) / M % 2048 := fun _ => rfl
  have e2 : ∀ x, K (s x) % (M * 2048) = K (s x) % M + M * D x := fun x => Nat.mod_mul
  have lt1 := Nat.mod_lt (K (s e)) hM
  have lt2 := Nat.mod_lt (K (s f)) hM
  rw [e2, e2]
  rcases hl with hl | ⟨hl, hef⟩
  · left
    have := Nat.mul_le_mul_left M (show D e + 1 ≤ D f from hl)
    rw [Nat.mul_add] at this; omega
  · rw [hl]
    rcases h e f hef hq1 with h1 | ⟨h1, h2⟩
    · left; omega
    · right; exact ⟨by omega, h2⟩

end Cert.Proof.Count
-- ==== Proof.Base.lean ====
/-
  The program as the launch theorem sees it, the resources the proof uses, and flat arrays: a memref of one axis of
  words held at a function of the position.
-/
module

public import proofs.«01_k».proof.Defs
public import proofs.«01_k».proof.Proof.Math
public import proofs.«01_k».proof.Proof.Gen.KernelIdeal
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.Batch
public import Idealize.ShloMosaic.Lib.Memref
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 6 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and the transfers' counters. -/
abbrev UH : Type := URounds (GSem nD τ sig) ℕ
abbrev UU : Type := UH × Counters

local notation "𝕄" => MT nD τ sig (HIx 6) (Elt F) ℕ UU ℕ

abbrev EH : Emb UH (MT nD τ sig (HIx 6) (Elt F) ℕ UU ℕ) := embL

/-- Vector subcore `(c, s)` of device `d`. -/
abbrev tile (d : Dev nD) (c : Fin τ.nSC) (s : Fin τ.nSub) : Thread nD τ := (d, .scVector c s)

section Arr

variable {d : Dev nD} {c : Fin τ.nSC} {s : Fin τ.nSub} {sp : Space} {n : ℕ}

/-- A memref of `n` words held at the function `A` of the position. -/
def arr (t : Thread nD τ) (m : Memref sig t.2.kind sp ⟨1, ![n]⟩ .i32) (q : PosShare TreeShare) (A : ℕ → BitVec 32) : sProp 𝕄 :=
  owns t m q fun x => A (x 0).val

/-- Only the positions below the length matter. -/
theorem arr_congr {t : Thread nD τ} {m : Memref sig t.2.kind sp ⟨1, ![n]⟩ .i32} {q : PosShare TreeShare} {A B : ℕ → BitVec 32}
    (h : ∀ i, i < n → A i = B i) : (arr t m q A : sProp 𝕄) = arr t m q B := by
  unfold arr; congr 1; funext x; exact h _ (x 0).isLt

/-- Any contents are a function of the position. -/
theorem owns_arr {t : Thread nD τ} {m : Memref sig t.2.kind sp ⟨1, ![n]⟩ .i32} {q : PosShare TreeShare} (f : (⟨1, ![n]⟩ : Shape).Idx → BitVec 32) :
    (owns t m q f : sProp 𝕄) ⊢ ∃ A, arr t m q A := by
  iintro H
  iexists fun i => if h : i < n then f (fun a => ⟨i, by have : a = 0 := Subsingleton.elim _ _; subst this; exact h⟩) else 0
  unfold arr
  have e : (fun x : (⟨1, ![n]⟩ : Shape).Idx => if h : (x 0).val < n then f (fun a => ⟨(x 0).val, by have : a = 0 := Subsingleton.elim _ _; subst this; exact h⟩) else (0 : BitVec 32)) = f := by
    funext x
    have hx : (x 0).val < n := (x 0).isLt
    rw [dif_pos hx]
    congr 1; funext a
    have : a = 0 := Subsingleton.elim _ _
    subst this; rfl
  rw [e]; iexact H

/-- Any contents of a buffer, read through a memref of it. -/
theorem arr_intro {t : Thread nD τ} {m : Memref sig t.2.kind sp ⟨1, ![n]⟩ .i32} {q : PosShare TreeShare} (f : m.view.ty.Contents (Elt F)) :
    (m.view.loc t ↦[m.view.set]{q} f : sProp 𝕄) ⊢ ∃ A, arr t m q A :=
  (owns_intro t m q f).trans (owns_arr _)

variable [FloatOps F] {α : Type} {Φ : α → sProp (MT nD τ sig (HIx 6) (Elt F) ℕ UU ℕ)}

/-- Position `i` of a vector of sixteen. -/
abbrev ix (x : S16.Idx) : ℕ := (x 0).val

/-- A load of sixteen words. -/
theorem wp_load1 {cs : CoreSpace} {m : Memref sig .scVector cs ⟨1, ![n]⟩ .i32} {off : Fin 1 → ℕ} {o : ℕ}
    {inb : ∀ a, off a + S16.size a ≤ (⟨1, ![n]⟩ : Shape).size a} {hl} {q : PosShare TreeShare} {A : ℕ → BitVec 32}
    {k : Vec F S16 .i32 → Prog (TpuEff nD τ sig (Elt F) Λ₀ (.scVector c s)) α} (ho : off = ![o]) :
    (arr (tile d c s) m q A : sProp 𝕄)
      ⊢ iprop((arr (tile d c s) m q A -∗ wp frame (wpE defs₀ 𝒱₀ (tile d c s) none) Set.univ (k fun x => A (o + (x 0).val)) Φ)
        -∗ wp frame (wpE defs₀ 𝒱₀ (tile d c s) none) Set.univ (Prog.lift (.load m (Rect.unit (s := ⟨1, ![n]⟩) off S16.size inb).toLoadRect hl) >>= k) Φ) := by
  subst ho
  unfold arr owns
  iintro ⟨%f, %hf, H⟩ Hk
  iapply (wp_load_rect (defs := defs₀) 𝒱₀ (tile d c s) none Set.univ (Q := Φ) (m := m) (r := Rect.unit (s := ⟨1, ![n]⟩) ![o] S16.size inb) (hl := hl) (k := k) (q := q) (f := f)
    (S := m.view.set) (View.set_slice_subset _ _)) $$ H
  iintro H
  have e : ((m.access (Rect.unit (s := ⟨1, ![n]⟩) ![o] S16.size inb)).read (Elt F) f : Vec F S16 .i32) = fun x : S16.Idx => A (o + (x 0).val) := by
    funext x
    show m.view.read (Elt F) f ((Rect.unit (s := ⟨1, ![n]⟩) ![o] S16.size inb).emb x) = _
    rw [hf]
    show A (o + 1 * (x 0).val) = _
    rw [Nat.one_mul]
  rw [e]
  iapply Hk
  iexists f
  isplitr; · ipureintro; exact hf
  iexact H

/-- A store of sixteen words: the new contents hold the stored words at their positions and are the old ones elsewhere. -/
theorem wp_store1 {cs : CoreSpace} {m : Memref sig .scVector cs ⟨1, ![n]⟩ .i32} {off : Fin 1 → ℕ} {o : ℕ}
    {inb : ∀ a, off a + S16.size a ≤ (⟨1, ![n]⟩ : Shape).size a} {hx hm} {A : ℕ → BitVec 32} {v : Vec F S16 .i32}
    {k : PUnit → Prog (TpuEff nD τ sig (Elt F) Λ₀ (.scVector c s)) α} (ho : off = ![o]) (B : ℕ → BitVec 32)
    (hin : ∀ x : S16.Idx, v x = B (o + (x 0).val)) (hout : ∀ i, i < n → i < o ∨ o + 16 ≤ i → B i = A i) :
    (arr (tile d c s) m fullShare A : sProp 𝕄)
      ⊢ iprop((arr (tile d c s) m fullShare B -∗ wp frame (wpE defs₀ 𝒱₀ (tile d c s) none) Set.univ (k ⟨⟩) Φ)
        -∗ wp frame (wpE defs₀ 𝒱₀ (tile d c s) none) Set.univ
          (Prog.lift (.store m (Rect.unit (s := ⟨1, ![n]⟩) off S16.size inb) v Finset.univ hx hm) >>= k) Φ) := by
  subst ho
  unfold arr owns
  iintro ⟨%f, %hf, H⟩ Hk
  iapply (wp_store (defs := defs₀) 𝒱₀ (tile d c s) none Set.univ (Q := Φ) (m := m) (r := Rect.unit (s := ⟨1, ![n]⟩) ![o] S16.size inb) (w := v) (Mk := Finset.univ) (hx := hx) (hm := hm)
    (k := k) (f := f) (S := m.view.set) (View.set_slice_subset _ _)) $$ H
  iintro H
  iapply Hk
  iexists _
  isplitr; swap; · iexact H
  ipureintro
  funext y
  by_cases hy : o ≤ (y 0).val ∧ (y 0).val < o + 16
  · have e : y = (Rect.unit (s := ⟨1, ![n]⟩) ![o] S16.size inb).emb (fun a => ⟨(y 0).val - o, by
        have : a = 0 := Subsingleton.elim _ _
        subst this; show (y 0).val - o < 16; omega⟩) := by
      funext a
      have : a = 0 := Subsingleton.elim _ _
      subst this
      apply Fin.ext
      show (y 0).val = o + 1 * ((y 0).val - o)
      omega
    rw [e]
    refine (View.read_slice_write_emb (v := m.view) (Rect.unit (s := ⟨1, ![n]⟩) ![o] S16.size inb) f v (Finset.mem_univ _)).trans ?_
    rw [hin]
    show B (o + ((y 0).val - o)) = B (o + 1 * ((y 0).val - o))
    rw [Nat.one_mul]
  · refine (View.read_slice_write_of_not_mem (v := m.view) (Rect.unit (s := ⟨1, ![n]⟩) ![o] S16.size inb) f v Finset.univ ?_).trans ?_
    · intro hmem
      obtain ⟨x, -, hx⟩ := Finset.mem_map.mp hmem
      have h0 : o + 1 * (x 0).val = (y 0).val := congrArg (fun z : (⟨1, ![n]⟩ : Shape).Idx => (z 0).val) hx
      have h1 : (x 0).val < 16 := (x 0).isLt
      omega
    · rw [hf]; exact (hout _ (y 0).isLt (by omega)).symm

/-- A gather of sixteen words from a flat array. -/
theorem wp_loadIdx1 {m : Memref sig .scVector .vmem ⟨1, ![n]⟩ .i32} {v : IVec S16 32} {h hl} {q : PosShare TreeShare} {A : ℕ → BitVec 32}
    {k : Vec F S16 .i32 → Prog (TpuEff nD τ sig (Elt F) Λ₀ (.scVector c s)) α} :
    (arr (tile d c s) m q A : sProp 𝕄)
      ⊢ iprop((arr (tile d c s) m q A -∗ wp frame (wpE defs₀ 𝒱₀ (tile d c s) none) Set.univ (k fun x => A (v x).toNat) Φ)
        -∗ wp frame (wpE defs₀ 𝒱₀ (tile d c s) none) Set.univ (SparseCore.vectorLoadIdx m ![v] h hl >>= k) Φ) := by
  unfold arr owns
  iintro ⟨%f, %hf, H⟩ Hk
  have hset : (m.access (.whole ⟨1, ![n]⟩)).set ⊆ m.view.set := View.set_slice_subset _ _
  iapply (SparseCore.wp_vectorLoadIdx (defs := defs₀) 𝒱₀ (tile d c s) none Set.univ (Q := Φ) (base := m) (idxs := ![v]) (h := h) (hl := hl) (k := k) (q := q) (f := f) (S := m.view.set) hset) $$ H
  iintro H
  have e : (loadIdx ((m.access (.whole ⟨1, ![n]⟩)).read (Elt F) f) ![v] h : Vec F S16 .i32) = fun x : S16.Idx => A (v x).toNat := by
    funext x
    have e2 : (m.access (.whole ⟨1, ![n]⟩)).read (Elt F) f = m.view.read (Elt F) f := by
      funext y; exact congrArg (m.view.read (Elt F) f) (Rect.emb_whole_apply _ y)
    show (m.access (.whole ⟨1, ![n]⟩)).read (Elt F) f (idxAt ![v] h x) = _
    rw [e2, hf]; rfl
  rw [e]
  iapply Hk
  iexists f
  isplitr; · ipureintro; exact hf
  iexact H

end Arr

end Cert.Proof

end
-- ==== Proof.Steps.lean ====
/-
  Steps of the bodies: an indexed store whose lanes name different positions, a checked condition, and several copies
  on one semaphore, all started and then all waited for.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

section IdxStore

variable {n : ℕ}

/-- One lane of a store by index. -/
def laneOf [FloatOps F] {sh : Shape} {e : EltTy} {d : Fin 1 → Nat} (idxs : Fin sh.rank → IVec ⟨1, d⟩ 32) (v : Vec F ⟨1, d⟩ e) (mask : IVec ⟨1, d⟩ 1) (add : Bool)
    (h : ∀ a x, (idxs a x).toNat < sh.size a) (g : Vec F sh e) (k : Fin (d 0)) : Vec F sh e :=
  let x := Shape.ofLane k
  if mask x = 1 then
    let i := idxAt idxs h x
    let y := if add then Elt.idxAdd e (g i) (v x) else v x
    fun j => if (∀ a, (j a).val = (i a).val) then y else g j
  else g

theorem storeIdx_lanes [FloatOps F] {sh : Shape} {e : EltTy} {d : Fin 1 → Nat} (f : Vec F sh e) (idxs : Fin sh.rank → IVec ⟨1, d⟩ 32) (v : Vec F ⟨1, d⟩ e) (mask : IVec ⟨1, d⟩ 1) (add : Bool)
    (h : ∀ a x, (idxs a x).toNat < sh.size a) : storeIdx f idxs v mask add h = (List.finRange (d 0)).foldl (laneOf idxs v mask add h) f := by
  unfold storeIdx
  refine congrArg (fun step => List.foldl step f (List.finRange (d 0))) ?_
  funext g k
  unfold laneOf
  dsimp only
  split
  · funext j; congr
  · rfl

/-- One lane of the store at the sixteen positions `v`. -/
def laneStep [FloatOps F] (v : IVec S16 32) (w : Vec F S16 .i32) (add : Bool) (h : ∀ a x, ((![v] : Fin 1 → IVec S16 32) a x).toNat < (⟨1, ![n]⟩ : Shape).size a)
    (g : Vec F ⟨1, ![n]⟩ .i32) (k : Fin 16) : Vec F ⟨1, ![n]⟩ .i32 :=
  laneOf (d := ![16]) ![v] w (fun _ => 1#1) add h g k

theorem laneStep_of_eq [FloatOps F] {v : IVec S16 32} {w : Vec F S16 .i32} {add : Bool} {h} (g : Vec F ⟨1, ![n]⟩ .i32) (k : Fin 16) (j : (⟨1, ![n]⟩ : Shape).Idx)
    (hk : (v (Shape.ofLane (d := ![16]) k)).toNat = (j 0).val) :
    laneStep v w add h g k j = if add then Elt.idxAdd (F := F) .i32 (g j) (w (Shape.ofLane (d := ![16]) k)) else w (Shape.ofLane (d := ![16]) k) := by
  have e : idxAt ![v] h (Shape.ofLane (d := ![16]) k) = j := by
    funext a; have : a = 0 := Subsingleton.elim _ _; subst this; exact Fin.ext hk
  unfold laneStep laneOf
  simp only [e]
  rw [if_pos (show (1#1 : BitVec 1) = 1 from rfl)]
  exact if_pos fun _ => rfl

theorem laneStep_of_ne [FloatOps F] {v : IVec S16 32} {w : Vec F S16 .i32} {add : Bool} {h} (g : Vec F ⟨1, ![n]⟩ .i32) (k : Fin 16) (j : (⟨1, ![n]⟩ : Shape).Idx)
    (hk : (v (Shape.ofLane (d := ![16]) k)).toNat ≠ (j 0).val) :
    laneStep v w add h g k j = g j := by
  unfold laneStep laneOf
  dsimp only
  rw [if_pos (show (1#1 : BitVec 1) = 1 from rfl)]
  exact if_neg fun hh => hk (hh 0).symm

theorem foldl_named [FloatOps F] {v : IVec S16 32} {w : Vec F S16 .i32} {add : Bool} {h}
    (hinj : ∀ x y, (v x).toNat = (v y).toNat → x = y) (j : (⟨1, ![n]⟩ : Shape).Idx) :
    ∀ (l : List (Fin 16)) (g : Vec F ⟨1, ![n]⟩ .i32), l.Nodup →
      (∀ k ∈ l, (v (Shape.ofLane (d := ![16]) k)).toNat = (j 0).val →
        l.foldl (laneStep v w add h) g j = (if add then Elt.idxAdd (F := F) .i32 (g j) (w (Shape.ofLane (d := ![16]) k)) else w (Shape.ofLane (d := ![16]) k)))
      ∧ ((∀ k ∈ l, (v (Shape.ofLane (d := ![16]) k)).toNat ≠ (j 0).val) → l.foldl (laneStep v w add h) g j = g j)
  | [], g, _ => ⟨fun k hk => absurd hk (List.not_mem_nil), fun _ => rfl⟩
  | k₀ :: l, g, hnd => by
    obtain ⟨hk₀, hnd'⟩ := List.nodup_cons.mp hnd
    have hlane : ∀ a b : Fin 16, (Shape.ofLane (d := ![16]) a) = Shape.ofLane (d := ![16]) b → a = b := fun a b hab =>
      Fin.ext (congrArg (fun z : S16.Idx => (z 0).val) hab)
    have ih := foldl_named (w := w) (add := add) (h := h) hinj j l (laneStep v w add h g k₀) hnd'
    constructor
    · intro k hk hkj
      rw [List.foldl_cons]
      rcases List.mem_cons.mp hk with rfl | hk
      · refine (ih.2 fun k' hk' e => ?_).trans (laneStep_of_eq g k j hkj)
        exact hk₀ (hlane _ _ (hinj _ _ (e.trans hkj.symm)) ▸ hk')
      · refine (ih.1 k hk hkj).trans ?_
        rw [laneStep_of_ne g k₀ j fun e => hk₀ (hlane _ _ (hinj _ _ (hkj.trans e.symm)) ▸ hk)]
    · intro hne
      rw [List.foldl_cons]
      exact (ih.2 fun k hk => hne k (List.mem_cons_of_mem _ hk)).trans (laneStep_of_ne g k₀ j (hne k₀ List.mem_cons_self))

/-- What the store leaves at every position. -/
theorem storeIdx_named [FloatOps F] {v : IVec S16 32} {w : Vec F S16 .i32} {add : Bool} (h : ∀ a x, ((![v] : Fin 1 → IVec S16 32) a x).toNat < (⟨1, ![n]⟩ : Shape).size a)
    (A B : ℕ → BitVec 32)
    (hinj : ∀ x y, (v x).toNat = (v y).toNat → x = y)
    (hin : ∀ x : S16.Idx, B (v x).toNat = if add then A (v x).toNat + w x else w x)
    (hout : ∀ i, i < n → (∀ x : S16.Idx, (v x).toNat ≠ i) → B i = A i)
    (f : Vec F ⟨1, ![n]⟩ .i32) (hf : ∀ y : (⟨1, ![n]⟩ : Shape).Idx, f y = A (y 0).val) (y : (⟨1, ![n]⟩ : Shape).Idx) :
    (List.finRange 16).foldl (laneStep v w add h) f y = B (y 0).val := by
  have hl := foldl_named (F := F) (w := w) (add := add) (h := h) hinj y (List.finRange 16) f (List.nodup_finRange 16)
  by_cases hy : ∃ x : S16.Idx, (v x).toNat = (y 0).val
  · obtain ⟨x, hx⟩ := hy
    have ex : Shape.ofLane (d := ![16]) (x 0) = x := by
      funext a; have : a = 0 := Subsingleton.elim _ _; subst this; rfl
    have h1 := hl.1 (x 0) (List.mem_finRange _) (by rw [ex]; exact hx)
    have h2 := hin x
    rw [h1, ex, hf, ← hx, h2]
    rfl
  · have hy' : ∀ x : S16.Idx, (v x).toNat ≠ (y 0).val := fun x hx => hy ⟨x, hx⟩
    exact (hl.2 fun k _ => hy' _).trans ((hf y).trans (hout _ (y 0).isLt hy').symm)

theorem storeIdx_fold [FloatOps F] {v : IVec S16 32} {w : Vec F S16 .i32} {add : Bool} (h : ∀ a x, ((![v] : Fin 1 → IVec S16 32) a x).toNat < (⟨1, ![n]⟩ : Shape).size a)
    (f : Vec F ⟨1, ![n]⟩ .i32) : storeIdx (F := F) (e := .i32) (d := ![16]) f ![v] w (fun _ => 1#1) add h = (List.finRange 16).foldl (laneStep v w add h) f :=
  storeIdx_lanes f _ _ _ _ _

variable [FloatOps F] {d : Dev nD} {c : Fin τ.nSC} {s : Fin τ.nSub} {α : Type} {Φ : α → sProp (MT nD τ sig (HIx 6) (Elt F) ℕ UU ℕ)}

/-- A store of sixteen words at sixteen different positions, over what is there or added to it. -/
theorem wp_storeIdx1 {m : Memref sig .scVector .vmem ⟨1, ![n]⟩ .i32} {v : IVec S16 32} {w : Vec F S16 .i32} {add : Bool} {h hs} {A : ℕ → BitVec 32}
    {k : PUnit → Prog (TpuEff nD τ sig (Elt F) Λ₀ (.scVector c s)) α} (B : ℕ → BitVec 32)
    (hinj : ∀ x y, (v x).toNat = (v y).toNat → x = y)
    (hin : ∀ x : S16.Idx, B (v x).toNat = if add then A (v x).toNat + w x else w x)
    (hout : ∀ i, i < n → (∀ x : S16.Idx, (v x).toNat ≠ i) → B i = A i) :
    (arr (tile d c s) m fullShare A : sProp 𝕄)
      ⊢ iprop((arr (tile d c s) m fullShare B -∗ wp frame (wpE defs₀ 𝒱₀ (tile d c s) none) Set.univ (k ⟨⟩) Φ)
        -∗ wp frame (wpE defs₀ 𝒱₀ (tile d c s) none) Set.univ (SparseCore.vectorStoreIdx m ![v] w (fun _ => 1#1) add h hs >>= k) Φ) := by
  unfold arr owns
  iintro ⟨%f, %hf, H⟩ Hk
  have hset : (m.access (.whole ⟨1, ![n]⟩)).set = m.view.set := by
    show ((m.view).slice (Rect.whole _)).set = _
    rw [View.set_slice, Rect.set_whole]; rfl
  have e2 : ∀ g, (m.access (.whole ⟨1, ![n]⟩)).read (Elt F) g = m.view.read (Elt F) g := fun g => by
    funext y; exact congrArg (m.view.read (Elt F) g) (Rect.emb_whole_apply _ y)
  iapply (SparseCore.wp_vectorStoreIdx (defs := defs₀) 𝒱₀ (tile d c s) none Set.univ (Q := Φ) (base := m) (idxs := ![v]) (v := w) (mask := fun _ => 1#1) (add := add)
    (h := h) (hs := hs) (k := k) (f := f)) $$ [H]
  · rw [hset]; iexact H
  iintro H
  rw [hset]
  iapply Hk
  iexists _
  isplitr; swap; · iexact H
  ipureintro
  rw [← e2, View.read_write_univ, e2, hf]
  funext y
  exact (congrFun (storeIdx_fold h _) y).trans (storeIdx_named h A B hinj hin hout _ (fun _ => rfl) y)

/-- A checked condition that holds. -/
theorem wp_check {P : Prop} {dP : Decidable P} {k : PLift P → Prog (TpuEff nD τ sig (Elt F) Λ₀ (.scVector c s)) α} (h : P) :
    wp frame (wpE defs₀ 𝒱₀ (tile d c s) none) Set.univ (k ⟨h⟩) Φ
      ⊢ (wp frame (wpE defs₀ 𝒱₀ (tile d c s) none) Set.univ (Prog.lift (.assume P dP) >>= k) Φ : sProp 𝕄) :=
  wp_assume 𝒱₀ (tile d c s) none Set.univ (k := k) h

end IdxStore

section Copies

variable [FloatOps F] {d : Dev nD} {c : Fin τ.nSC} {s : Fin τ.nSub} {α : Type} {Φ : α → sProp (MT nD τ sig (HIx 6) (Elt F) ℕ UU ℕ)}

/-- Programs one after another, then the rest. -/
def seqAll {p : Proc τ} : (n : ℕ) → (Fin n → Prog (TpuEff nD τ sig (Elt F) Λ₀ p) PUnit) → Prog (TpuEff nD τ sig (Elt F) Λ₀ p) α → Prog (TpuEff nD τ sig (Elt F) Λ₀ p) α
  | 0, _, k => k
  | n + 1, f, k => f 0 >>= fun _ => seqAll n (fun i => f i.succ) k

/-- What a thread owes, with waits at no index recorded since. -/
def ow (t : Thread nD τ) (O : CellTallies nD τ sig (HIx 6)) (W : Waits sig (HIx 6)) : sProp 𝕄 :=
  iprop(∃ W', ⌜∀ p ∈ W', p ∈ W ∨ p.2 = none⌝ ∗ owes t O W')

theorem bigSep_succ {n : ℕ} (Ψ : Fin (n + 1) → sProp 𝕄) : bigSep Finset.univ Ψ = iprop(Ψ 0 ∗ bigSep Finset.univ fun i : Fin n => Ψ i.succ) := by
  rw [Fin.univ_succ, Finset.cons_eq_insert, bigSep_insert (by simp [Fin.succ_ne_zero]), bigSep_map]
  rfl

variable {sp sp' : Space} {w : ℕ} {n : ℕ}

/-- What a finished copy leaves. -/
def landed {t : Thread nD τ} (src : Memref sig t.2.kind sp ⟨1, ![w]⟩ .i32) (dst : Memref sig t.2.kind sp' ⟨1, ![w]⟩ .i32) (q : PosShare TreeShare) (X : ℕ → BitVec 32) : sProp 𝕄 :=
  iprop(arr t dst fullShare X ∗ arr t src q X)

instance landed_storable {t : Thread nD τ} (src : Memref sig t.2.kind sp ⟨1, ![w]⟩ .i32) (dst : Memref sig t.2.kind sp' ⟨1, ![w]⟩ .i32) (q : PosShare TreeShare) (X : ℕ → BitVec 32) :
    BI.Storable (upEmb : UEmb _ 𝕄) (landed src dst q X) := by unfold landed arr; infer_instance

/-- What starting a copy takes. -/
def ready {t : Thread nD τ} (src : Memref sig t.2.kind sp ⟨1, ![w]⟩ .i32) (dst : Memref sig t.2.kind sp' ⟨1, ![w]⟩ .i32) (q : PosShare TreeShare) (X : ℕ → BitVec 32) : sProp 𝕄 :=
  iprop((∃ Y, arr t dst fullShare Y) ∗ arr t src q X)

/-- The starts, from the `j`-th on. -/
theorem wp_issues (N : ℕ) {sem : DmaSem sig} {q : PosShare TreeShare} :
    ∀ (m j : ℕ) (hj : j + m = n)
      (src : Fin m → Memref sig .scVector sp ⟨1, ![w]⟩ .i32) (dst : Fin m → Memref sig .scVector sp' ⟨1, ![w]⟩ .i32) (X : Fin m → ℕ → BitVec 32)
      (h1 : ∀ l, (src l).view.WordExact) (h2 : ∀ l, (dst l).view.WordExact) (h3 : ∀ l, DmaTarget.Typed (nD := nD) (p := .scVector c s) sp (.dma sem) (.here (dst l)))
      (_ : ∀ l, (dst l).view.amount (.dma sem) = N) (Dl : Fin n → sProp 𝕄)
      (_ : ∀ l : Fin m, landed (t := tile d c s) (src l) (dst l) q (X l) ⊢ Dl ⟨j + l.val, by omega⟩)
      (k : Prog (TpuEff nD τ sig (Elt F) Λ₀ (.scVector c s)) α),
      iprop(Transfers.Batch countersEmb (tile d c s) (.dma sem) (default : HIx 6) N Dl j 0 ∗ bigSep Finset.univ fun l => ready (t := tile d c s) (src l) (dst l) q (X l))
        ⊢ iprop((Transfers.Batch countersEmb (tile d c s) (.dma sem) (default : HIx 6) N Dl n 0 -∗ wp frame (wpE defs₀ 𝒱₀ (tile d c s) none) Set.univ k Φ)
          -∗ wp frame (wpE defs₀ 𝒱₀ (tile d c s) none) Set.univ
            (seqAll m (fun l => Prog.lift (.enqueueDma (src l) (.here (dst l)) (.dma sem) (h1 l) (h2 l) (h3 l))) k) Φ)
  | 0, j, hj, src, dst, X, h1, h2, h3, hN, Dl, hD, k => by
    obtain rfl : j = n := by omega
    iintro ⟨HB, -⟩ Hk
    unfold seqAll
    iapply Hk; iexact HB
  | m + 1, j, hj, src, dst, X, h1, h2, h3, hN, Dl, hD, k => by
    rw [bigSep_succ]
    unfold seqAll
    iintro ⟨HB, Hr, Hrs⟩ Hk
    unfold ready arr owns
    icases Hr with ⟨⟨%Y, %fd, %hfd, Hd⟩, ⟨%fs, %hfs, Hs⟩⟩
    iapply (Transfers.wp_dmaBatch (defs := defs₀) (countersEmb) 𝒱₀ (tile d c s) none (Q := Φ) (src := src 0) (dst := dst 0) (hsrc := h1 0) (hdst := h2 0) (hsem := h3 0)
      (k := fun _ => seqAll m (fun l => Prog.lift (.enqueueDma (src l.succ) (.here (dst l.succ)) (.dma sem) (h1 l.succ) (h2 l.succ) (h3 l.succ))) k)
      (q := q) (fs := fs) (Sd := (dst 0).view.set) (fd := fd) (D := Dl) (j := j) (u := 0) (default : HIx 6) N (hN 0) subset_rfl (by omega) (Nat.zero_le _) ?_) $$ [Hd Hs HB]
    · refine BIBase.Entails.trans ?_ (hD 0)
      unfold landed arr owns
      iintro ⟨Hd, Hs⟩
      isplitl [Hd]
      · iexists _; isplitr; swap; · iexact Hd
        ipureintro; rw [View.read_write_univ]; exact hfs
      · iexists fs; isplitr; · ipureintro; exact hfs
        iexact Hs
    · isplitl [Hs]; · iexact Hs
      isplitl [Hd]; · iexact Hd
      iexact HB
    iintro HB
    iapply (wp_issues N m (j + 1) (by omega) (fun l => src l.succ) (fun l => dst l.succ) (fun l => X l.succ) (fun l => h1 l.succ) (fun l => h2 l.succ) (fun l => h3 l.succ)
      (fun l => hN l.succ) Dl (fun l => by
        have := hD l.succ
        simp only [Fin.val_succ] at this
        have e : (⟨j + (l.val + 1), by omega⟩ : Fin n) = ⟨j + 1 + l.val, by omega⟩ := Fin.ext (by simp only; omega)
        rw [← e]; exact this) k) $$ [HB Hrs]
    · isplitl [HB]; · iexact HB
      unfold ready arr owns; iexact Hrs
    iexact Hk

/-- The waits, all but the first `j` of them. -/
theorem wp_waits (N : ℕ) (hN0 : 0 < N) {sem : DmaSem sig} {O : CellTallies nD τ sig (HIx 6)} {W : Waits sig (HIx 6)} (Dl : Fin n → sProp 𝕄) :
    ∀ (m j : ℕ) (_ : j + (m + 1) = n)
      (src : Fin (m + 1) → Memref sig .scVector sp ⟨1, ![w]⟩ .i32) (dst : Fin (m + 1) → Memref sig .scVector sp' ⟨1, ![w]⟩ .i32)
      (h1 : ∀ l, (src l).view.WordExact) (h2 : ∀ l, (dst l).view.WordExact)
      (_ : ∀ l, (dst l).view.dmaCredit = N)
      (k : Prog (TpuEff nD τ sig (Elt F) Λ₀ (.scVector c s)) α),
      iprop(Transfers.Batch countersEmb (tile d c s) (.dma sem) (default : HIx 6) N Dl n (j * N) ∗ ow (tile d c s) O W ∗ Transfers.MayWaits (tile d c s) (default : HIx 6) O)
        ⊢ iprop((iprop(bigSep Finset.univ Dl ∗ semVal (tile d c s, .dma sem) 0 ∗ ow (tile d c s) O W) -∗ wp frame (wpE defs₀ 𝒱₀ (tile d c s) none) Set.univ k Φ)
          -∗ wp frame (wpE defs₀ 𝒱₀ (tile d c s) none) Set.univ
            (seqAll (m + 1) (fun l => Prog.lift (.waitDma2 sem (src l) (dst l) (h1 l) (h2 l))) k) Φ)
  | 0, j, hj, src, dst, h1, h2, hN, k => by
    unfold seqAll seqAll ow
    iintro ⟨HB, ⟨%W', %hW', HO⟩, #Hmw⟩ Hk
    iapply (Transfers.wp_waitBatchLastO (defs := defs₀) (countersEmb) 𝒱₀ (tile d c s) none (Q := Φ) (sem := sem) (srcw := src 0) (dstw := dst 0) (hsrc := h1 0) (hdst := h2 0)
      (k := fun _ => k) (default : HIx 6) (hN 0) hN0 (D := Dl) (u := j * N) (by rw [← hj]; ring) (O := O) (W := W')) $$ [HB HO]
    · isplitl [HB]; · iexact HB
      isplitl [HO]; · iexact HO
      iapply (Transfers.MayWaits.elim (SemLoc.dma sem)) $$ Hmw
    iintro ⟨HD, Hv, HO⟩
    iapply Hk
    isplitl [HD]; · iexact HD
    isplitl [Hv]; · iexact Hv
    iexists _; isplitr; swap; · iexact HO
    ipureintro; intro p hp
    rcases Finset.mem_insert.mp hp with hp | hp
    · exact .inr (hp ▸ rfl)
    · exact hW' p hp
  | m + 1, j, hj, src, dst, h1, h2, hN, k => by
    unfold seqAll ow
    iintro ⟨HB, ⟨%W', %hW', HO⟩, #Hmw⟩ Hk
    iapply (Transfers.wp_waitBatchO (defs := defs₀) (countersEmb) 𝒱₀ (tile d c s) none (Q := Φ) (sem := sem) (srcw := src 0) (dstw := dst 0) (hsrc := h1 0) (hdst := h2 0)
      (k := fun _ => seqAll (m + 1) (fun l => Prog.lift (.waitDma2 sem (src l.succ) (dst l.succ) (h1 l.succ) (h2 l.succ))) k)
      (default : HIx 6) (hN 0) (D := Dl) (u := j * N) (by rw [← hj]; ring_nf; nlinarith) (O := O) (W := W')) $$ [HB HO]
    · isplitl [HB]; · iexact HB
      isplitl [HO]; · iexact HO
      iapply (Transfers.MayWaits.elim (SemLoc.dma sem)) $$ Hmw
    iintro ⟨HB, HO⟩
    iapply (wp_waits N hN0 (O := O) (W := W) Dl m (j + 1) (by omega) (fun l => src l.succ) (fun l => dst l.succ) (fun l => h1 l.succ) (fun l => h2 l.succ) (fun l => hN l.succ) k) $$ [HB HO]
    · isplitl [HB]; · rw [Nat.succ_mul]; iexact HB
      isplitl [HO]
      · unfold ow
        iexists _; isplitr; swap; · iexact HO
        ipureintro; intro p hp
        rcases Finset.mem_insert.mp hp with hp | hp
        · exact .inr (hp ▸ rfl)
        · exact hW' p hp
      · iexact Hmw
    unfold ow
    iexact Hk

/-- Copies on one semaphore at zero, all started, then all waited for: every target holds its source. -/
theorem wp_copies (N : ℕ) (hN0 : 0 < N) {sem : DmaSem sig} {q : PosShare TreeShare} {O : CellTallies nD τ sig (HIx 6)} {W : Waits sig (HIx 6)} {m : ℕ}
    (src : Fin (m + 1) → Memref sig .scVector sp ⟨1, ![w]⟩ .i32) (dst : Fin (m + 1) → Memref sig .scVector sp' ⟨1, ![w]⟩ .i32) (X : Fin (m + 1) → ℕ → BitVec 32)
    {h1 : ∀ l, (src l).view.WordExact} {h2 : ∀ l, (dst l).view.WordExact} {h3 : ∀ l, DmaTarget.Typed (nD := nD) (p := .scVector c s) sp (.dma sem) (.here (dst l))}
    {h4 : ∀ l, (src l).view.WordExact} {h5 : ∀ l, (dst l).view.WordExact}
    (hN : ∀ l, (dst l).view.dmaCredit = N) {k : Prog (TpuEff nD τ sig (Elt F) Λ₀ (.scVector c s)) α} :
    iprop(semVal (tile d c s, .dma sem) 0 ∗ ow (tile d c s) O W ∗ Transfers.MayWaits (tile d c s) (default : HIx 6) O
        ∗ bigSep Finset.univ fun l => ready (t := tile d c s) (src l) (dst l) q (X l))
      ⊢ iprop((iprop((bigSep Finset.univ fun l => landed (t := tile d c s) (src l) (dst l) q (X l)) ∗ semVal (tile d c s, .dma sem) 0 ∗ ow (tile d c s) O W)
            -∗ wp frame (wpE defs₀ 𝒱₀ (tile d c s) none) Set.univ k Φ)
          -∗ wp frame (wpE defs₀ 𝒱₀ (tile d c s) none) Set.univ
            (seqAll (m + 1) (fun l => Prog.lift (.enqueueDma (src l) (.here (dst l)) (.dma sem) (h1 l) (h2 l) (h3 l)))
              (seqAll (m + 1) (fun l => Prog.lift (.waitDma2 sem (src l) (dst l) (h4 l) (h5 l))) k)) Φ) := by
  iintro ⟨Hv, HO, #Hmw, Hr⟩ Hk
  haveI : ∀ l, BI.Storable (upEmb : UEmb _ 𝕄) (landed (F := F) (t := tile d c s) (src l) (dst l) q (X l)) := fun l => landed_storable (t := tile d c s) _ _ _ _
  imod (Transfers.batch_alloc' (countersEmb) (c := tile d c s) (sm := .dma sem) (default : HIx 6) N (fun l => landed (F := F) (t := tile d c s) (src l) (dst l) q (X l)) (E := Set.univ)) $$ Hv with HB
  iapply (wp_issues (F := F) N (m + 1) 0 (Nat.zero_add _) src dst X h1 h2 h3 (fun l => hN l) (fun l => landed (t := tile d c s) (src l) (dst l) q (X l))
    (fun l => by
      have e : (⟨0 + l.val, by omega⟩ : Fin (m + 1)) = l := Fin.ext (by simp)
      simp only [e]; exact Entails.rfl)) $$ [HB Hr]
  · isplitl [HB]; · iexact HB
    iexact Hr
  iintro HB
  iapply (wp_waits (F := F) N hN0 (O := O) (W := W) (fun l => landed (t := tile d c s) (src l) (dst l) q (X l)) m 0 (Nat.zero_add _) src dst h4 h5 hN k) $$ [HB HO]
  · isplitl [HB]; · rw [Nat.zero_mul]; iexact HB
    isplitl [HO]; · iexact HO
    iexact Hmw
  iexact Hk

end Copies

end Cert.Proof

end
-- ==== Proof.Fetch.lean ====
/-
  The window copies: an array's pieces at disjoint places, lent out and given back; a buffer as its equal pieces; and the
  sixteen (or twice sixteen) copies of one window.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

section Carve

variable {sp : Space} {n : ℕ}

/-- `w` words of a memref from position `o` on. -/
abbrev piece {u : Kind} (m : Memref sig u sp ⟨1, ![n]⟩ .i32) (w : ℕ) (off : Fin 1 → ℕ) (inb : ∀ a, off a + (⟨1, ![w]⟩ : Shape).size a ≤ (⟨1, ![n]⟩ : Shape).size a) :
    Memref sig u sp ⟨1, ![w]⟩ .i32 :=
  m.slice (Rect.unit (s := ⟨1, ![n]⟩) off (⟨1, ![w]⟩ : Shape).size inb) (fun _ => rfl)

/-- Pieces at disjoint places lent out of an array, to be given back. -/
theorem arr_carve {t : Thread nD τ} {m : Memref sig t.2.kind sp ⟨1, ![n]⟩ .i32} {q : PosShare TreeShare} {A : ℕ → BitVec 32} {ι : Type} [Fintype ι] [DecidableEq ι] (w : ℕ)
    (off : ι → Fin 1 → ℕ) (inb : ∀ l a, off l a + (⟨1, ![w]⟩ : Shape).size a ≤ (⟨1, ![n]⟩ : Shape).size a) (o : ι → ℕ) (ho : ∀ l, off l = ![o l])
    (hd : ∀ l l', l ≠ l' → o l + w ≤ o l' ∨ o l' + w ≤ o l) :
    (arr t m q A : sProp 𝕄)
      ⊢ iprop((bigSep Finset.univ fun l => arr t (piece m w (off l) (inb l)) q fun j => A (o l + j))
        ∗ ((bigSep Finset.univ fun l => arr t (piece m w (off l) (inb l)) q fun j => A (o l + j)) -∗ arr t m q A)) := by
  obtain rfl : off = fun l => ![o l] := funext ho
  have hd' : ∀ l ∈ (Finset.univ : Finset ι), ∀ l' ∈ (Finset.univ : Finset ι), l ≠ l' → Disjoint (m.view.slice (Rect.unit (s := ⟨1, ![n]⟩) ![o l] (⟨1, ![w]⟩ : Shape).size (inb l))).set
      (m.view.slice (Rect.unit (s := ⟨1, ![n]⟩) ![o l'] (⟨1, ![w]⟩ : Shape).size (inb l'))).set := by
    intro l _ l' _ hll
    rw [View.set_slice, View.set_slice]
    exact (Finset.disjoint_map _).mpr (Rect.unit_disjoint 0 (hd l l' hll))
  unfold arr
  iintro H
  ihave H' := (show owns t m q (fun x => A (x 0).val : (⟨1, ![n]⟩ : Shape).Idx → Elt F .i32) ⊢ iprop(∃ g, ⌜m.view.read (Elt F) g = fun x => A (x 0).val⌝ ∗ m.view.loc t ↦[m.view.set]{q} g) from .rfl) $$ H
  icases H' with ⟨%g, %hg, H⟩
  have hp : ∀ l, (owns t (piece m w ![o l] (inb l)) q (fun x => A (o l + (x 0).val) : (⟨1, ![w]⟩ : Shape).Idx → Elt F .i32) : sProp 𝕄)
      = m.view.loc t ↦[(m.view.slice (Rect.unit (s := ⟨1, ![n]⟩) ![o l] (⟨1, ![w]⟩ : Shape).size (inb l))).set]{q} g := by
    intro l
    rw [← owns_slice_read t m q (Rect.unit (s := ⟨1, ![n]⟩) ![o l] (⟨1, ![w]⟩ : Shape).size (inb l)) (fun _ => rfl) g]
    unfold piece
    congr 1
    funext x
    rw [hg]
    show A _ = A (o l + 1 * (x 0).val)
    rw [Nat.one_mul]
  simp only [hp]
  rw [← pointsTo_biUnion _ _ hd']
  ihave H' := (pointsTo_split_subset (ℓ := m.view.loc t) (S := m.view.set) (show (Finset.univ : Finset ι).biUnion (fun l => (m.view.slice (Rect.unit (s := ⟨1, ![n]⟩) ![o l] (⟨1, ![w]⟩ : Shape).size (inb l))).set) ⊆ m.view.set from
    Finset.biUnion_subset.mpr fun l _ => View.set_slice_subset _ _)).1 $$ H
  icases H' with ⟨Hs, Hr⟩
  isplitl [Hs]; · iexact Hs
  iintro Hs
  ihave H := (pointsTo_split_subset (ℓ := m.view.loc t) (S := m.view.set) (show (Finset.univ : Finset ι).biUnion (fun l => (m.view.slice (Rect.unit (s := ⟨1, ![n]⟩) ![o l] (⟨1, ![w]⟩ : Shape).size (inb l))).set) ⊆ m.view.set from
    Finset.biUnion_subset.mpr fun l _ => View.set_slice_subset _ _)).2 $$ [Hs Hr]
  · isplitl [Hs] <;> iassumption
  unfold owns
  iexists g
  isplitr; · ipureintro; exact hg
  iexact H

theorem blocks_apart {k : ℕ} (w : ℕ) {l l' : Fin k} (h : l ≠ l') : w * l.val + w ≤ w * l'.val ∨ w * l'.val + w ≤ w * l.val := by
  have : l.val ≠ l'.val := fun e => h (Fin.ext e)
  rcases Nat.lt_or_gt_of_ne this with h | h
  · left; calc w * l.val + w = w * (l.val + 1) := by ring
      _ ≤ w * l'.val := Nat.mul_le_mul_left _ h
  · right; calc w * l'.val + w = w * (l'.val + 1) := by ring
      _ ≤ w * l.val := Nat.mul_le_mul_left _ h

/-- A buffer as its equal pieces: taken apart, -/
theorem arr_pieces {t : Thread nD τ} {m : Memref sig t.2.kind sp ⟨1, ![n]⟩ .i32} {q : PosShare TreeShare} {A : ℕ → BitVec 32} (k w : ℕ) (hn : n = k * w)
    (inb : ∀ (l : Fin k) a, (![w * l.val] : Fin 1 → ℕ) a + (⟨1, ![w]⟩ : Shape).size a ≤ (⟨1, ![n]⟩ : Shape).size a) :
    (arr t m q A : sProp 𝕄) ⊢ bigSep Finset.univ fun l : Fin k => arr t (piece m w ![w * l.val] (inb l)) q fun j => A (w * l.val + j) := by
  iintro H
  ihave H' := (arr_carve (F := F) (m := m) w (fun l : Fin k => ![w * l.val]) inb (fun l => w * l.val) (fun _ => rfl) (fun l l' h => blocks_apart w h)) $$ H
  icases H' with ⟨H, -⟩
  iexact H

/-- and put together, each piece at its own contents. -/
theorem arr_of_pieces [FloatOps F] {t : Thread nD τ} {m : Memref sig t.2.kind sp ⟨1, ![n]⟩ .i32} {q : PosShare TreeShare} (B : ℕ → ℕ → BitVec 32) (k w : ℕ) (hw : 0 < w) (hn : n = k * w)
    (inb : ∀ (l : Fin k) a, (![w * l.val] : Fin 1 → ℕ) a + (⟨1, ![w]⟩ : Shape).size a ≤ (⟨1, ![n]⟩ : Shape).size a) :
    (bigSep Finset.univ fun l : Fin k => arr t (piece m w ![w * l.val] (inb l)) q (B l.val) : sProp 𝕄)
      ⊢ arr t m q (fun j => B (j / w) (j % w)) := by
  have e : ∀ l : Fin k, (arr t (piece m w ![w * l.val] (inb l)) q (B l.val) : sProp 𝕄)
      = owns t (m.slice (Rect.unit (s := ⟨1, ![n]⟩) ![w * l.val] (⟨1, ![w]⟩ : Shape).size (inb l)) (fun _ => rfl)) q
        (fun j => (fun x => B ((x 0).val / w) ((x 0).val % w) : (⟨1, ![n]⟩ : Shape).Idx → Elt F .i32) ((Rect.unit (s := ⟨1, ![n]⟩) ![w * l.val] (⟨1, ![w]⟩ : Shape).size (inb l)).emb j)) := by
    intro l
    unfold arr piece
    congr 1
    funext x
    have hx : (x 0).val < w := (x 0).isLt
    show B l.val (x 0).val = B ((w * l.val + 1 * (x 0).val) / w) ((w * l.val + 1 * (x 0).val) % w)
    rw [Nat.one_mul, Nat.mul_add_div hw, Nat.div_eq_of_lt hx, Nat.mul_add_mod, Nat.mod_eq_of_lt hx]
    rfl
  simp only [e]
  refine owns_of_rects (Val := Elt F) t m q (fun l : Fin k => Rect.unit (s := ⟨1, ![n]⟩) ![w * l.val] (⟨1, ![w]⟩ : Shape).size (inb l)) (fun _ _ => rfl) ?_ ?_
      (fun x => B ((x 0).val / w) ((x 0).val % w) : (⟨1, ![n]⟩ : Shape).Idx → Elt F .i32)
  · intro l l' hll
    exact Rect.unit_disjoint 0 (blocks_apart w hll)
  · refine Finset.eq_univ_iff_forall.mpr fun y => ?_
    have hy : (y 0).val < n := (y 0).isLt
    refine Finset.mem_biUnion.mpr ⟨⟨(y 0).val / w, Nat.div_lt_of_lt_mul (by rw [Nat.mul_comm, ← hn]; exact hy)⟩, Finset.mem_univ _, ?_⟩
    refine Rect.mem_set_unit.mpr fun a => ?_
    have : a = 0 := Subsingleton.elim _ _
    subst this
    have h1 := Nat.div_add_mod (y 0).val w
    have h2 := Nat.mod_lt (y 0).val hw
    show w * ((y 0).val / w) ≤ (y 0).val ∧ (y 0).val < w * ((y 0).val / w) + w
    omega

end Carve

section Window

variable [FloatOps F] {d : Dev nD} {c : Fin τ.nSC} {s : Fin τ.nSub} {α : Type} {Φ : α → sProp (MT nD τ sig (HIx 6) (Elt F) ℕ UU ℕ)}

/-- Copies of 160 words out of long arrays into places of window buffers, all started and then all waited for. -/
def fetch {m : ℕ} (ks : Fin (m + 1) → Memref sig .scVector .hbm S20480000 .i32) (kb : Fin (m + 1) → Memref sig .scVector .vmem S2560 .i32) (sem : DmaSem sig)
    (off : Fin (m + 1) → Fin 1 → ℕ) (inb : ∀ l a, off l a + S160.size a ≤ S20480000.size a)
    (pos : Fin (m + 1) → ℕ) (inbp : ∀ l a, (![pos l] : Fin 1 → ℕ) a + S160.size a ≤ S2560.size a)
    (k : Prog (TpuEff nD τ sig (Elt F) Λ₀ (.scVector c s)) α) : Prog (TpuEff nD τ sig (Elt F) Λ₀ (.scVector c s)) α :=
  seqAll (m + 1) (fun l => Prog.lift (.enqueueDma (piece (ks l) 160 (off l) (inb l)) (.here (piece (kb l) 160 ![pos l] (inbp l))) (.dma sem) (View.wordExact_bits rfl) (View.wordExact_bits rfl) ⟨Or.inl rfl, trivial⟩))
    (seqAll (m + 1) (fun l => Prog.lift (.waitDma2 sem (piece (ks l) 160 (off l) (inb l)) (piece (kb l) 160 ![pos l] (inbp l)) (View.wordExact_bits rfl) (View.wordExact_bits rfl))) k)

theorem bigSep_two {ι : Type} [Fintype ι] (P Q : ι → sProp 𝕄) : (bigSep Finset.univ fun l => iprop(P l ∗ Q l)) = iprop(bigSep Finset.univ P ∗ bigSep Finset.univ Q) :=
  bigSep_sep _ _ _

/-- Targets held at anything and sources held: ready to copy. -/
theorem ready_of {t : Thread nD τ} {sp sp' : Space} {w : ℕ} {ι : Type} [Fintype ι] (src : ι → Memref sig t.2.kind sp ⟨1, ![w]⟩ .i32) (dst : ι → Memref sig t.2.kind sp' ⟨1, ![w]⟩ .i32)
    (q : PosShare TreeShare) (X Y : ι → ℕ → BitVec 32) :
    iprop((bigSep Finset.univ fun l => arr t (dst l) fullShare (Y l)) ∗ bigSep Finset.univ fun l => arr t (src l) q (X l))
      ⊢ (bigSep Finset.univ fun l => ready (src l) (dst l) q (X l) : sProp 𝕄) := by
  rw [← bigSep_two]
  have h : ∀ l, iprop(arr t (dst l) fullShare (Y l) ∗ arr t (src l) q (X l)) ⊢ (ready (src l) (dst l) q (X l) : sProp 𝕄) := by
    intro l
    unfold ready
    iintro ⟨H, Hs⟩
    isplitl [H]
    · iexists _; iexact H
    · iexact Hs
  exact bigSep_mono fun l _ => h l

theorem inb_lane (l : Fin 16) : ∀ a, (![160 * l.val] : Fin 1 → ℕ) a + S160.size a ≤ S2560.size a := fun a => by
  have : a = 0 := Subsingleton.elim _ _
  subst this
  show 160 * l.val + 160 ≤ 2560
  omega

/-- Sixteen landed pieces are the window. -/
theorem arr_of_lanes {t : Thread nD τ} {kb : Memref sig t.2.kind .vmem S2560 .i32} {inbp : ∀ (l : Fin 16) a, (![160 * l.val] : Fin 1 → ℕ) a + S160.size a ≤ S2560.size a} (o : Fin 16 → ℕ) (A B : ℕ → BitVec 32) (hB : ∀ (l : Fin 16) j, j < 160 → B (160 * l.val + j) = A (o l + j)) :
    (bigSep Finset.univ fun l : Fin 16 => arr t (piece kb 160 ![160 * l.val] (inbp l)) fullShare fun j => A (o l + j)) ⊢ (arr t kb fullShare B : sProp 𝕄) := by
  iintro Hkb
  ihave H := (arr_of_pieces (F := F) (t := t) (m := kb) (q := fullShare) (fun l j => if h : l < 16 then A (o ⟨l, h⟩ + j) else 0) 16 160 (by omega) rfl inbp) $$ [Hkb]
  · simp only [Fin.is_lt, ↓reduceDIte, Fin.eta]
    iexact Hkb
  have e : (arr t kb fullShare (fun j => if h : j / 160 < 16 then A (o ⟨j / 160, h⟩ + j % 160) else 0) : sProp 𝕄) = arr t kb fullShare B :=
    arr_congr fun i hi => by
      have h1 : i / 160 < 16 := by have : i < 2560 := hi; omega
      simp only [h1, ↓reduceDIte]
      rw [← hB ⟨i / 160, h1⟩ (i % 160) (Nat.mod_lt _ (by omega)), Nat.div_add_mod]
  rw [← e]
  iexact H

/-- The window of one array: sixteen pieces of it side by side. -/
theorem wp_fetch16 {ks : Memref sig .scVector .hbm S20480000 .i32} {kb : Memref sig .scVector .vmem S2560 .i32} {sem : DmaSem sig} {off : Fin 16 → Fin 1 → ℕ} {inb}
    {inbp} {O : CellTallies nD τ sig (HIx 6)} {W : Waits sig (HIx 6)} {q : PosShare TreeShare} {A : ℕ → BitVec 32}
    (o : Fin 16 → ℕ) (ho : ∀ l, off l = ![o l]) (hd : ∀ l l', l ≠ l' → o l + 160 ≤ o l' ∨ o l' + 160 ≤ o l) (B : ℕ → BitVec 32)
    (hB : ∀ (l : Fin 16) j, j < 160 → B (160 * l.val + j) = A (o l + j)) {k : Prog (TpuEff nD τ sig (Elt F) Λ₀ (.scVector c s)) α} :
    iprop(semVal (tile d c s, .dma sem) 0 ∗ ow (tile d c s) O W ∗ Transfers.MayWaits (tile d c s) (default : HIx 6) O
        ∗ arr (tile d c s) ks q A ∗ ∃ B₀, arr (tile d c s) kb fullShare B₀)
      ⊢ iprop((iprop(semVal (tile d c s, .dma sem) 0 ∗ ow (tile d c s) O W ∗ arr (tile d c s) ks q A ∗ arr (tile d c s) kb fullShare B)
            -∗ wp frame (wpE defs₀ 𝒱₀ (tile d c s) none) Set.univ k Φ)
          -∗ wp frame (wpE defs₀ 𝒱₀ (tile d c s) none) Set.univ (fetch (m := 15) (fun _ => ks) (fun _ => kb) sem off inb (fun l => 160 * l.val) inbp k) Φ : sProp 𝕄) := by
  iintro ⟨Hv, HO, #Hmw, Hks, %B₀, Hkb⟩ Hk
  ihave Hks := (arr_carve (F := F) (t := tile d c s) (m := ks) (q := q) (A := A) 160 off inb o ho hd) $$ Hks
  icases Hks with ⟨Hks, Hback⟩
  ihave Hkb := (arr_pieces (F := F) (t := tile d c s) (m := kb) (q := fullShare) (A := B₀) 16 160 rfl inbp) $$ Hkb
  unfold fetch
  iapply (wp_copies (F := F) (Φ := Φ) (sig.dmaCredit .scVector (Kind.scVector.table .vmem) kb.view.buf S160 .i32) (sig.dmaCredit_pos _ _ _ _ _ (by decide)) (sem := sem) (q := q) (O := O) (W := W) (m := 15) (fun l => piece ks 160 (off l) (inb l)) (fun l => piece kb 160 ![160 * l.val] (inbp l))
    (fun l j => A (o l + j)) (fun _ => rfl)) $$ [Hv HO Hks Hkb]
  · isplitl [Hv]; · iexact Hv
    isplitl [HO]; · iexact HO
    isplitr; · iexact Hmw
    iapply (ready_of (F := F) (t := tile d c s) (fun l : Fin 16 => piece ks 160 (off l) (inb l)) (fun l : Fin 16 => piece kb 160 ![160 * l.val] (inbp l)) q (fun l j => A (o l + j))
      (fun l j => B₀ (160 * l.val + j))) $$ [Hks Hkb]
    isplitl [Hkb] <;> iassumption
  unfold landed
  rw [bigSep_two]
  iintro ⟨⟨Hkb, Hks⟩, Hv, HO⟩
  iapply Hk
  isplitl [Hv]; · iexact Hv
  isplitl [HO]; · iexact HO
  isplitl [Hks Hback]
  · iapply Hback; iexact Hks
  iapply (arr_of_lanes (F := F) o A B hB) $$ Hkb

end Window

end Cert.Proof

end
-- ==== Proof.Words.lean ====
/-
  What the bodies compute on words: positions in the window buffers and the bins, counts as words, a vector stored into
  an array; and the rules that go with them.
-/
module

public import proofs.«01_k».proof.Proof.Fetch
public import proofs.«01_k».proof.Proof.Math

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

/-- A count as a word. -/
abbrev wd (n : ℕ) : BitVec 32 := BitVec.ofNat 32 n

theorem wd_add (m n : ℕ) : wd m + wd n = wd (m + n) := by simp [wd, BitVec.ofNat_add]

theorem wd_toNat {n : ℕ} (h : n < 2 ^ 32) : (wd n).toNat = n := by rw [wd, BitVec.toNat_ofNat, Nat.mod_eq_of_lt h]

/-- The numbers of the lanes. -/
abbrev lanes : IVec S16 32 := iota .scVector S16 32 [0] iota_S16_d0_w32_scVector

theorem lanes_apply (x : S16.Idx) : lanes x = wd (x 0).val := by
  show BitVec.ofNat 32 (0 * 16 + (x 0).val) = _
  simp

/-- Word `t` of every lane's part of a window. -/
abbrev atWin (t : ℕ) : IVec S16 32 := addi (muli lanes (broadcast S16 160#32)) (broadcast S16 (Scf.iv 0#32 1#32 t))

theorem iv_eq (t : ℕ) : Scf.iv (0#32) (1#32) t = wd t := by simp [Scf.iv]

theorem atWin_toNat {t : ℕ} (ht : t < 160) (x : S16.Idx) : (atWin t x).toNat = 160 * (x 0).val + t := by
  have hx : (x 0).val < 16 := (x 0).isLt
  show (lanes x * 160#32 + Scf.iv 0#32 1#32 t).toNat = _
  rw [lanes_apply, iv_eq, show (160#32 : BitVec 32) = wd 160 from rfl, wd, wd, ← BitVec.ofNat_mul, wd_add, wd_toNat (by omega)]
  ring

/-- The digits of sixteen keys, from bit `sh` on. -/
abbrev digits (sh : BitVec 32) (kv : IVec S16 32) : IVec S16 32 := andi (shrui kv (broadcast S16 sh)) (broadcast S16 2047#32)

theorem digits_toNat {sh : ℕ} (hsh : sh < 32) (kv : IVec S16 32) (x : S16.Idx) : (digits (wd sh) kv x).toNat = (kv x).toNat / 2 ^ sh % 2048 := by
  show (IntOp.andi (IntOp.shrui .vector (kv x) (wd sh)) 2047#32).toNat = _
  unfold IntOp.andi IntOp.shrui
  rw [wd_toNat (by omega), if_pos hsh, BitVec.toNat_and]
  show ((kv x) >>> (wd sh)).toNat &&& (2 ^ 11 - 1) = _
  rw [Nat.and_two_pow_sub_one_eq_mod, BitVec.ushiftRight_eq', BitVec.toNat_ushiftRight, wd_toNat (by omega), Nat.shiftRight_eq_div_pow]

/-- The bins of the lanes' digits. -/
abbrev atBin (dv : IVec S16 32) : IVec S16 32 := addi (muli lanes (broadcast S16 2048#32)) dv

theorem atBin_toNat {dv : IVec S16 32} (x : S16.Idx) {b : ℕ} (h : (dv x).toNat = b) (hb : b < 2048) : (atBin dv x).toNat = 2048 * (x 0).val + b := by
  have hx : (x 0).val < 16 := (x 0).isLt
  show (lanes x * 2048#32 + dv x).toNat = _
  have e : dv x = wd b := by apply BitVec.eq_of_toNat_eq; rw [h, wd_toNat (by omega)]
  rw [e, lanes_apply, show (2048#32 : BitVec 32) = wd 2048 from rfl, wd, wd, ← BitVec.ofNat_mul, wd_add, wd_toNat (by omega)]
  ring

/-- Sixteen words stored from position `o` on. -/
def upd (A : ℕ → BitVec 32) (o : ℕ) (v : IVec S16 32) : ℕ → BitVec 32 :=
  fun i => if h : o ≤ i ∧ i < o + 16 then v (fun a => ⟨i - o, by have : a = 0 := Subsingleton.elim _ _; subst this; show i - o < 16; omega⟩) else A i

theorem upd_in (A : ℕ → BitVec 32) (o : ℕ) (v : IVec S16 32) (x : S16.Idx) : upd A o v (o + (x 0).val) = v x := by
  have hx : (x 0).val < 16 := (x 0).isLt
  unfold upd
  rw [dif_pos (by omega)]
  congr 1; funext a
  have : a = 0 := Subsingleton.elim _ _
  subst this
  apply Fin.ext; show o + (x 0).val - o = (x 0).val; omega

theorem upd_out (A : ℕ → BitVec 32) (o : ℕ) (v : IVec S16 32) (i : ℕ) (h : i < o ∨ o + 16 ≤ i) : upd A o v i = A i := by
  unfold upd; rw [dif_neg (by omega)]

/-- Positions `o` to `o + 15` are the lanes. -/
theorem upd_of (A : ℕ → BitVec 32) (o : ℕ) (v : IVec S16 32) (i : ℕ) (h : o ≤ i ∧ i < o + 16) : ∃ x : S16.Idx, i = o + (x 0).val ∧ upd A o v i = v x :=
  ⟨fun a => ⟨i - o, by have : a = 0 := Subsingleton.elim _ _; subst this; show i - o < 16; omega⟩, by show i = o + (i - o); omega, by
    unfold upd; rw [dif_pos h]⟩

/-- The first `N` words new, the others old. -/
def mix (N : ℕ) (A B : ℕ → BitVec 32) : ℕ → BitVec 32 := fun i => if i < N then A i else B i

theorem mix_zero (A B : ℕ → BitVec 32) : mix 0 A B = B := by funext i; simp [mix]

theorem mix_lt {N i : ℕ} (A B : ℕ → BitVec 32) (h : i < N) : mix N A B i = A i := if_pos h

theorem mix_ge {N i : ℕ} (A B : ℕ → BitVec 32) (h : N ≤ i) : mix N A B i = B i := if_neg (by omega)

theorem arr_mix {n N : ℕ} {sp : Space} {t : Thread nD τ} {m : Memref sig t.2.kind sp ⟨1, ![n]⟩ .i32} {q : PosShare TreeShare} {A B : ℕ → BitVec 32} (h : n ≤ N) :
    (arr t m q (mix N A B) : sProp 𝕄) = arr t m q A := arr_congr fun _ hi => mix_lt A B (by omega)

theorem of_mix {n N : ℕ} {sp : Space} {t : Thread nD τ} {m : Memref sig t.2.kind sp ⟨1, ![n]⟩ .i32} {q : PosShare TreeShare} {A B : ℕ → BitVec 32} (h : n ≤ N) :
    (arr t m q (mix N A B) : sProp 𝕄) ⊢ arr t m q A := by rw [arr_mix h]

section Rules

variable [FloatOps F] {d : Dev nD} {c : Fin τ.nSC} {s : Fin τ.nSub} {α : Type} {Φ : α → sProp (MT nD τ sig (HIx 6) (Elt F) ℕ UU ℕ)} {n : ℕ}

/-- A store of sixteen words. -/
theorem wp_put {m : Memref sig .scVector .vmem ⟨1, ![n]⟩ .i32} {off : Fin 1 → ℕ} {o : ℕ}
    {inb : ∀ a, off a + S16.size a ≤ (⟨1, ![n]⟩ : Shape).size a} {hx hm} {A : ℕ → BitVec 32} {v : Vec F S16 .i32}
    {k : PUnit → Prog (TpuEff nD τ sig (Elt F) Λ₀ (.scVector c s)) α} (ho : off = ![o]) :
    (arr (tile d c s) m fullShare A : sProp 𝕄)
      ⊢ iprop((arr (tile d c s) m fullShare (upd A o v) -∗ wp frame (wpE defs₀ 𝒱₀ (tile d c s) none) Set.univ (k ⟨⟩) Φ)
        -∗ wp frame (wpE defs₀ 𝒱₀ (tile d c s) none) Set.univ
          (Prog.lift (.store m (Rect.unit (s := ⟨1, ![n]⟩) off S16.size inb) v Finset.univ hx hm) >>= k) Φ) :=
  wp_store1 ho _ (fun x => (upd_in A o v x).symm) fun i _ h => upd_out A o v i h

/-- A store of the next sixteen new words. -/
theorem wp_putMix {m : Memref sig .scVector .vmem ⟨1, ![n]⟩ .i32} {off : Fin 1 → ℕ} {o : ℕ}
    {inb : ∀ a, off a + S16.size a ≤ (⟨1, ![n]⟩ : Shape).size a} {hx hm} {A B : ℕ → BitVec 32} {v : Vec F S16 .i32}
    {k : PUnit → Prog (TpuEff nD τ sig (Elt F) Λ₀ (.scVector c s)) α} (ho : off = ![o]) (hv : ∀ x : S16.Idx, v x = A (o + (x 0).val)) :
    (arr (tile d c s) m fullShare (mix o A B) : sProp 𝕄)
      ⊢ iprop((arr (tile d c s) m fullShare (mix (o + 16) A B) -∗ wp frame (wpE defs₀ 𝒱₀ (tile d c s) none) Set.univ (k ⟨⟩) Φ)
        -∗ wp frame (wpE defs₀ 𝒱₀ (tile d c s) none) Set.univ
          (Prog.lift (.store m (Rect.unit (s := ⟨1, ![n]⟩) off S16.size inb) v Finset.univ hx hm) >>= k) Φ) :=
  wp_store1 ho _ (fun x => by rw [hv, mix_lt _ _ (by have : (x 0).val < 16 := (x 0).isLt; omega)]) fun i _ h => by unfold mix; split <;> split <;> first | rfl | omega

/-- A counted loop of a known number of rounds, then the rest. -/
theorem wp_loop {σ : Type} (lp : Scf.Loop 32) (hok : lp.OK) (N : ℕ) (hN : lp.trips = N) (init : σ) (body : Fin lp.trips → σ → Prog (TpuEff nD τ sig (Elt F) Λ₀ (.scVector c s)) σ)
    (I : ℕ → σ → sProp 𝕄) (hbody : ∀ (k : Fin lp.trips) (_ : k.val < N) (acc : σ), I k.val acc ⊢ wp frame (wpE defs₀ 𝒱₀ (tile d c s) none) Set.univ (body k acc) (I (k.val + 1)))
    {kk : σ → Prog (TpuEff nD τ sig (Elt F) Λ₀ (.scVector c s)) α} :
    I 0 init ⊢ iprop((∀ acc, I N acc -∗ wp frame (wpE defs₀ 𝒱₀ (tile d c s) none) Set.univ (kk acc) Φ)
      -∗ wp frame (wpE defs₀ 𝒱₀ (tile d c s) none) Set.univ (Scf.Loop.for lp hok init body >>= kk) Φ) := by
  subst hN
  exact Scf.wp_for_bind frame (wpE defs₀ 𝒱₀ (tile d c s) none) Set.univ lp.lb lp.ub lp.st hok init body I fun k acc => hbody k k.isLt acc

theorem wp_done {σ : Type} (a : σ) {Q : σ → sProp 𝕄} : Q a ⊢ (wp frame (wpE defs₀ 𝒱₀ (tile d c s) none) Set.univ (pure a) Q : sProp 𝕄) := by
  rw [wp_pure]; iintro H; imodintro; iexact H

end Rules

end Cert.Proof

end
-- ==== Proof.Hist.lean ====
/-
  The counting kernel, once for the three passes: cut into its phases, and each pass's program is this one at its shift.
-/
module

public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F]

section Text

variable {c : Fin τ.nSC} {s : Fin τ.nSub}

/-- Every bin cleared. -/
def histZero (hist : Memref sig .scVector .vmem S32768 .i32) : Prog (TpuEff nD τ sig (Elt F) Λ₀ (.scVector c s)) (BitVec 32) :=
  Scf.Loop.for k0_t1_loop k0_t1_ok 0#32 fun t _ => do
    let _ : Vec F S16 .i32 ← Prog.lift (.load hist (Rect.unit (s := S32768) (k0_off1 t) S16.size (k0_off1_inb t)).toLoadRect (View.loadsAt_vmem h_S16))
    Prog.lift (.store hist (Rect.unit (s := S32768) (k0_off1 t) S16.size (k0_off1_inb t)) (broadcast S16 0#32) Finset.univ (View.stores_vmem_bits_univ h_S16 rfl) (.inl rfl))
    pure 0#32

/-- One window counted. -/
def histCount (sh : BitVec 32) (kbuf : Memref sig .scVector .vmem S2560 .i32) (hist : Memref sig .scVector .vmem S32768 .i32) :
    Prog (TpuEff nD τ sig (Elt F) Λ₀ (.scVector c s)) (BitVec 32) :=
  Scf.Loop.for k0_t3_loop k0_t3_ok 0#32 fun t _ => do
    have hw1 : k0_chk1 (atWin t.val) := (← Prog.lift (TpuEff.assume (k0_chk1 (atWin t.val)) (k0_chk1.dec (atWin t.val)))).down
    let kv : Vec F S16 .i32 ← SparseCore.vectorLoadIdx kbuf ![atWin t.val] (k0_idx1_inb (atWin t.val) hw1) (View.loads_vmem h_S2560)
    have hw2 : k0_chk2 (atBin (digits sh kv)) := (← Prog.lift (TpuEff.assume (k0_chk2 (atBin (digits sh kv))) (k0_chk2.dec (atBin (digits sh kv))))).down
    SparseCore.vectorStoreIdx hist ![atBin (digits sh kv)] (broadcast S16 1#32) (fun _ => 1#1) true (k0_idx2_inb (atBin (digits sh kv)) hw2) (View.stores_vmem_bits_univ h_S32768 rfl)
    pure 0#32

/-- The lanes' counts added up. -/
def histSum (hist : Memref sig .scVector .vmem S32768 .i32) (hw : Memref sig .scVector .vmem S2048 .i32) : Prog (TpuEff nD τ sig (Elt F) Λ₀ (.scVector c s)) (BitVec 32) :=
  Scf.Loop.for k0_t4_loop k0_t4_ok 0#32 fun t4 _ => do
    let acc : IVec S16 32 ← Scf.Loop.for k0_t5_loop k0_t5_ok (broadcast S16 0#32 : IVec S16 32) fun t5 a => do
      let v : Vec F S16 .i32 ← Prog.lift (.load hist (Rect.unit (s := S32768) (k0_off4 t4 t5) S16.size (k0_off4_inb t4 t5)).toLoadRect (View.loadsAt_vmem h_S16))
      pure (addi a v)
    let _ : Vec F S16 .i32 ← Prog.lift (.load hw (Rect.unit (s := S2048) (k0_off5 t4) S16.size (k0_off5_inb t4)).toLoadRect (View.loadsAt_vmem h_S16))
    Prog.lift (.store hw (Rect.unit (s := S2048) (k0_off5 t4) S16.size (k0_off5_inb t4)) acc Finset.univ (View.stores_vmem_bits_univ h_S16 rfl) (.inl rfl))
    pure 0#32

end Text

/-- One copy, waited for at once. -/
def copyNow {c : Fin τ.nSC} {s : Fin τ.nSub} {sp sp' : Space} {w : ℕ} {α : Type} (src : Memref sig .scVector sp ⟨1, ![w]⟩ .i32) (dst : Memref sig .scVector sp' ⟨1, ![w]⟩ .i32) (sem : DmaSem sig)
    (h1 : src.view.WordExact) (h2 : dst.view.WordExact) (h3 : DmaTarget.Typed (nD := nD) (p := .scVector c s) sp (.dma sem) (.here dst))
    (k : Prog (TpuEff nD τ sig (Elt F) Λ₀ (.scVector c s)) α) : Prog (TpuEff nD τ sig (Elt F) Λ₀ (.scVector c s)) α :=
  seqAll 1 (fun _ => Prog.lift (.enqueueDma src (.here dst) (.dma sem) h1 h2 h3)) (seqAll 1 (fun _ => Prog.lift (.waitDma2 sem src dst h1 h2)) k)

/-- The row of a tile, as a flat array. -/
abbrev rowL (m : Memref sig .scVector .hbm S32x32768 .i32) (i : grid0.Coords) : Memref sig .scVector .hbm S32768 .i32 :=
  (m.slice (Rect.unit (s := S32x32768) (k0_off3 i) S1x32768.size (k0_off3_inb i)) (fun _ => rfl)).squeeze S32768 squeezes_S1x32768_S32768

abbrev rowW (m : Memref sig .scVector .hbm S32x2048 .i32) (i : grid0.Coords) : Memref sig .scVector .hbm S2048 .i32 :=
  (m.slice (Rect.unit (s := S32x2048) (k0_off6 i) S1x2048.size (k0_off6_inb i)) (fun _ => rfl)).squeeze S2048 squeezes_S1x2048_S2048

/-- The counting kernel. -/
def histK (sh : BitVec 32) (i : grid0.Coords) (keys : Memref sig .scVector .hbm S20480000 .i32) (hL : Memref sig .scVector .hbm S32x32768 .i32) (hW : Memref sig .scVector .hbm S32x2048 .i32)
    (kbuf : Memref sig .scVector .vmem S2560 .i32) (hist : Memref sig .scVector .vmem S32768 .i32) (hhist : hist.IsWhole) (hw : Memref sig .scVector .vmem S2048 .i32) (hhw : hw.IsWhole)
    (sem r0 r1 : DmaSems sig S_) : Prog (TpuEff nD τ sig (Elt F) Λ₀ (.scVector ((i 0).castLE hcore0) ((i 1).castLE hsub0))) PUnit := do
  let _ ← histZero hist
  let _ ← Scf.Loop.for k0_t2_loop k0_t2_ok 0#32 fun t _ =>
    fetch (m := 15) (fun _ => keys) (fun _ => kbuf) sem.sem (fun l => k0_off2 i t (BitVec.ofNat 32 (40000 * l.val))) (fun l => k0_off2_inb i t l) (fun l => 160 * l.val) inb_lane do
      let _ ← histCount sh kbuf hist
      pure 0#32
  copyNow hist (rowL hL i) r0.sem hhist.wordExact ((View.wordExact_bits rfl).reshape _ _) ⟨Or.inl rfl, trivial⟩ do
    let _ ← histSum hist hw
    copyNow hw (rowW hW i) r1.sem hhw.wordExact ((View.wordExact_bits rfl).reshape _ _) ⟨Or.inl rfl, trivial⟩ (pure ⟨⟩)

theorem cc0_eq (i : grid0.Coords) (a2 : Memref sig .scVector .hbm S20480000 .i32) (h2 : a2.IsWhole) (a3 : Memref sig .scVector .hbm S32x32768 .i32) (h3 : a3.IsWhole)
    (a4 : Memref sig .scVector .hbm S32x2048 .i32) (h4 : a4.IsWhole) (a5 : Memref sig .scVector .vmem S2560 .i32) (h5 : a5.IsWhole) (a6 : Memref sig .scVector .vmem S32768 .i32) (h6 : a6.IsWhole)
    (a7 : Memref sig .scVector .vmem S2048 .i32) (h7 : a7.IsWhole) (s0 r0 r1 : DmaSems sig S_) :
    cc0_hist_kernel (F := F) i a2 h2 a3 h3 a4 h4 a5 h5 a6 h6 a7 h7 s0 r0 r1 = histK 0#32 i a2 a3 a4 a5 a6 h6 a7 h7 s0 r0 r1 := by
  unfold cc0_hist_kernel k0_part6 k0_part1 k0_part2 k0_part3 k0_part4 k0_part5
  simp only [bind_assoc, pure_bind]
  rfl

theorem cc2_eq (i : grid0.Coords) (a2 : Memref sig .scVector .hbm S20480000 .i32) (h2 : a2.IsWhole) (a3 : Memref sig .scVector .hbm S32x32768 .i32) (h3 : a3.IsWhole)
    (a4 : Memref sig .scVector .hbm S32x2048 .i32) (h4 : a4.IsWhole) (a5 : Memref sig .scVector .vmem S2560 .i32) (h5 : a5.IsWhole) (a6 : Memref sig .scVector .vmem S32768 .i32) (h6 : a6.IsWhole)
    (a7 : Memref sig .scVector .vmem S2048 .i32) (h7 : a7.IsWhole) (s0 r0 r1 : DmaSems sig S_) :
    cc2_hist_kernel (F := F) i a2 h2 a3 h3 a4 h4 a5 h5 a6 h6 a7 h7 s0 r0 r1 = histK 11#32 i a2 a3 a4 a5 a6 h6 a7 h7 s0 r0 r1 := by
  unfold cc2_hist_kernel k2_part6 k2_part1 k2_part2 k2_part3 k2_part4 k2_part5
  simp only [bind_assoc, pure_bind]
  rfl

theorem cc4_eq (i : grid0.Coords) (a2 : Memref sig .scVector .hbm S20480000 .i32) (h2 : a2.IsWhole) (a3 : Memref sig .scVector .hbm S32x32768 .i32) (h3 : a3.IsWhole)
    (a4 : Memref sig .scVector .hbm S32x2048 .i32) (h4 : a4.IsWhole) (a5 : Memref sig .scVector .vmem S2560 .i32) (h5 : a5.IsWhole) (a6 : Memref sig .scVector .vmem S32768 .i32) (h6 : a6.IsWhole)
    (a7 : Memref sig .scVector .vmem S2048 .i32) (h7 : a7.IsWhole) (s0 r0 r1 : DmaSems sig S_) :
    cc4_hist_kernel (F := F) i a2 h2 a3 h3 a4 h4 a5 h5 a6 h6 a7 h7 s0 r0 r1 = histK 22#32 i a2 a3 a4 a5 a6 h6 a7 h7 s0 r0 r1 := by
  unfold cc4_hist_kernel k4_part6 k4_part1 k4_part2 k4_part3 k4_part4 k4_part5
  simp only [bind_assoc, pure_bind]
  rfl

end Cert.Proof

end
-- ==== Proof.HistRun.lean ====
/-
  The counting kernel run by one tile: what its rows hold afterwards.
-/
module

public import proofs.«01_k».proof.Proof.Hist

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD} {c : Fin τ.nSC} {s : Fin τ.nSub} {α : Type} {Φ : α → sProp (MT nD τ sig (HIx 6) (Elt F) ℕ UU ℕ)}

/-- The digits of the keys at bit `sh`. -/
abbrev kd (sh : ℕ) (Kf : ℕ → BitVec 32) : ℕ → ℕ := dig (fun e => (Kf e).toNat) (2 ^ sh)

theorem kd_lt (sh : ℕ) (Kf : ℕ → BitVec 32) (e : ℕ) : kd sh Kf e < 2048 := Nat.mod_lt _ (by omega)

/-- Lane `l`'s count of digit `b` after `n` of its words, as a flat array of lane and bin; the tile's words start at `o`. -/
def laneCnt (D : ℕ → ℕ) (o n j : ℕ) : BitVec 32 := wd (cnt D (j % 2048) (o + 40000 * (j / 2048) + n) - cnt D (j % 2048) (o + 40000 * (j / 2048)))

/-- A tile's count of digit `b`. -/
def tileCnt (D : ℕ → ℕ) (o b : ℕ) : BitVec 32 := wd (cnt D b (o + 640000) - cnt D b o)

/-- A tile's window of an array: sixteen lanes' parts. -/
def win (A : ℕ → BitVec 32) (o n j : ℕ) : BitVec 32 := A (o + 40000 * (j / 160) + n + j % 160)

theorem laneCnt_zero (D : ℕ → ℕ) (o : ℕ) : laneCnt D o 0 = fun _ => 0#32 := by funext j; simp [laneCnt]

/-- One more word of every lane: the lanes' bins go up by one. -/
theorem laneCnt_succ (D : ℕ → ℕ) (o n j : ℕ) :
    laneCnt D o (n + 1) j = laneCnt D o n j + if D (o + 40000 * (j / 2048) + n) = j % 2048 then 1#32 else 0#32 := by
  unfold laneCnt
  have h := cnt_succ (d := D) (j % 2048) (o + 40000 * (j / 2048) + n)
  have hm := cnt_mono (d := D) (j % 2048) (show o + 40000 * (j / 2048) ≤ o + 40000 * (j / 2048) + n by omega)
  rw [show o + 40000 * (j / 2048) + (n + 1) = o + 40000 * (j / 2048) + n + 1 by omega, h]
  split
  · rw [show (1#32 : BitVec 32) = wd 1 from rfl, wd_add]; congr 1; omega
  · rw [show (0#32 : BitVec 32) = wd 0 from rfl, wd_add]; rfl

theorem laneOf_bin {x b : ℕ} (hb : b < 2048) : (2048 * x + b) / 2048 = x ∧ (2048 * x + b) % 2048 = b := by omega

/-- The lane whose number is `l`. -/
abbrev lane (l : ℕ) (h : l < 16) : S16.Idx := fun a => ⟨l, by have : a = 0 := Subsingleton.elim _ _; subst this; exact h⟩

theorem lane_ext {x y : S16.Idx} (h : (x 0).val = (y 0).val) : x = y := by
  funext a
  have : a = 0 := Subsingleton.elim _ _
  subst this; exact Fin.ext h

/-- The bins addressed by the lanes at one word of a window. -/
theorem atBin_win {sh : ℕ} (hsh : sh < 32) (Kf : ℕ → BitVec 32) (o n t : ℕ) (ht : t < 160) (x : S16.Idx) :
    (atBin (digits (wd sh) fun x => win Kf o n (atWin t x).toNat) x).toNat = 2048 * (x 0).val + kd sh Kf (o + 40000 * (x 0).val + n + t) := by
  refine atBin_toNat x ?_ (kd_lt _ _ _)
  rw [digits_toNat hsh, atWin_toNat ht]
  unfold win
  rw [show (160 * (x 0).val + t) / 160 = (x 0).val by omega, show (160 * (x 0).val + t) % 160 = t by omega]
  rfl

theorem atWin_inb {t : ℕ} (ht : t < 160) : ∀ a x, ((![atWin t] : Fin 1 → IVec S16 32) a x).toNat < S2560.size a := fun a x => by
  have : a = 0 := Subsingleton.elim _ _
  subst this
  have hx : (x 0).val < 16 := (x 0).isLt
  show (atWin t x).toNat < 2560
  rw [atWin_toNat ht]; omega

theorem atBin_inb {sh : ℕ} (hsh : sh < 32) (Kf : ℕ → BitVec 32) (o n t : ℕ) (ht : t < 160) :
    ∀ a x, ((![atBin (digits (wd sh) fun x => win Kf o n (atWin t x).toNat)] : Fin 1 → IVec S16 32) a x).toNat < S32768.size a := fun a x => by
  have : a = 0 := Subsingleton.elim _ _
  subst this
  have hx : (x 0).val < 16 := (x 0).isLt
  show (atBin (digits (wd sh) fun x => win Kf o n (atWin t x).toNat) x).toNat < 32768
  rw [atBin_win hsh Kf o n t ht]
  have := kd_lt sh Kf (o + 40000 * (x 0).val + n + t)
  omega

theorem atBin_inj {sh : ℕ} (hsh : sh < 32) (Kf : ℕ → BitVec 32) (o n t : ℕ) (ht : t < 160) (x y : S16.Idx)
    (h : (atBin (digits (wd sh) fun x => win Kf o n (atWin t x).toNat) x).toNat = (atBin (digits (wd sh) fun x => win Kf o n (atWin t x).toNat) y).toNat) : x = y := by
  rw [atBin_win hsh Kf o n t ht, atBin_win hsh Kf o n t ht] at h
  have h1 := kd_lt sh Kf (o + 40000 * (x 0).val + n + t)
  have h2 := kd_lt sh Kf (o + 40000 * (y 0).val + n + t)
  exact lane_ext (by omega)

/-- Adding one at the lanes' bins turns a family of counts into the next. -/
theorem bump {sh : ℕ} (hsh : sh < 32) (Kf : ℕ → BitVec 32) (o n t : ℕ) (ht : t < 160) (A B : ℕ → BitVec 32)
    (hB : ∀ j, j < 32768 → B j = A j + if kd sh Kf (o + 40000 * (j / 2048) + n + t) = j % 2048 then 1#32 else 0#32) :
    (∀ x, B (atBin (digits (wd sh) fun x => win Kf o n (atWin t x).toNat) x).toNat
      = A (atBin (digits (wd sh) fun x => win Kf o n (atWin t x).toNat) x).toNat + (broadcast S16 1#32 : IVec S16 32) x)
    ∧ ∀ j, j < 32768 → (∀ x, (atBin (digits (wd sh) fun x => win Kf o n (atWin t x).toNat) x).toNat ≠ j) → B j = A j := by
  refine ⟨fun x => ?_, fun j hj h => ?_⟩
  · have hx : (x 0).val < 16 := (x 0).isLt
    have hk := kd_lt sh Kf (o + 40000 * (x 0).val + n + t)
    rw [atBin_win hsh Kf o n t ht, hB _ (by omega), (laneOf_bin hk).1, (laneOf_bin hk).2, if_pos rfl]
    rfl
  · rw [hB j hj, if_neg, BitVec.add_zero]
    intro he
    refine h (lane (j / 2048) (by omega)) ?_
    rw [atBin_win hsh Kf o n t ht]
    show 2048 * (j / 2048) + kd sh Kf (o + 40000 * (j / 2048) + n + t) = j
    omega

theorem wp_histZero {hist : Memref sig .scVector .vmem S32768 .i32} {k : BitVec 32 → Prog (TpuEff nD τ sig (Elt F) Λ₀ (.scVector c s)) α} :
    iprop(∃ A, arr (tile d c s) hist fullShare A)
      ⊢ iprop((∀ a, arr (tile d c s) hist fullShare (fun _ => 0#32) -∗ wp frame (wpE defs₀ 𝒱₀ (tile d c s) none) Set.univ (k a) Φ)
        -∗ wp frame (wpE defs₀ 𝒱₀ (tile d c s) none) Set.univ (histZero hist >>= k) Φ : sProp 𝕄) := by
  iintro ⟨%A, H⟩ Hk
  unfold histZero
  iapply (wp_loop (F := F) (Φ := Φ) k0_t1_loop k0_t1_ok 2048 rfl 0#32 _ (fun t _ => arr (tile d c s) hist fullShare (mix (16 * t) (fun _ => 0#32) A)) ?_) $$ [H]
  · intro t ht acc
    iintro H
    iapply (wp_load1 (F := F) (k0_off1_eq t)) $$ H
    iintro H
    iapply (wp_putMix (F := F) (k0_off1_eq t) (fun _ => rfl)) $$ H
    iintro H
    iapply (wp_done (F := F))
    iexact H
  · rw [mix_zero]; iexact H
  iintro %a H
  iapply Hk
  iapply (of_mix (F := F) (by decide)) $$ H

theorem wp_histCount {sh : ℕ} (hsh : sh < 32) {kbuf : Memref sig .scVector .vmem S2560 .i32} {hist : Memref sig .scVector .vmem S32768 .i32} {Kf : ℕ → BitVec 32} {o n : ℕ}
    {k : BitVec 32 → Prog (TpuEff nD τ sig (Elt F) Λ₀ (.scVector c s)) α} :
    iprop(arr (tile d c s) kbuf fullShare (win Kf o n) ∗ arr (tile d c s) hist fullShare (laneCnt (kd sh Kf) o n))
      ⊢ iprop((∀ a, arr (tile d c s) kbuf fullShare (win Kf o n) ∗ arr (tile d c s) hist fullShare (laneCnt (kd sh Kf) o (n + 160))
          -∗ wp frame (wpE defs₀ 𝒱₀ (tile d c s) none) Set.univ (k a) Φ)
        -∗ wp frame (wpE defs₀ 𝒱₀ (tile d c s) none) Set.univ (histCount (wd sh) kbuf hist >>= k) Φ : sProp 𝕄) := by
  iintro H Hk
  unfold histCount
  iapply (wp_loop (F := F) (Φ := Φ) k0_t3_loop k0_t3_ok 160 rfl 0#32 _
    (fun t _ => iprop(arr (tile d c s) kbuf fullShare (win Kf o n) ∗ arr (tile d c s) hist fullShare (laneCnt (kd sh Kf) o (n + t)))) ?_) $$ [H]
  · intro t ht acc
    iintro ⟨Hk, H⟩
    iapply (wp_check (F := F) (atWin_inb ht))
    iapply (wp_loadIdx1 (F := F)) $$ Hk
    iintro Hk
    iapply (wp_check (F := F) (atBin_inb hsh Kf o n t ht))
    have hb := bump hsh Kf o n t ht (laneCnt (kd sh Kf) o (n + t)) (laneCnt (kd sh Kf) o (n + t + 1)) fun j _ => by
      rw [laneCnt_succ, Nat.add_assoc (o + 40000 * (j / 2048))]
    iapply (wp_storeIdx1 (F := F) (laneCnt (kd sh Kf) o (n + t + 1)) (atBin_inj hsh Kf o n t ht) (fun x => (hb.1 x).trans (if_pos rfl).symm) hb.2) $$ H
    iintro H
    iapply (wp_done (F := F))
    isplitl [Hk]; · iexact Hk
    iexact H
  · iexact H
  iintro %a H
  iapply Hk
  iexact H

theorem wp_histSum {D : ℕ → ℕ} {o : ℕ} {hist : Memref sig .scVector .vmem S32768 .i32} {hw : Memref sig .scVector .vmem S2048 .i32}
    {k : BitVec 32 → Prog (TpuEff nD τ sig (Elt F) Λ₀ (.scVector c s)) α} :
    iprop(arr (tile d c s) hist fullShare (laneCnt D o 40000) ∗ ∃ B, arr (tile d c s) hw fullShare B)
      ⊢ iprop((∀ a, arr (tile d c s) hist fullShare (laneCnt D o 40000) ∗ arr (tile d c s) hw fullShare (tileCnt D o)
          -∗ wp frame (wpE defs₀ 𝒱₀ (tile d c s) none) Set.univ (k a) Φ)
        -∗ wp frame (wpE defs₀ 𝒱₀ (tile d c s) none) Set.univ (histSum hist hw >>= k) Φ : sProp 𝕄) := by
  iintro ⟨H, %B, Hw⟩ Hk
  unfold histSum
  iapply (wp_loop (F := F) (Φ := Φ) k0_t4_loop k0_t4_ok 128 rfl 0#32 _
    (fun t _ => iprop(arr (tile d c s) hist fullShare (laneCnt D o 40000) ∗ arr (tile d c s) hw fullShare (mix (16 * t) (tileCnt D o) B))) ?_) $$ [H Hw]
  · intro t ht acc
    iintro ⟨H, Hw⟩
    iapply (wp_loop (F := F) k0_t5_loop k0_t5_ok 16 rfl (broadcast S16 0#32 : IVec S16 32) _
      (fun r a => iprop(⌜∀ x : S16.Idx, a x = wd (cnt D (16 * t.val + (x 0).val) (o + 40000 * r) - cnt D (16 * t.val + (x 0).val) o)⌝
        ∗ arr (tile d c s) hist fullShare (laneCnt D o 40000))) ?_) $$ [H]
    · intro r hr a
      iintro ⟨%ha, H⟩
      iapply (wp_load1 (F := F) (k0_off4_eq t r)) $$ H
      iintro H
      iapply (wp_done (F := F))
      isplitr; swap; · iexact H
      ipureintro
      intro x
      have hx : (x 0).val < 16 := (x 0).isLt
      show a x + laneCnt D o 40000 (2048 * r.val + 16 * t.val + (x 0).val) = _
      rw [ha]
      unfold laneCnt
      rw [show (2048 * r.val + 16 * t.val + (x 0).val) % 2048 = 16 * t.val + (x 0).val by omega, show (2048 * r.val + 16 * t.val + (x 0).val) / 2048 = r.val by omega, wd_add]
      have h1 := cnt_mono (d := D) (16 * t.val + (x 0).val) (show o ≤ o + 40000 * r.val by omega)
      have h2 := cnt_mono (d := D) (16 * t.val + (x 0).val) (show o + 40000 * r.val ≤ o + 40000 * r.val + 40000 by omega)
      rw [show o + 40000 * (r.val + 1) = o + 40000 * r.val + 40000 by omega]
      congr 1; omega
    · isplitr; swap; · iexact H
      ipureintro; intro x; show (0#32 : BitVec 32) = _; simp
    iintro %acc ⟨%ha, H⟩
    iapply (wp_load1 (F := F) (k0_off5_eq t)) $$ Hw
    iintro Hw
    iapply (wp_putMix (F := F) (k0_off5_eq t) (fun x => (ha x).trans rfl)) $$ Hw
    iintro Hw
    iapply (wp_done (F := F))
    isplitl [H]; · iexact H
    iexact Hw
  · isplitl [H]; · iexact H
    rw [mix_zero]; iexact Hw
  iintro %a ⟨H, Hw⟩
  iapply Hk
  isplitl [H]; · iexact H
  iapply (of_mix (F := F) (by decide)) $$ Hw

theorem bigSep_one (Ψ : Fin 1 → sProp 𝕄) : bigSep Finset.univ Ψ = Ψ 0 := by
  rw [Finset.univ_unique, bigSep_singleton]; rfl

theorem wp_copyNow {sp sp' : Space} {w : ℕ} {src : Memref sig .scVector sp ⟨1, ![w]⟩ .i32} {dst : Memref sig .scVector sp' ⟨1, ![w]⟩ .i32} {sem : DmaSem sig}
    {h1 h2} {h3 : DmaTarget.Typed (nD := nD) (p := .scVector c s) sp (.dma sem) (.here dst)} {O : CellTallies nD τ sig (HIx 6)} {W : Waits sig (HIx 6)} {q : PosShare TreeShare}
    {A : ℕ → BitVec 32} (hN : 0 < dst.view.dmaCredit) {k : Prog (TpuEff nD τ sig (Elt F) Λ₀ (.scVector c s)) α} :
    iprop(semVal (tile d c s, .dma sem) 0 ∗ ow (tile d c s) O W ∗ Transfers.MayWaits (tile d c s) (default : HIx 6) O
        ∗ arr (tile d c s) src q A ∗ ∃ B, arr (tile d c s) dst fullShare B)
      ⊢ iprop((iprop(semVal (tile d c s, .dma sem) 0 ∗ ow (tile d c s) O W ∗ arr (tile d c s) src q A ∗ arr (tile d c s) dst fullShare A)
            -∗ wp frame (wpE defs₀ 𝒱₀ (tile d c s) none) Set.univ k Φ)
          -∗ wp frame (wpE defs₀ 𝒱₀ (tile d c s) none) Set.univ (copyNow src dst sem h1 h2 h3 k) Φ : sProp 𝕄) := by
  iintro ⟨Hv, HO, #Hmw, Hs, Hd⟩ Hk
  unfold copyNow
  iapply (wp_copies (F := F) (Φ := Φ) dst.view.dmaCredit hN (sem := sem) (q := q) (O := O) (W := W) (m := 0) (fun _ => src) (fun _ => dst) (fun _ => A) (fun _ => rfl)) $$ [Hv HO Hs Hd]
  · isplitl [Hv]; · iexact Hv
    isplitl [HO]; · iexact HO
    isplitr; · iexact Hmw
    rw [bigSep_one]
    unfold ready
    isplitl [Hd]; · iexact Hd
    iexact Hs
  rw [bigSep_one]
  unfold landed
  iintro ⟨⟨Hd, Hs⟩, Hv, HO⟩
  iapply Hk
  isplitl [Hv]; · iexact Hv
  isplitl [HO]; · iexact HO
  isplitl [Hs]; · iexact Hs
  iexact Hd

/-- The tile at coordinates `i`. -/
abbrev gt (d : Dev nD) (i : grid0.Coords) : Thread nD τ := tile d ((i 0).castLE hcore0) ((i 1).castLE hsub0)

/-- The first word of a tile. -/
abbrev start (i : grid0.Coords) : ℕ := 640000 * (16 * (i 0).val + (i 1).val)

/-- The words of a window: sixteen pieces, far apart. -/
theorem lanes_apart (o : ℕ) (n : ℕ) : ∀ l l' : Fin 16, l ≠ l' → o + 40000 * l.val + n + 160 ≤ o + 40000 * l'.val + n ∨ o + 40000 * l'.val + n + 160 ≤ o + 40000 * l.val + n := fun l l' h => by
  have : l.val ≠ l'.val := fun e => h (Fin.ext e)
  omega

/-- What one tile of the counting kernel does. -/
theorem wp_histK {sh : ℕ} (hsh : sh < 32) (i : grid0.Coords) {keys : Memref sig .scVector .hbm S20480000 .i32} {hL : Memref sig .scVector .hbm S32x32768 .i32} {hW : Memref sig .scVector .hbm S32x2048 .i32}
    {kbuf : Memref sig .scVector .vmem S2560 .i32} {hist : Memref sig .scVector .vmem S32768 .i32} {hhist : hist.IsWhole} {hw : Memref sig .scVector .vmem S2048 .i32} {hhw : hw.IsWhole}
    {sem r0 r1 : DmaSems sig S_} {O : CellTallies nD τ sig (HIx 6)} {W : Waits sig (HIx 6)} {q : PosShare TreeShare} {Kf : ℕ → BitVec 32}
    (hL0 : 0 < (rowL hL i).view.dmaCredit) (hW0 : 0 < (rowW hW i).view.dmaCredit) :
    iprop(semVal (gt d i, .dma sem.sem) 0 ∗ semVal (gt d i, .dma r0.sem) 0 ∗ semVal (gt d i, .dma r1.sem) 0
        ∗ ow (gt d i) O W ∗ Transfers.MayWaits (gt d i) (default : HIx 6) O
        ∗ arr (gt d i) keys q Kf ∗ (∃ B, arr (gt d i) kbuf fullShare B) ∗ (∃ B, arr (gt d i) hist fullShare B)
        ∗ (∃ B, arr (gt d i) hw fullShare B) ∗ (∃ B, arr (gt d i) (rowL hL i) fullShare B)
        ∗ (∃ B, arr (gt d i) (rowW hW i) fullShare B))
      ⊢ (wp frame (wpE defs₀ 𝒱₀ (gt d i) none) Set.univ (histK (wd sh) i keys hL hW kbuf hist hhist hw hhw sem r0 r1) (fun _ =>
        iprop(semVal (gt d i, .dma sem.sem) 0 ∗ semVal (gt d i, .dma r0.sem) 0 ∗ semVal (gt d i, .dma r1.sem) 0
        ∗ ow (gt d i) O W
        ∗ arr (gt d i) keys q Kf ∗ (∃ B, arr (gt d i) kbuf fullShare B) ∗ (∃ B, arr (gt d i) hist fullShare B)
        ∗ (∃ B, arr (gt d i) hw fullShare B) ∗ arr (gt d i) (rowL hL i) fullShare (laneCnt (kd sh Kf) (start i) 40000)
        ∗ arr (gt d i) (rowW hW i) fullShare (tileCnt (kd sh Kf) (start i)))) : sProp 𝕄) := by
  iintro ⟨Hv, Hv0, Hv1, HO, #Hmw, Hks, Hkb, Hh, Hhw, HL, HW⟩
  unfold histK
  iapply (wp_histZero (F := F)) $$ Hh
  iintro %_ Hh
  iapply (wp_loop (F := F) k0_t2_loop k0_t2_ok 250 rfl 0#32 _
    (fun t _ => iprop(Transfers.MayWaits (gt d i) (default : HIx 6) O ∗ semVal (gt d i, .dma sem.sem) 0 ∗ ow (gt d i) O W ∗ arr (gt d i) keys q Kf
      ∗ (∃ B, arr (gt d i) kbuf fullShare B) ∗ arr (gt d i) hist fullShare (laneCnt (kd sh Kf) (start i) (160 * t)))) ?_) $$ [Hv HO Hks Hkb Hh]
  · intro t ht acc
    iintro ⟨#Hmw, Hv, HO, Hks, Hkb, Hh⟩
    iapply (wp_fetch16 (F := F) (fun l => start i + 40000 * l.val + 160 * t.val) (fun l => by rw [k0_off2_eq]; congr 1; unfold start; ring_nf) (lanes_apart _ _) (win Kf (start i) (160 * t.val))
      (fun l j hj => by unfold win; congr 1; omega)) $$ [Hv HO Hks Hkb]
    · isplitl [Hv]; · iexact Hv
      isplitl [HO]; · iexact HO
      isplitr; · iexact Hmw
      isplitl [Hks]; · iexact Hks
      iexact Hkb
    iintro ⟨Hv, HO, Hks, Hkb⟩
    iapply (wp_histCount (F := F) hsh) $$ [Hkb Hh]
    · isplitl [Hkb]; · iexact Hkb
      iexact Hh
    iintro %_ ⟨Hkb, Hh⟩
    iapply (wp_done (F := F))
    isplitr; · iexact Hmw
    isplitl [Hv]; · iexact Hv
    isplitl [HO]; · iexact HO
    isplitl [Hks]; · iexact Hks
    isplitl [Hkb]; · iexists _; iexact Hkb
    iexact Hh
  · isplitr; · iexact Hmw
    isplitl [Hv]; · iexact Hv
    isplitl [HO]; · iexact HO
    isplitl [Hks]; · iexact Hks
    isplitl [Hkb]; · iexact Hkb
    rw [Nat.mul_zero, laneCnt_zero]; iexact Hh
  iintro %_ ⟨-, Hv, HO, Hks, Hkb, Hh⟩
  iapply (wp_copyNow (F := F) hL0) $$ [Hv0 HO Hh HL]
  · isplitl [Hv0]; · iexact Hv0
    isplitl [HO]; · iexact HO
    isplitr; · iexact Hmw
    isplitl [Hh]; · iexact Hh
    iexact HL
  iintro ⟨Hv0, HO, Hh, HL⟩
  iapply (wp_histSum (F := F)) $$ [Hh Hhw]
  · isplitl [Hh]; · iexact Hh
    iexact Hhw
  iintro %_ ⟨Hh, Hhw⟩
  iapply (wp_copyNow (F := F) hW0) $$ [Hv1 HO Hhw HW]
  · isplitl [Hv1]; · iexact Hv1
    isplitl [HO]; · iexact HO
    isplitr; · iexact Hmw
    isplitl [Hhw]; · iexact Hhw
    iexact HW
  iintro ⟨Hv1, HO, Hhw, HW⟩
  iapply (wp_done (F := F))
  isplitl [Hv]; · iexact Hv
  isplitl [Hv0]; · iexact Hv0
  isplitl [Hv1]; · iexact Hv1
  isplitl [HO]; · iexact HO
  isplitl [Hks]; · iexact Hks
  isplitl [Hkb]; · iexact Hkb
  isplitl [Hh]; · iexists _; iexact Hh
  isplitl [Hhw]; · iexists _; iexact Hhw
  isplitl [HL]; · iexact HL
  iexact HW

end Cert.Proof

end
-- ==== Proof.Scan.lean ====
/-
  The cumulative sum of a vector of sixteen counts.
-/
module

public import proofs.«01_k».proof.Proof.HistRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

/-- The first counts added up. -/
theorem below_add (D : ℕ → ℕ) (N o n : ℕ) : below D N (o + n) = below D N o + ∑ y ∈ Finset.range n, cnt D (o + y) N := by
  induction n with
  | zero => simp
  | succ n ih => rw [Finset.sum_range_succ, ← Nat.add_assoc, below_succ, ih, Nat.add_assoc]

/-- The lanes after the first up to lane `j`. -/
theorem upto (j : ℕ) (hj : j < 16) (f : ℕ → ℕ) (v : IVec S16 32) (hv : ∀ x, v x = wd (f (x 0).val)) :
    ((List.finRange 16).filter fun k => decide (0 < k.val ∧ k.val ≤ j)).foldl (fun r k => ScanKind.step .sum r (v (Shape.ofLane (d := ![16]) k))) (v (Shape.ofLane (d := ![16]) ⟨0, by decide⟩))
      = wd (∑ y ∈ Finset.range (j + 1), f y) := by
  have hstep : ∀ (r : BitVec 32) (k : Fin 16), ScanKind.step .sum r (v (Shape.ofLane (d := ![16]) k)) = r + wd (f k.val) := fun r k => by rw [hv]; rfl
  have h0 : v (Shape.ofLane (d := ![16]) ⟨0, by decide⟩) = wd (f 0) := hv _
  have hgen : ∀ (l : List (Fin 16)) (r : ℕ), l.foldl (fun r k => r + wd (f k.val)) (wd r) = wd (r + (l.map fun k => f k.val).sum) := by
    intro l
    induction l with
    | nil => intro r; simp
    | cons a l ih => intro r; rw [List.foldl_cons, wd_add, ih, List.map_cons, List.sum_cons, Nat.add_assoc]
  refine (congrArg₂ (fun (g : BitVec 32 → Fin 16 → BitVec 32) (a : BitVec 32) => List.foldl g a ((List.finRange 16).filter fun k => decide (0 < k.val ∧ k.val ≤ j))) (funext₂ hstep) h0).trans ?_
  refine (hgen _ _).trans ?_
  congr 1
  interval_cases j <;> simp [List.finRange, Finset.sum_range_succ, List.ofFn, Fin.foldr, Fin.foldr.loop] <;> ring

/-- The cumulative sum of counts. -/
theorem scan_counts (f : ℕ → ℕ) (v : IVec S16 32) (hv : ∀ x, v x = wd (f (x 0).val)) (x : S16.Idx) :
    scan .sum v x = wd (∑ y ∈ Finset.range ((x 0).val + 1), f y) :=
  upto (x 0).val (x 0).isLt f v hv

end Cert.Proof

end
-- ==== Proof.Place.lean ====
/-
  The text of the placing kernels: totals and prefixes of the counts, the running offsets, and the windows sent to their places.
-/
module

public import proofs.«01_k».proof.Proof.Hist

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F]

/-- Row `t` of the tiles' counts. -/
abbrev rowT (m : Memref sig .scVector .hbm S32x2048 .i32) (t : Fin k1_t2_loop.trips) : Memref sig .scVector .hbm S2048 .i32 :=
  (m.slice (Rect.unit (s := S32x2048) (k1_off2 t) S1x2048.size (k1_off2_inb t)) (fun _ => rfl)).squeeze S2048 squeezes_S1x2048_S2048

/-- The tile's row of the lanes' counts. -/
abbrev rowP (m : Memref sig .scVector .hbm S32x32768 .i32) (i : grid1.Coords) : Memref sig .scVector .hbm S32768 .i32 :=
  (m.slice (Rect.unit (s := S32x32768) (k1_off5 i) S1x32768.size (k1_off5_inb i)) (fun _ => rfl)).squeeze S32768 squeezes_S1x32768_S32768

/-- The whole of a long array, as the indexed copies name it. -/
abbrev whole1 (m : Memref sig .scVector .hbm S20480000 .i32) : Memref sig .scVector .hbm S20480000 .i32 :=
  m.slice (Rect.unit (s := S20480000) ![0] S20480000.size inb_S20480000_S20480000_0) (fun _ => rfl)

section Text

variable {c : Fin τ.nSC} {s : Fin τ.nSub}

/-- The number of a tile, as the program computes it. -/
abbrev widW (i : grid1.Coords) : BitVec 32 := Scalar.addi (Scalar.muli (BitVec.ofNat 32 (i 0).val) 16#32) (BitVec.ofNat 32 (i 1).val)

def prepZero (tot pref : Memref sig .scVector .vmem S2048 .i32) : Prog (TpuEff nD τ sig (Elt F) Λ₀ (.scVector c s)) (BitVec 32) :=
  Scf.Loop.for k1_t1_loop k1_t1_ok 0#32 fun t _ => do
    let _ : Vec F S16 .i32 ← Prog.lift (.load tot (Rect.unit (s := S2048) (k1_off1 t) S16.size (k1_off1_inb t)).toLoadRect (View.loadsAt_vmem h_S16))
    Prog.lift (.store tot (Rect.unit (s := S2048) (k1_off1 t) S16.size (k1_off1_inb t)) (broadcast S16 0#32) Finset.univ (View.stores_vmem_bits_univ h_S16 rfl) (.inl rfl))
    let _ : Vec F S16 .i32 ← Prog.lift (.load pref (Rect.unit (s := S2048) (k1_off1 t) S16.size (k1_off1_inb t)).toLoadRect (View.loadsAt_vmem h_S16))
    Prog.lift (.store pref (Rect.unit (s := S2048) (k1_off1 t) S16.size (k1_off1_inb t)) (broadcast S16 0#32) Finset.univ (View.stores_vmem_bits_univ h_S16 rfl) (.inl rfl))
    pure 0#32

/-- One tile's counts added to the totals, and to the prefix if the tile comes before. -/
def prepRow (w v1 : BitVec 32) (row tot pref : Memref sig .scVector .vmem S2048 .i32) : Prog (TpuEff nD τ sig (Elt F) Λ₀ (.scVector c s)) (BitVec 32) :=
  Scf.Loop.for k1_t3_loop k1_t3_ok 0#32 fun t _ => do
    let r : Vec F S16 .i32 ← Prog.lift (.load row (Rect.unit (s := S2048) (k1_off3 t) S16.size (k1_off3_inb t)).toLoadRect (View.loadsAt_vmem h_S16))
    let a : Vec F S16 .i32 ← Prog.lift (.load tot (Rect.unit (s := S2048) (k1_off3 t) S16.size (k1_off3_inb t)).toLoadRect (View.loadsAt_vmem h_S16))
    let _ : Vec F S16 .i32 ← Prog.lift (.load tot (Rect.unit (s := S2048) (k1_off3 t) S16.size (k1_off3_inb t)).toLoadRect (View.loadsAt_vmem h_S16))
    Prog.lift (.store tot (Rect.unit (s := S2048) (k1_off3 t) S16.size (k1_off3_inb t)) (addi a r : IVec S16 32) Finset.univ (View.stores_vmem_bits_univ h_S16 rfl) (.inl rfl))
    let b : Vec F S16 .i32 ← Prog.lift (.load pref (Rect.unit (s := S2048) (k1_off3 t) S16.size (k1_off3_inb t)).toLoadRect (View.loadsAt_vmem h_S16))
    let _ : Vec F S16 .i32 ← Prog.lift (.load pref (Rect.unit (s := S2048) (k1_off3 t) S16.size (k1_off3_inb t)).toLoadRect (View.loadsAt_vmem h_S16))
    Prog.lift (.store pref (Rect.unit (s := S2048) (k1_off3 t) S16.size (k1_off3_inb t)) (addi b (Scalar.select (Scalar.cmpi .slt w v1) r (broadcast S16 0#32 : IVec S16 32) : IVec S16 32) : IVec S16 32)
      Finset.univ (View.stores_vmem_bits_univ h_S16 rfl) (.inl rfl))
    pure 0#32

/-- The totals scanned: sixteen bins at a time, by the cumulative sum. -/
def prepScan (tot pref : Memref sig .scVector .vmem S2048 .i32) : Prog (TpuEff nD τ sig (Elt F) Λ₀ (.scVector c s)) (BitVec 32) :=
  Scf.Loop.for k1_t4_loop k1_t4_ok 0#32 fun t acc => do
    let a : Vec F S16 .i32 ← Prog.lift (.load tot (Rect.unit (s := S2048) (k1_off4 t) S16.size (k1_off4_inb t)).toLoadRect (View.loadsAt_vmem h_S16))
    let b : Vec F S16 .i32 ← Prog.lift (.load pref (Rect.unit (s := S2048) (k1_off4 t) S16.size (k1_off4_inb t)).toLoadRect (View.loadsAt_vmem h_S16))
    let _ : Vec F S16 .i32 ← Prog.lift (.load tot (Rect.unit (s := S2048) (k1_off4 t) S16.size (k1_off4_inb t)).toLoadRect (View.loadsAt_vmem h_S16))
    Prog.lift (.store tot (Rect.unit (s := S2048) (k1_off4 t) S16.size (k1_off4_inb t)) (addi (addi (subi (scan .sum a) a) (broadcast S16 acc)) b : IVec S16 32)
      Finset.univ (View.stores_vmem_bits_univ h_S16 rfl) (.inl rfl))
    pure (Scalar.addi acc (extractAt ![15] (scan .sum a) inpos_S16_p15))

/-- The lanes' offsets, lane after lane. -/
def prepOff (off own : Memref sig .scVector .vmem S32768 .i32) (tot : Memref sig .scVector .vmem S2048 .i32) : Prog (TpuEff nD τ sig (Elt F) Λ₀ (.scVector c s)) (BitVec 32) :=
  Scf.Loop.for k1_t5_loop k1_t5_ok 0#32 fun l _ => do
    let _ ← Scf.Loop.for k1_t6_loop k1_t6_ok 0#32 fun t _ => do
      let a : Vec F S16 .i32 ← Prog.lift (.load tot (Rect.unit (s := S2048) (k1_off6 t) S16.size (k1_off6_inb t)).toLoadRect (View.loadsAt_vmem h_S16))
      let _ : Vec F S16 .i32 ← Prog.lift (.load off (Rect.unit (s := S32768) (k1_off7 l t) S16.size (k1_off7_inb l t)).toLoadRect (View.loadsAt_vmem h_S16))
      Prog.lift (.store off (Rect.unit (s := S32768) (k1_off7 l t) S16.size (k1_off7_inb l t)) a Finset.univ (View.stores_vmem_bits_univ h_S16 rfl) (.inl rfl))
      let b : Vec F S16 .i32 ← Prog.lift (.load own (Rect.unit (s := S32768) (k1_off7 l t) S16.size (k1_off7_inb l t)).toLoadRect (View.loadsAt_vmem h_S16))
      let _ : Vec F S16 .i32 ← Prog.lift (.load tot (Rect.unit (s := S2048) (k1_off6 t) S16.size (k1_off6_inb t)).toLoadRect (View.loadsAt_vmem h_S16))
      Prog.lift (.store tot (Rect.unit (s := S2048) (k1_off6 t) S16.size (k1_off6_inb t)) (addi a b : IVec S16 32) Finset.univ (View.stores_vmem_bits_univ h_S16 rfl) (.inl rfl))
      pure 0#32
    pure 0#32

/-- The places of a window's keys, and with them the keys' numbers. -/
def placeFirst (base win : BitVec 32) (kbuf ibuf pbuf : Memref sig .scVector .vmem S2560 .i32) (off : Memref sig .scVector .vmem S32768 .i32) :
    Prog (TpuEff nD τ sig (Elt F) Λ₀ (.scVector c s)) (BitVec 32) :=
  Scf.Loop.for k1_t8_loop k1_t8_ok 0#32 fun t _ => do
    have hw1 : k1_chk1 (atWin t.val) := (← Prog.lift (TpuEff.assume (k1_chk1 (atWin t.val)) (k1_chk1.dec (atWin t.val)))).down
    let kv : Vec F S16 .i32 ← SparseCore.vectorLoadIdx kbuf ![atWin t.val] (k1_idx1_inb (atWin t.val) hw1) (View.loads_vmem h_S2560)
    have hw2 : k1_chk2 (atBin (digits 0#32 kv)) := (← Prog.lift (TpuEff.assume (k1_chk2 (atBin (digits 0#32 kv))) (k1_chk2.dec (atBin (digits 0#32 kv))))).down
    let pv : Vec F S16 .i32 ← SparseCore.vectorLoadIdx off ![atBin (digits 0#32 kv)] (k1_idx2_inb (atBin (digits 0#32 kv)) hw2) (View.loads_vmem h_S32768)
    SparseCore.vectorStoreIdx off ![atBin (digits 0#32 kv)] (broadcast S16 1#32) (fun _ => 1#1) true (k1_idx3_inb (atBin (digits 0#32 kv)) hw2) (View.stores_vmem_bits_univ h_S32768 rfl)
    SparseCore.vectorStoreIdx pbuf ![atWin t.val] pv (fun _ => 1#1) false (k1_idx4_inb (atWin t.val) hw1) (View.stores_vmem_bits_univ h_S2560 rfl)
    SparseCore.vectorStoreIdx ibuf ![atWin t.val] (addi (addi (broadcast S16 base) (muli lanes (broadcast S16 40000#32))) (broadcast S16 (Scalar.addi (Scalar.muli win 160#32) (Scf.iv 0#32 1#32 t.val))) : IVec S16 32)
      (fun _ => 1#1) false (k1_idx5_inb (atWin t.val) hw1) (View.stores_vmem_bits_univ h_S2560 rfl)
    pure 0#32

/-- The places of a window's keys. -/
def placeNext (sh : BitVec 32) (kbuf pbuf : Memref sig .scVector .vmem S2560 .i32) (off : Memref sig .scVector .vmem S32768 .i32) :
    Prog (TpuEff nD τ sig (Elt F) Λ₀ (.scVector c s)) (BitVec 32) :=
  Scf.Loop.for k3_t8_loop k3_t8_ok 0#32 fun t _ => do
    have hw1 : k3_chk1 (atWin t.val) := (← Prog.lift (TpuEff.assume (k3_chk1 (atWin t.val)) (k3_chk1.dec (atWin t.val)))).down
    let kv : Vec F S16 .i32 ← SparseCore.vectorLoadIdx kbuf ![atWin t.val] (k3_idx1_inb (atWin t.val) hw1) (View.loads_vmem h_S2560)
    have hw2 : k3_chk2 (atBin (digits sh kv)) := (← Prog.lift (TpuEff.assume (k3_chk2 (atBin (digits sh kv))) (k3_chk2.dec (atBin (digits sh kv))))).down
    let pv : Vec F S16 .i32 ← SparseCore.vectorLoadIdx off ![atBin (digits sh kv)] (k3_idx2_inb (atBin (digits sh kv)) hw2) (View.loads_vmem h_S32768)
    SparseCore.vectorStoreIdx off ![atBin (digits sh kv)] (broadcast S16 1#32) (fun _ => 1#1) true (k3_idx3_inb (atBin (digits sh kv)) hw2) (View.stores_vmem_bits_univ h_S32768 rfl)
    SparseCore.vectorStoreIdx pbuf ![atWin t.val] pv (fun _ => 1#1) false (k3_idx4_inb (atWin t.val) hw1) (View.stores_vmem_bits_univ h_S2560 rfl)
    pure 0#32

/-- Two indexed copies, both started and then both waited for. -/
def send {w : ℕ} {hg : S20480000.Gathers 0 ⟨1, ![w]⟩} (hn : (⟨1, ![w]⟩ : Shape).numel = (⟨1, ![w]⟩ : Shape).size hg.axis') (sem : DmaSem sig) (src offs src' offs' : Memref sig .scVector .vmem ⟨1, ![w]⟩ .i32)
    (dst dst' : Memref sig .scVector .hbm S20480000 .i32) (h1 : src.view.WordExact) (h2 : src'.view.WordExact) :
    Prog (TpuEff nD τ sig (Elt F) Λ₀ (.scVector c s)) (BitVec 32) :=
  SparseCore.enqueueIndirectScatter rfl src (whole1 dst) hg offs hn sem rfl (Or.inl rfl) >>= fun _ =>
    SparseCore.enqueueIndirectScatter rfl src' (whole1 dst') hg offs' hn sem rfl (Or.inl rfl) >>= fun _ =>
    SparseCore.waitIndirectScatter sem src (whole1 dst) h1 (View.wordExact_bits rfl) >>= fun _ =>
    SparseCore.waitIndirectScatter sem src' (whole1 dst') h2 (View.wordExact_bits rfl) >>= fun _ => pure 0#32

end Text

/-- Everything before the windows. -/
def prepK (i : grid1.Coords) (hL : Memref sig .scVector .hbm S32x32768 .i32) (hW : Memref sig .scVector .hbm S32x2048 .i32) (off own : Memref sig .scVector .vmem S32768 .i32) (hown : own.IsWhole)
    (row : Memref sig .scVector .vmem S2048 .i32) (hrow : row.IsWhole) (tot pref : Memref sig .scVector .vmem S2048 .i32) (r0 r1 : DmaSems sig S_)
    (k : Prog (TpuEff nD τ sig (Elt F) Λ₀ (.scVector ((i 0).castLE hcore1) ((i 1).castLE hsub1))) PUnit) : Prog (TpuEff nD τ sig (Elt F) Λ₀ (.scVector ((i 0).castLE hcore1) ((i 1).castLE hsub1))) PUnit := do
  let _ ← prepZero tot pref
  let _ ← Scf.Loop.for k1_t2_loop k1_t2_ok 0#32 fun t _ =>
    copyNow (rowT hW t) row r0.sem ((View.wordExact_bits rfl).reshape _ _) hrow.wordExact ⟨Or.inl rfl, trivial⟩ do
      let _ ← prepRow (Scf.iv 0#32 1#32 t.val) (widW i) row tot pref
      pure 0#32
  let _ ← prepScan tot pref
  copyNow (rowP hL i) own r1.sem ((View.wordExact_bits rfl).reshape _ _) hown.wordExact ⟨Or.inl rfl, trivial⟩ do
    let _ ← prepOff off own tot
    k

/-- The first pass: a key's number is its position. -/
def firstK (i : grid1.Coords) (keys : Memref sig .scVector .hbm S20480000 .i32) (hL : Memref sig .scVector .hbm S32x32768 .i32) (hW : Memref sig .scVector .hbm S32x2048 .i32) (kout iout : Memref sig .scVector .hbm S20480000 .i32)
    (kbuf : Memref sig .scVector .vmem S2560 .i32) (hk : kbuf.IsWhole) (ibuf : Memref sig .scVector .vmem S2560 .i32) (hi : ibuf.IsWhole) (pbuf : Memref sig .scVector .vmem S2560 .i32)
    (off own : Memref sig .scVector .vmem S32768 .i32) (hown : own.IsWhole) (row : Memref sig .scVector .vmem S2048 .i32) (hrow : row.IsWhole) (tot pref : Memref sig .scVector .vmem S2048 .i32)
    (sem sem2 r0 r1 : DmaSems sig S_) : Prog (TpuEff nD τ sig (Elt F) Λ₀ (.scVector ((i 0).castLE hcore1) ((i 1).castLE hsub1))) PUnit :=
  prepK i hL hW off own hown row hrow tot pref r0 r1 do
    let _ ← Scf.Loop.for k1_t7_loop k1_t7_ok 0#32 fun t _ =>
      fetch (m := 15) (fun _ => keys) (fun _ => kbuf) sem.sem (fun l => k1_off8 i t (BitVec.ofNat 32 (40000 * l.val))) (fun l => k1_off8_inb i t l) (fun l => 160 * l.val) inb_lane do
        let _ ← placeFirst (Scalar.muli (widW i) 640000#32) (Scf.iv 0#32 1#32 t.val) kbuf ibuf pbuf off
        send (hg := gathers_S20480000_S2560) rfl sem2.sem kbuf pbuf ibuf pbuf kout iout hk.wordExact hi.wordExact
    pure ⟨⟩

/-- Which lane piece `l` of the sixteen keys' and sixteen numbers' pieces is. -/
def laneOfPiece (l : Fin 32) : Fin 16 := ⟨l.val % 16, Nat.mod_lt _ (by decide)⟩

/-- The keys first, then their numbers. -/
def pick {α : Type} (a b : α) (l : Fin 32) : α := if l.val < 16 then a else b

/-- A later pass: the windows of the keys and of their numbers. -/
def fetchBoth {i : grid3.Coords} (t : Fin k3_t7_loop.trips) (keys idx : Memref sig .scVector .hbm S20480000 .i32) (kbuf ibuf : Memref sig .scVector .vmem S2560 .i32) (sem : DmaSem sig)
    (k : Prog (TpuEff nD τ sig (Elt F) Λ₀ (.scVector ((i 0).castLE hcore3) ((i 1).castLE hsub3))) (BitVec 32)) : Prog (TpuEff nD τ sig (Elt F) Λ₀ (.scVector ((i 0).castLE hcore3) ((i 1).castLE hsub3))) (BitVec 32) :=
  fetch (m := 31) (pick keys idx) (pick kbuf ibuf) sem (fun l => k3_off8 i t (BitVec.ofNat 32 (40000 * (laneOfPiece l).val))) (fun l => k3_off8_inb i t (laneOfPiece l))
    (fun l => 160 * (laneOfPiece l).val) (fun l => inb_lane (laneOfPiece l)) k

def midK (i : grid3.Coords) (keys idx : Memref sig .scVector .hbm S20480000 .i32) (hL : Memref sig .scVector .hbm S32x32768 .i32) (hW : Memref sig .scVector .hbm S32x2048 .i32) (kout iout : Memref sig .scVector .hbm S20480000 .i32)
    (kbuf : Memref sig .scVector .vmem S2560 .i32) (hk : kbuf.IsWhole) (ibuf : Memref sig .scVector .vmem S2560 .i32) (hi : ibuf.IsWhole) (pbuf : Memref sig .scVector .vmem S2560 .i32)
    (off own : Memref sig .scVector .vmem S32768 .i32) (hown : own.IsWhole) (row : Memref sig .scVector .vmem S2048 .i32) (hrow : row.IsWhole) (tot pref : Memref sig .scVector .vmem S2048 .i32)
    (sem sem2 r0 r1 : DmaSems sig S_) : Prog (TpuEff nD τ sig (Elt F) Λ₀ (.scVector ((i 0).castLE hcore3) ((i 1).castLE hsub3))) PUnit :=
  prepK i hL hW off own hown row hrow tot pref r0 r1 do
    let _ ← Scf.Loop.for k3_t7_loop k3_t7_ok 0#32 fun t _ =>
      fetchBoth (i := i) t keys idx kbuf ibuf sem.sem do
        let _ ← placeNext 11#32 kbuf pbuf off
        send (hg := gathers_S20480000_S2560) rfl sem2.sem kbuf pbuf ibuf pbuf kout iout hk.wordExact hi.wordExact
    pure ⟨⟩

/-- One half of a window. -/
abbrev half0 (m : Memref sig .scVector .vmem S2560 .i32) : Memref sig .scVector .vmem S1280 .i32 := m.slice (Rect.unit (s := S2560) ![0] S1280.size inb_S2560_S1280_0) (fun _ => rfl)
abbrev half1 (m : Memref sig .scVector .vmem S2560 .i32) : Memref sig .scVector .vmem S1280 .i32 := m.slice (Rect.unit (s := S2560) ![1280] S1280.size inb_S2560_S1280_1280) (fun _ => rfl)

def lastK (i : grid3.Coords) (keys idx : Memref sig .scVector .hbm S20480000 .i32) (hL : Memref sig .scVector .hbm S32x32768 .i32) (hW : Memref sig .scVector .hbm S32x2048 .i32) (iout : Memref sig .scVector .hbm S20480000 .i32)
    (kbuf ibuf pbuf : Memref sig .scVector .vmem S2560 .i32)
    (off own : Memref sig .scVector .vmem S32768 .i32) (hown : own.IsWhole) (row : Memref sig .scVector .vmem S2048 .i32) (hrow : row.IsWhole) (tot pref : Memref sig .scVector .vmem S2048 .i32)
    (sem sem2 r0 r1 : DmaSems sig S_) : Prog (TpuEff nD τ sig (Elt F) Λ₀ (.scVector ((i 0).castLE hcore3) ((i 1).castLE hsub3))) PUnit :=
  prepK i hL hW off own hown row hrow tot pref r0 r1 do
    let _ ← Scf.Loop.for k3_t7_loop k3_t7_ok 0#32 fun t _ =>
      fetchBoth (i := i) t keys idx kbuf ibuf sem.sem do
        let _ ← placeNext 22#32 kbuf pbuf off
        send (hg := gathers_S20480000_S1280) rfl sem2.sem (half0 ibuf) (half0 pbuf) (half1 ibuf) (half1 pbuf) iout iout (View.wordExact_bits rfl) (View.wordExact_bits rfl)
    pure ⟨⟩

theorem cc1_eq (i : grid1.Coords) (a2 : Memref sig .scVector .hbm S20480000 .i32) (h2 : a2.IsWhole) (a3 : Memref sig .scVector .hbm S32x32768 .i32) (h3 : a3.IsWhole) (a4 : Memref sig .scVector .hbm S32x2048 .i32) (h4 : a4.IsWhole)
    (a5 : Memref sig .scVector .hbm S20480000 .i32) (h5 : a5.IsWhole) (a6 : Memref sig .scVector .hbm S20480000 .i32) (h6 : a6.IsWhole) (a7 : Memref sig .scVector .vmem S2560 .i32) (h7 : a7.IsWhole)
    (a8 : Memref sig .scVector .vmem S2560 .i32) (h8 : a8.IsWhole) (a9 : Memref sig .scVector .vmem S2560 .i32) (h9 : a9.IsWhole) (a10 : Memref sig .scVector .vmem S32768 .i32) (h10 : a10.IsWhole)
    (a11 : Memref sig .scVector .vmem S32768 .i32) (h11 : a11.IsWhole) (a12 : Memref sig .scVector .vmem S2048 .i32) (h12 : a12.IsWhole) (a13 : Memref sig .scVector .vmem S2048 .i32) (h13 : a13.IsWhole)
    (a14 : Memref sig .scVector .vmem S2048 .i32) (h14 : a14.IsWhole) (s15 s16 r0 r1 : DmaSems sig S_) :
    cc1_scatter_kernel (F := F) i a2 h2 a3 h3 a4 h4 a5 h5 a6 h6 a7 h7 a8 h8 a9 h9 a10 h10 a11 h11 a12 h12 a13 h13 a14 h14 s15 s16 r0 r1
      = firstK i a2 a3 a4 a5 a6 a7 h7 a8 h8 a9 a10 a11 h11 a12 h12 a13 a14 s15 s16 r0 r1 := by
  unfold cc1_scatter_kernel k1_part6 k1_part1 k1_part2 k1_part3 k1_part4 k1_part5
  simp only [bind_assoc, pure_bind]
  rfl

theorem cc3_eq (i : grid3.Coords) (a2 : Memref sig .scVector .hbm S20480000 .i32) (h2 : a2.IsWhole) (a3 : Memref sig .scVector .hbm S20480000 .i32) (h3 : a3.IsWhole) (a4 : Memref sig .scVector .hbm S32x32768 .i32) (h4 : a4.IsWhole) (a5 : Memref sig .scVector .hbm S32x2048 .i32) (h5 : a5.IsWhole)
    (a6 : Memref sig .scVector .hbm S20480000 .i32) (h6 : a6.IsWhole) (a7 : Memref sig .scVector .hbm S20480000 .i32) (h7 : a7.IsWhole) (a8 : Memref sig .scVector .vmem S2560 .i32) (h8 : a8.IsWhole)
    (a9 : Memref sig .scVector .vmem S2560 .i32) (h9 : a9.IsWhole) (a10 : Memref sig .scVector .vmem S2560 .i32) (h10 : a10.IsWhole) (a11 : Memref sig .scVector .vmem S32768 .i32) (h11 : a11.IsWhole)
    (a12 : Memref sig .scVector .vmem S32768 .i32) (h12 : a12.IsWhole) (a13 : Memref sig .scVector .vmem S2048 .i32) (h13 : a13.IsWhole) (a14 : Memref sig .scVector .vmem S2048 .i32) (h14 : a14.IsWhole)
    (a15 : Memref sig .scVector .vmem S2048 .i32) (h15 : a15.IsWhole) (s16 s17 r0 r1 : DmaSems sig S_) :
    cc3_scatter_kernel (F := F) i a2 h2 a3 h3 a4 h4 a5 h5 a6 h6 a7 h7 a8 h8 a9 h9 a10 h10 a11 h11 a12 h12 a13 h13 a14 h14 a15 h15 s16 s17 r0 r1
      = midK i a2 a3 a4 a5 a6 a7 a8 h8 a9 h9 a10 a11 a12 h12 a13 h13 a14 a15 s16 s17 r0 r1 := by
  unfold cc3_scatter_kernel k3_part11 k3_part1 k3_part2 k3_part3 k3_part4 k3_part5 k3_part6 k3_part7 k3_part8 k3_part9 k3_part10
  simp only [bind_assoc, pure_bind]
  rfl

theorem cc5_eq (i : grid5.Coords) (a2 : Memref sig .scVector .hbm S20480000 .i32) (h2 : a2.IsWhole) (a3 : Memref sig .scVector .hbm S20480000 .i32) (h3 : a3.IsWhole) (a4 : Memref sig .scVector .hbm S32x32768 .i32) (h4 : a4.IsWhole) (a5 : Memref sig .scVector .hbm S32x2048 .i32) (h5 : a5.IsWhole)
    (a6 : Memref sig .scVector .hbm S20480000 .i32) (h6 : a6.IsWhole) (a7 : Memref sig .scVector .vmem S2560 .i32) (h7 : a7.IsWhole) (a8 : Memref sig .scVector .vmem S2560 .i32) (h8 : a8.IsWhole)
    (a9 : Memref sig .scVector .vmem S2560 .i32) (h9 : a9.IsWhole) (a10 : Memref sig .scVector .vmem S32768 .i32) (h10 : a10.IsWhole)
    (a11 : Memref sig .scVector .vmem S32768 .i32) (h11 : a11.IsWhole) (a12 : Memref sig .scVector .vmem S2048 .i32) (h12 : a12.IsWhole) (a13 : Memref sig .scVector .vmem S2048 .i32) (h13 : a13.IsWhole)
    (a14 : Memref sig .scVector .vmem S2048 .i32) (h14 : a14.IsWhole) (s15 s16 r0 r1 : DmaSems sig S_) :
    cc5_scatter_kernel (F := F) i a2 h2 a3 h3 a4 h4 a5 h5 a6 h6 a7 h7 a8 h8 a9 h9 a10 h10 a11 h11 a12 h12 a13 h13 a14 h14 s15 s16 r0 r1
      = lastK i a2 a3 a4 a5 a6 a7 a8 a9 a10 a11 h11 a12 h12 a13 a14 s15 s16 r0 r1 := by
  unfold cc5_scatter_kernel k5_part11 k5_part1 k5_part2 k5_part3 k5_part4 k5_part5 k5_part6 k5_part7 k5_part8 k5_part9 k5_part10
  simp only [bind_assoc, pure_bind]
  rfl

end Cert.Proof

end
-- ==== Proof.Prep.lean ====
/-
  The running offsets a tile starts placing with.
-/
module

public import proofs.«01_k».proof.Proof.Scan
public import proofs.«01_k».proof.Proof.Place

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD} {c : Fin τ.nSC} {s : Fin τ.nSub} {α : Type} {Φ : α → sProp (MT nD τ sig (HIx 6) (Elt F) ℕ UU ℕ)}

/-- One of many things taken out, to be put back. -/
theorem lend {ι : Type} [Fintype ι] [DecidableEq ι] (t : ι) (Ψ : ι → sProp 𝕄) : bigSep Finset.univ Ψ ⊢ iprop(Ψ t ∗ (Ψ t -∗ bigSep Finset.univ Ψ)) := by
  rw [SparseCore.bigSep_erase' (Finset.mem_univ t)]
  iintro ⟨H, Hr⟩
  isplitl [H]; · iexact H
  iintro H
  isplitl [H]; · iexact H
  iexact Hr

theorem slt_small : ∀ t w : Fin 32, Scalar.cmpi .slt (wd t.val) (wd w.val) = if t.val < w.val then 1#1 else 0#1 := by decide +kernel

theorem select_lt {t w : ℕ} (ht : t < 32) (hw : w < 32) {β : Type} (x y : β) : Scalar.select (Scalar.cmpi .slt (Scf.iv 0#32 1#32 t) (wd w)) x y = if t < w then x else y := by
  rw [iv_eq, slt_small ⟨t, ht⟩ ⟨w, hw⟩]
  unfold Scalar.select
  show (if (if t < w then 1#1 else 0#1) = 1#1 then x else y) = _
  by_cases h : t < w
  · rw [if_pos h, if_pos h, if_pos rfl]
  · rw [if_neg h, if_neg h, if_neg (by decide)]

/-- The number of a tile. -/
abbrev num (i : grid0.Coords) : ℕ := 16 * (i 0).val + (i 1).val

theorem num_lt (i : grid0.Coords) : num i < 32 := by
  have h0 : (i 0).val < 2 := (i 0).isLt
  have h1 : (i 1).val < 16 := (i 1).isLt
  unfold num; omega

theorem widW_eq (i : grid0.Coords) : widW i = wd (num i) := by
  show (BitVec.ofNat 32 (i 0).val * 16#32 + BitVec.ofNat 32 (i 1).val) = _
  rw [show (16#32 : BitVec 32) = BitVec.ofNat 32 16 from rfl, ← BitVec.ofNat_mul, wd_add, Nat.mul_comm]

/-- Where lane `j / 2048` puts its next key of digit `j % 2048`, after `n` of its words; the tile's words start at `o`. -/
def lanePos (D : ℕ → ℕ) (N o n j : ℕ) : BitVec 32 := wd (below D N (j % 2048) + cnt D (j % 2048) (o + 40000 * (j / 2048) + n))

theorem wp_prepZero {tot pref : Memref sig .scVector .vmem S2048 .i32} {k : BitVec 32 → Prog (TpuEff nD τ sig (Elt F) Λ₀ (.scVector c s)) α} :
    iprop((∃ A, arr (tile d c s) tot fullShare A) ∗ ∃ A, arr (tile d c s) pref fullShare A)
      ⊢ iprop((∀ a, arr (tile d c s) tot fullShare (fun _ => 0#32) ∗ arr (tile d c s) pref fullShare (fun _ => 0#32) -∗ wp frame (wpE defs₀ 𝒱₀ (tile d c s) none) Set.univ (k a) Φ)
        -∗ wp frame (wpE defs₀ 𝒱₀ (tile d c s) none) Set.univ (prepZero tot pref >>= k) Φ : sProp 𝕄) := by
  iintro ⟨⟨%A, H⟩, %B, H'⟩ Hk
  unfold prepZero
  iapply (wp_loop (F := F) (Φ := Φ) k1_t1_loop k1_t1_ok 128 rfl 0#32 _
    (fun t _ => iprop(arr (tile d c s) tot fullShare (mix (16 * t) (fun _ => 0#32) A) ∗ arr (tile d c s) pref fullShare (mix (16 * t) (fun _ => 0#32) B))) ?_) $$ [H H']
  · intro t ht acc
    iintro ⟨H, H'⟩
    iapply (wp_load1 (F := F) (k1_off1_eq t)) $$ H
    iintro H
    iapply (wp_putMix (F := F) (k1_off1_eq t) (fun _ => rfl)) $$ H
    iintro H
    iapply (wp_load1 (F := F) (k1_off1_eq t)) $$ H'
    iintro H'
    iapply (wp_putMix (F := F) (k1_off1_eq t) (fun _ => rfl)) $$ H'
    iintro H'
    iapply (wp_done (F := F))
    isplitl [H]; · iexact H
    iexact H'
  · rw [mix_zero, mix_zero]
    isplitl [H]; · iexact H
    iexact H'
  iintro %a ⟨H, H'⟩
  iapply Hk
  isplitl [H]
  · iapply (of_mix (F := F) (by decide)) $$ H
  iapply (of_mix (F := F) (by decide)) $$ H'

/-- One tile's counts, added. -/
theorem wp_prepRow {t w : ℕ} (ht : t < 32) (hw : w < 32) {row tot pref : Memref sig .scVector .vmem S2048 .i32} {R A B : ℕ → BitVec 32} {k : BitVec 32 → Prog (TpuEff nD τ sig (Elt F) Λ₀ (.scVector c s)) α} :
    iprop(arr (tile d c s) row fullShare R ∗ arr (tile d c s) tot fullShare A ∗ arr (tile d c s) pref fullShare B)
      ⊢ iprop((∀ a, arr (tile d c s) row fullShare R ∗ arr (tile d c s) tot fullShare (fun b => A b + R b) ∗ arr (tile d c s) pref fullShare (fun b => B b + if t < w then R b else 0#32)
          -∗ wp frame (wpE defs₀ 𝒱₀ (tile d c s) none) Set.univ (k a) Φ)
        -∗ wp frame (wpE defs₀ 𝒱₀ (tile d c s) none) Set.univ (prepRow (Scf.iv 0#32 1#32 t) (wd w) row tot pref >>= k) Φ : sProp 𝕄) := by
  iintro ⟨HR, H, H'⟩ Hk
  unfold prepRow
  iapply (wp_loop (F := F) (Φ := Φ) k1_t3_loop k1_t3_ok 128 rfl 0#32 _
    (fun u _ => iprop(arr (tile d c s) row fullShare R ∗ arr (tile d c s) tot fullShare (mix (16 * u) (fun b => A b + R b) A)
      ∗ arr (tile d c s) pref fullShare (mix (16 * u) (fun b => B b + if t < w then R b else 0#32) B))) ?_) $$ [HR H H']
  · intro u hu acc
    iintro ⟨HR, H, H'⟩
    iapply (wp_load1 (F := F) (k1_off3_eq u)) $$ HR
    iintro HR
    iapply (wp_load1 (F := F) (k1_off3_eq u)) $$ H
    iintro H
    iapply (wp_load1 (F := F) (k1_off3_eq u)) $$ H
    iintro H
    iapply (wp_putMix (F := F) (k1_off3_eq u) (fun x => by
      show mix (16 * u.val) (fun b => A b + R b) A (16 * u.val + (x 0).val) + R (16 * u.val + (x 0).val) = _
      rw [mix_ge _ _ (by omega)])) $$ H
    iintro H
    iapply (wp_load1 (F := F) (k1_off3_eq u)) $$ H'
    iintro H'
    iapply (wp_load1 (F := F) (k1_off3_eq u)) $$ H'
    iintro H'
    iapply (wp_putMix (F := F) (k1_off3_eq u) (fun x => by
      rw [select_lt ht hw]
      show mix (16 * u.val) _ B (16 * u.val + (x 0).val) + (if t < w then (fun x : S16.Idx => R (16 * u.val + (x 0).val)) else fun _ => 0#32) x = _
      rw [mix_ge _ _ (by omega)]
      split <;> rfl)) $$ H'
    iintro H'
    iapply (wp_done (F := F))
    isplitl [HR]; · iexact HR
    isplitl [H]; · iexact H
    iexact H'
  · rw [mix_zero, mix_zero]
    isplitl [HR]; · iexact HR
    isplitl [H]; · iexact H
    iexact H'
  iintro %a ⟨HR, H, H'⟩
  iapply Hk
  isplitl [HR]; · iexact HR
  isplitl [H]
  · iapply (of_mix (F := F) (by decide)) $$ H
  iapply (of_mix (F := F) (by decide)) $$ H'

/-- The totals scanned, and the tile's own prefix on top. -/
theorem wp_prepScan {D : ℕ → ℕ} {N o : ℕ} {tot pref : Memref sig .scVector .vmem S2048 .i32} {k : BitVec 32 → Prog (TpuEff nD τ sig (Elt F) Λ₀ (.scVector c s)) α} :
    iprop(arr (tile d c s) tot fullShare (fun b => wd (cnt D b N)) ∗ arr (tile d c s) pref fullShare (fun b => wd (cnt D b o)))
      ⊢ iprop((∀ a, arr (tile d c s) tot fullShare (fun b => wd (below D N b + cnt D b o)) ∗ arr (tile d c s) pref fullShare (fun b => wd (cnt D b o))
          -∗ wp frame (wpE defs₀ 𝒱₀ (tile d c s) none) Set.univ (k a) Φ)
        -∗ wp frame (wpE defs₀ 𝒱₀ (tile d c s) none) Set.univ (prepScan tot pref >>= k) Φ : sProp 𝕄) := by
  iintro ⟨H, H'⟩ Hk
  unfold prepScan
  iapply (wp_loop (F := F) (Φ := Φ) k1_t4_loop k1_t4_ok 128 rfl 0#32 _
    (fun t acc => iprop(⌜acc = wd (below D N (16 * t))⌝ ∗ arr (tile d c s) tot fullShare (mix (16 * t) (fun b => wd (below D N b + cnt D b o)) (fun b => wd (cnt D b N)))
      ∗ arr (tile d c s) pref fullShare (fun b => wd (cnt D b o)))) ?_) $$ [H H']
  · intro t ht acc
    iintro ⟨%hacc, H, H'⟩
    iapply (wp_load1 (F := F) (k1_off4_eq t)) $$ H
    iintro H
    iapply (wp_load1 (F := F) (k1_off4_eq t)) $$ H'
    iintro H'
    iapply (wp_load1 (F := F) (k1_off4_eq t)) $$ H
    iintro H
    have hv : ∀ x : S16.Idx, mix (16 * t.val) (fun b => wd (below D N b + cnt D b o)) (fun b => wd (cnt D b N)) (16 * t.val + (x 0).val) = wd ((fun y => cnt D (16 * t.val + y) N) (x 0).val) :=
      fun x => mix_ge _ _ (by omega)
    have hs := scan_counts (fun y => cnt D (16 * t.val + y) N) (fun x => mix (16 * t.val) (fun b => wd (below D N b + cnt D b o)) (fun b => wd (cnt D b N)) (16 * t.val + (x 0).val)) hv
    iapply (wp_putMix (F := F) (k1_off4_eq t) (fun x => by
      show scan .sum _ x - mix (16 * t.val) _ _ (16 * t.val + (x 0).val) + acc + wd (cnt D (16 * t.val + (x 0).val) o) = _
      rw [hs, hv, hacc, Finset.sum_range_succ, ← wd_add, BitVec.add_sub_cancel, wd_add, wd_add, below_add]
      congr 2; omega)) $$ H
    iintro H
    iapply (wp_done (F := F))
    isplitr
    · ipureintro
      show acc + scan .sum _ _ = _
      rw [hs, hacc, wd_add, show 16 * (t.val + 1) = 16 * t.val + 16 by ring, below_add]
      rfl
    isplitl [H]; · iexact H
    iexact H'
  · rw [mix_zero]
    isplitr; · ipureintro; simp
    isplitl [H]; · iexact H
    iexact H'
  iintro %a ⟨-, H, H'⟩
  iapply Hk
  isplitl [H]
  · iapply (of_mix (F := F) (by decide)) $$ H
  iexact H'

/-- The lanes' offsets. -/
theorem wp_prepOff {D : ℕ → ℕ} {N o : ℕ} {off own : Memref sig .scVector .vmem S32768 .i32} {tot : Memref sig .scVector .vmem S2048 .i32} {k : BitVec 32 → Prog (TpuEff nD τ sig (Elt F) Λ₀ (.scVector c s)) α} :
    iprop((∃ A, arr (tile d c s) off fullShare A) ∗ arr (tile d c s) own fullShare (laneCnt D o 40000) ∗ arr (tile d c s) tot fullShare (fun b => wd (below D N b + cnt D b o)))
      ⊢ iprop((∀ a, arr (tile d c s) off fullShare (lanePos D N o 0) ∗ arr (tile d c s) own fullShare (laneCnt D o 40000) ∗ (∃ A, arr (tile d c s) tot fullShare A)
          -∗ wp frame (wpE defs₀ 𝒱₀ (tile d c s) none) Set.univ (k a) Φ)
        -∗ wp frame (wpE defs₀ 𝒱₀ (tile d c s) none) Set.univ (prepOff off own tot >>= k) Φ : sProp 𝕄) := by
  iintro ⟨⟨%C, Hf⟩, Ho, Ht⟩ Hk
  unfold prepOff
  iapply (wp_loop (F := F) (Φ := Φ) k1_t5_loop k1_t5_ok 16 rfl 0#32 _
    (fun l _ => iprop(arr (tile d c s) off fullShare (mix (2048 * l) (lanePos D N o 0) C) ∗ arr (tile d c s) own fullShare (laneCnt D o 40000)
      ∗ arr (tile d c s) tot fullShare (fun b => wd (below D N b + cnt D b (o + 40000 * l))))) ?_) $$ [Hf Ho Ht]
  · intro l hl acc
    iintro ⟨Hf, Ho, Ht⟩
    iapply (wp_loop (F := F) k1_t6_loop k1_t6_ok 128 rfl 0#32 _
      (fun t _ => iprop(arr (tile d c s) off fullShare (mix (2048 * l.val + 16 * t) (lanePos D N o 0) C) ∗ arr (tile d c s) own fullShare (laneCnt D o 40000)
        ∗ arr (tile d c s) tot fullShare (mix (16 * t) (fun b => wd (below D N b + cnt D b (o + 40000 * (l.val + 1)))) (fun b => wd (below D N b + cnt D b (o + 40000 * l.val)))))) ?_) $$ [Hf Ho Ht]
    · intro t ht acc
      have hx : ∀ x : S16.Idx, (2048 * l.val + 16 * t.val + (x 0).val) / 2048 = l.val ∧ (2048 * l.val + 16 * t.val + (x 0).val) % 2048 = 16 * t.val + (x 0).val := fun x => by
        have : (x 0).val < 16 := (x 0).isLt
        omega
      iintro ⟨Hf, Ho, Ht⟩
      iapply (wp_load1 (F := F) (k1_off6_eq t)) $$ Ht
      iintro Ht
      iapply (wp_load1 (F := F) (k1_off7_eq l t)) $$ Hf
      iintro Hf
      iapply (wp_putMix (F := F) (k1_off7_eq l t) (fun x => by
        beta_reduce
        rw [mix_ge _ _ (by omega)]
        unfold lanePos
        rw [(hx x).1, (hx x).2, Nat.add_zero])) $$ Hf
      iintro Hf
      iapply (wp_load1 (F := F) (k1_off7_eq l t)) $$ Ho
      iintro Ho
      iapply (wp_load1 (F := F) (k1_off6_eq t)) $$ Ht
      iintro Ht
      iapply (wp_putMix (F := F) (k1_off6_eq t) (fun x => by
        show mix (16 * t.val) _ _ (16 * t.val + (x 0).val) + laneCnt D o 40000 (2048 * l.val + 16 * t.val + (x 0).val) = _
        rw [mix_ge _ _ (by omega)]
        unfold laneCnt
        rw [(hx x).1, (hx x).2, wd_add]
        have h2 := cnt_mono (d := D) (16 * t.val + (x 0).val) (show o + 40000 * l.val ≤ o + 40000 * l.val + 40000 by omega)
        rw [show o + 40000 * (l.val + 1) = o + 40000 * l.val + 40000 by omega]
        exact congrArg wd (by omega))) $$ Ht
      iintro Ht
      iapply (wp_done (F := F))
      isplitl [Hf]; · iexact Hf
      isplitl [Ho]; · iexact Ho
      iexact Ht
    · rw [mix_zero]
      isplitl [Hf]; · iexact Hf
      isplitl [Ho]; · iexact Ho
      iexact Ht
    iintro %_ ⟨Hf, Ho, Ht⟩
    iapply (wp_done (F := F))
    isplitl [Hf]; · iexact Hf
    isplitl [Ho]; · iexact Ho
    iapply (of_mix (F := F) (by decide)) $$ Ht
  · rw [Nat.mul_zero, mix_zero]
    isplitl [Hf]; · iexact Hf
    isplitl [Ho]; · iexact Ho
    iexact Ht
  iintro %a ⟨Hf, Ho, Ht⟩
  iapply Hk
  isplitl [Hf]
  · iapply (of_mix (F := F) (by decide)) $$ Hf
  isplitl [Ho]; · iexact Ho
  iexists _; iexact Ht

/-- From zeros through all the tiles' counts: the totals, and the counts before the tile. -/
theorem cnt_next (D : ℕ → ℕ) (b t w : ℕ) : wd (cnt D b (640000 * min t w)) + (if t < w then tileCnt D (640000 * t) b else 0#32) = wd (cnt D b (640000 * min (t + 1) w)) := by
  split
  · have h := cnt_mono (d := D) b (show 640000 * t ≤ 640000 * t + 640000 by omega)
    unfold tileCnt
    rw [wd_add, Nat.min_eq_left (by omega), Nat.min_eq_left (by omega), show 640000 * (t + 1) = 640000 * t + 640000 by ring]
    exact congrArg wd (by omega)
  · rw [Nat.min_eq_right (by omega), Nat.min_eq_right (by omega), BitVec.add_zero]

/-- Everything before the windows. -/
theorem wp_prepK {D : ℕ → ℕ} (i : grid0.Coords) {hL : Memref sig .scVector .hbm S32x32768 .i32} {hW : Memref sig .scVector .hbm S32x2048 .i32} {off own : Memref sig .scVector .vmem S32768 .i32} {hown : own.IsWhole}
    {row : Memref sig .scVector .vmem S2048 .i32} {hrow : row.IsWhole} {tot pref : Memref sig .scVector .vmem S2048 .i32} {r0 r1 : DmaSems sig S_} {O : CellTallies nD τ sig (HIx 6)} {W : Waits sig (HIx 6)} {q q' : PosShare TreeShare}
    (hrow0 : 0 < row.view.dmaCredit) (hown0 : 0 < own.view.dmaCredit)
    {k : Prog (TpuEff nD τ sig (Elt F) Λ₀ (.scVector ((i 0).castLE hcore1) ((i 1).castLE hsub1))) PUnit} {Φ : PUnit → sProp (MT nD τ sig (HIx 6) (Elt F) ℕ UU ℕ)} :
    iprop(semVal (gt d i, .dma r0.sem) 0 ∗ semVal (gt d i, .dma r1.sem) 0 ∗ ow (gt d i) O W ∗ Transfers.MayWaits (gt d i) (default : HIx 6) O
        ∗ arr (gt d i) (rowP hL i) q (laneCnt D (start i) 40000) ∗ (bigSep Finset.univ fun t : Fin k1_t2_loop.trips => arr (gt d i) (rowT hW t) q' (tileCnt D (640000 * t.val)))
        ∗ (∃ A, arr (gt d i) off fullShare A) ∗ (∃ A, arr (gt d i) own fullShare A) ∗ (∃ A, arr (gt d i) row fullShare A) ∗ (∃ A, arr (gt d i) tot fullShare A) ∗ ∃ A, arr (gt d i) pref fullShare A)
      ⊢ iprop((iprop(semVal (gt d i, .dma r0.sem) 0 ∗ semVal (gt d i, .dma r1.sem) 0 ∗ ow (gt d i) O W
          ∗ arr (gt d i) (rowP hL i) q (laneCnt D (start i) 40000) ∗ (bigSep Finset.univ fun t : Fin k1_t2_loop.trips => arr (gt d i) (rowT hW t) q' (tileCnt D (640000 * t.val)))
          ∗ arr (gt d i) off fullShare (lanePos D 20480000 (start i) 0) ∗ (∃ A, arr (gt d i) own fullShare A) ∗ (∃ A, arr (gt d i) row fullShare A) ∗ (∃ A, arr (gt d i) tot fullShare A) ∗ ∃ A, arr (gt d i) pref fullShare A)
            -∗ wp frame (wpE defs₀ 𝒱₀ (gt d i) none) Set.univ k Φ)
          -∗ wp frame (wpE defs₀ 𝒱₀ (gt d i) none) Set.univ (prepK i hL hW off own hown row hrow tot pref r0 r1 k) Φ : sProp 𝕄) := by
  iintro ⟨Hv0, Hv1, HO, #Hmw, HL, HW, Hoff, Hown, Hrow, Htot, Hpref⟩ Hk
  unfold prepK
  iapply (wp_prepZero (F := F)) $$ [Htot Hpref]
  · isplitl [Htot]; · iexact Htot
    iexact Hpref
  iintro %_ ⟨Htot, Hpref⟩
  iapply (wp_loop (F := F) k1_t2_loop k1_t2_ok 32 rfl 0#32 _
    (fun t _ => iprop(Transfers.MayWaits (gt d i) (default : HIx 6) O ∗ semVal (gt d i, .dma r0.sem) 0 ∗ ow (gt d i) O W
      ∗ (bigSep Finset.univ fun t : Fin k1_t2_loop.trips => arr (gt d i) (rowT hW t) q' (tileCnt D (640000 * t.val))) ∗ (∃ A, arr (gt d i) row fullShare A)
      ∗ arr (gt d i) tot fullShare (fun b => wd (cnt D b (640000 * min t 32))) ∗ arr (gt d i) pref fullShare (fun b => wd (cnt D b (640000 * min t (num i)))))) ?_) $$ [Hv0 HO HW Hrow Htot Hpref]
  · intro t ht acc
    iintro ⟨#Hmw, Hv0, HO, HW, Hrow, Htot, Hpref⟩
    ihave HW := (lend (F := F) t _) $$ HW
    icases HW with ⟨HW, Hback⟩
    iapply (wp_copyNow (F := F) hrow0) $$ [Hv0 HO HW Hrow]
    · isplitl [Hv0]; · iexact Hv0
      isplitl [HO]; · iexact HO
      isplitr; · iexact Hmw
      isplitl [HW]; · iexact HW
      iexact Hrow
    iintro ⟨Hv0, HO, HW, Hrow⟩
    ihave HW := Hback $$ HW
    rw [widW_eq]
    iapply (wp_prepRow (F := F) ht (num_lt i)) $$ [Hrow Htot Hpref]
    · isplitl [Hrow]; · iexact Hrow
      isplitl [Htot]; · iexact Htot
      iexact Hpref
    iintro %_ ⟨Hrow, Htot, Hpref⟩
    iapply (wp_done (F := F))
    isplitr; · iexact Hmw
    isplitl [Hv0]; · iexact Hv0
    isplitl [HO]; · iexact HO
    isplitl [HW]; · iexact HW
    isplitl [Hrow]; · iexists _; iexact Hrow
    have e1 : (fun b => wd (cnt D b (640000 * min t.val 32)) + tileCnt D (640000 * t.val) b) = fun b => wd (cnt D b (640000 * min (t.val + 1) 32)) := by
      funext b; rw [← cnt_next, if_pos ht]
    have e2 : (fun b => wd (cnt D b (640000 * min t.val (num i))) + if t.val < num i then tileCnt D (640000 * t.val) b else 0#32) = fun b => wd (cnt D b (640000 * min (t.val + 1) (num i))) := by
      funext b; exact cnt_next _ _ _ _
    isplitl [Htot]
    · rw [← e1]; iexact Htot
    rw [← e2]; iexact Hpref
  · isplitr; · iexact Hmw
    isplitl [Hv0]; · iexact Hv0
    isplitl [HO]; · iexact HO
    isplitl [HW]; · iexact HW
    isplitl [Hrow]; · iexact Hrow
    have e : ∀ n, (fun b => wd (cnt D b (640000 * min 0 n))) = fun _ => 0#32 := fun n => by funext b; simp
    rw [e, e]
    isplitl [Htot]; · iexact Htot
    iexact Hpref
  iintro %_ ⟨-, Hv0, HO, HW, Hrow, Htot, Hpref⟩
  rw [show min 32 32 = 32 from rfl, Nat.min_eq_right (num_lt i).le]
  iapply (wp_prepScan (F := F) (D := D) (N := 20480000) (o := start i)) $$ [Htot Hpref]
  · isplitl [Htot]; · iexact Htot
    iexact Hpref
  iintro %_ ⟨Htot, Hpref⟩
  iapply (wp_copyNow (F := F) hown0) $$ [Hv1 HO HL Hown]
  · isplitl [Hv1]; · iexact Hv1
    isplitl [HO]; · iexact HO
    isplitr; · iexact Hmw
    isplitl [HL]; · iexact HL
    iexact Hown
  iintro ⟨Hv1, HO, HL, Hown⟩
  iapply (wp_prepOff (F := F)) $$ [Hoff Hown Htot]
  · isplitl [Hoff]; · iexact Hoff
    isplitl [Hown]; · iexact Hown
    iexact Htot
  iintro %_ ⟨Hoff, Hown, Htot⟩
  iapply Hk
  isplitl [Hv0]; · iexact Hv0
  isplitl [Hv1]; · iexact Hv1
  isplitl [HO]; · iexact HO
  isplitl [HL]; · iexact HL
  isplitl [HW]; · iexact HW
  isplitl [Hoff]; · iexact Hoff
  isplitl [Hown]; · iexists _; iexact Hown
  isplitl [Hrow]; · iexact Hrow
  isplitl [Htot]; · iexact Htot
  iexists _; iexact Hpref

end Cert.Proof

end
-- ==== Proof.Fill.lean ====
/-
  The places of a window's keys, computed lane by lane.
-/
module

public import proofs.«01_k».proof.Proof.Prep

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD} {c : Fin τ.nSC} {s : Fin τ.nSub} {α : Type} {Φ : α → sProp (MT nD τ sig (HIx 6) (Elt F) ℕ UU ℕ)}

/-- The first `t` words of every lane's part new, the others old. -/
def mixL (t : ℕ) (A B : ℕ → BitVec 32) : ℕ → BitVec 32 := fun j => if j % 160 < t then A j else B j

theorem mixL_zero (A B : ℕ → BitVec 32) : mixL 0 A B = B := by funext j; simp [mixL]

theorem mixL_all (A B : ℕ → BitVec 32) : mixL 160 A B = A := by funext j; unfold mixL; rw [if_pos (Nat.mod_lt _ (by omega))]

theorem win_at (A : ℕ → BitVec 32) (o n t x : ℕ) (ht : t < 160) : win A o n (160 * x + t) = A (o + 40000 * x + n + t) := by
  unfold win
  rw [show (160 * x + t) / 160 = x by omega, show (160 * x + t) % 160 = t by omega]

theorem lanePos_succ (D : ℕ → ℕ) (N o n j : ℕ) : lanePos D N o (n + 1) j = lanePos D N o n j + if D (o + 40000 * (j / 2048) + n) = j % 2048 then 1#32 else 0#32 := by
  unfold lanePos
  rw [← Nat.add_assoc, cnt_succ]
  split
  · rw [show (1#32 : BitVec 32) = wd 1 from rfl, wd_add]; rfl
  · rw [BitVec.add_zero]; rfl

/-- The places of the keys, as words. -/
abbrev place (D : ℕ → ℕ) (e : ℕ) : BitVec 32 := wd (pos D 20480000 e)

/-- What the lanes' bins hold is the places of the lanes' keys. -/
theorem lanePos_at {sh : ℕ} (hsh : sh < 32) (Kf : ℕ → BitVec 32) (o n t : ℕ) (ht : t < 160) (x : S16.Idx) :
    lanePos (kd sh Kf) 20480000 o (n + t) (atBin (digits (wd sh) fun x => win Kf o n (atWin t x).toNat) x).toNat = place (kd sh Kf) (o + 40000 * (x 0).val + n + t) := by
  have hk := kd_lt sh Kf (o + 40000 * (x 0).val + n + t)
  rw [atBin_win hsh Kf o n t ht]
  unfold lanePos place pos
  rw [(laneOf_bin hk).1, (laneOf_bin hk).2, Nat.add_assoc (o + 40000 * (x 0).val) n t]

/-- Word `t` of every lane's part stored. -/
theorem wp_storeWin {m : Memref sig .scVector .vmem S2560 .i32} {t : ℕ} (ht : t < 160) {A B : ℕ → BitVec 32} {v : IVec S16 32} {hw hx} (hv : ∀ x : S16.Idx, v x = A (160 * (x 0).val + t))
    {k : PUnit → Prog (TpuEff nD τ sig (Elt F) Λ₀ (.scVector c s)) α} :
    (arr (tile d c s) m fullShare (mixL t A B) : sProp 𝕄)
      ⊢ iprop((arr (tile d c s) m fullShare (mixL (t + 1) A B) -∗ wp frame (wpE defs₀ 𝒱₀ (tile d c s) none) Set.univ (k ⟨⟩) Φ)
        -∗ wp frame (wpE defs₀ 𝒱₀ (tile d c s) none) Set.univ (SparseCore.vectorStoreIdx m ![atWin t] v (fun _ => 1#1) false hw hx >>= k) Φ) := by
  refine wp_storeIdx1 (F := F) (mixL (t + 1) A B) (fun x y h => ?_) (fun x => ?_) fun j hj h => ?_
  · rw [atWin_toNat ht, atWin_toNat ht] at h
    exact lane_ext (by omega)
  · refine Eq.trans ?_ (if_neg (by decide)).symm
    rw [hv, atWin_toNat ht]
    exact if_pos (by omega)
  · have hne : j % 160 ≠ t := by
      intro he
      have hj' : j < 2560 := hj
      refine h (lane (j / 160) (by omega)) ?_
      rw [atWin_toNat ht]
      show 160 * (j / 160) + t = j
      omega
    unfold mixL
    split <;> split <;> first | rfl | omega

/-- The places of a later pass's window. -/
theorem wp_placeNext {sh : ℕ} (hsh : sh < 32) {kbuf pbuf : Memref sig .scVector .vmem S2560 .i32} {off : Memref sig .scVector .vmem S32768 .i32} {Kf : ℕ → BitVec 32} {o n : ℕ}
    {k : BitVec 32 → Prog (TpuEff nD τ sig (Elt F) Λ₀ (.scVector c s)) α} :
    iprop(arr (tile d c s) kbuf fullShare (win Kf o n) ∗ arr (tile d c s) off fullShare (lanePos (kd sh Kf) 20480000 o n) ∗ ∃ B, arr (tile d c s) pbuf fullShare B)
      ⊢ iprop((∀ a, arr (tile d c s) kbuf fullShare (win Kf o n) ∗ arr (tile d c s) off fullShare (lanePos (kd sh Kf) 20480000 o (n + 160)) ∗ arr (tile d c s) pbuf fullShare (win (place (kd sh Kf)) o n)
          -∗ wp frame (wpE defs₀ 𝒱₀ (tile d c s) none) Set.univ (k a) Φ)
        -∗ wp frame (wpE defs₀ 𝒱₀ (tile d c s) none) Set.univ (placeNext (wd sh) kbuf pbuf off >>= k) Φ : sProp 𝕄) := by
  iintro ⟨Hk', Ho, %B, Hp⟩ Hk
  unfold placeNext
  iapply (wp_loop (F := F) (Φ := Φ) k3_t8_loop k3_t8_ok 160 rfl 0#32 _
    (fun t _ => iprop(arr (tile d c s) kbuf fullShare (win Kf o n) ∗ arr (tile d c s) off fullShare (lanePos (kd sh Kf) 20480000 o (n + t))
      ∗ arr (tile d c s) pbuf fullShare (mixL t (win (place (kd sh Kf)) o n) B))) ?_) $$ [Hk' Ho Hp]
  · intro t ht acc
    iintro ⟨Hk', Ho, Hp⟩
    iapply (wp_check (F := F) ⟨atWin_inb ht, atWin_inb ht⟩)
    iapply (wp_loadIdx1 (F := F)) $$ Hk'
    iintro Hk'
    iapply (wp_check (F := F) ⟨atBin_inb hsh Kf o n t ht, atBin_inb hsh Kf o n t ht⟩)
    iapply (wp_loadIdx1 (F := F)) $$ Ho
    iintro Ho
    have hb := bump hsh Kf o n t ht (lanePos (kd sh Kf) 20480000 o (n + t)) (lanePos (kd sh Kf) 20480000 o (n + t + 1)) fun j _ => by
      rw [lanePos_succ, Nat.add_assoc (o + 40000 * (j / 2048))]
    iapply (wp_storeIdx1 (F := F) (lanePos (kd sh Kf) 20480000 o (n + t + 1)) (atBin_inj hsh Kf o n t ht) (fun x => (hb.1 x).trans (if_pos rfl).symm) hb.2) $$ Ho
    iintro Ho
    iapply (wp_storeWin (F := F) ht (fun x => (lanePos_at hsh Kf o n t ht x).trans (win_at _ o n t _ ht).symm)) $$ Hp
    iintro Hp
    iapply (wp_done (F := F))
    isplitl [Hk']; · iexact Hk'
    isplitl [Ho]; · iexact Ho
    iexact Hp
  · rw [mixL_zero]
    isplitl [Hk']; · iexact Hk'
    isplitl [Ho]; · iexact Ho
    iexact Hp
  rw [mixL_all]
  iintro %a H
  iapply Hk
  iexact H

/-- The places of the first pass's window, and the numbers of its keys. -/
theorem wp_placeFirst {kbuf ibuf pbuf : Memref sig .scVector .vmem S2560 .i32} {off : Memref sig .scVector .vmem S32768 .i32} {Kf : ℕ → BitVec 32} {o m : ℕ}
    {k : BitVec 32 → Prog (TpuEff nD τ sig (Elt F) Λ₀ (.scVector c s)) α} :
    iprop(arr (tile d c s) kbuf fullShare (win Kf o (160 * m)) ∗ arr (tile d c s) off fullShare (lanePos (kd 0 Kf) 20480000 o (160 * m)) ∗ (∃ B, arr (tile d c s) pbuf fullShare B) ∗ ∃ B, arr (tile d c s) ibuf fullShare B)
      ⊢ iprop((∀ a, arr (tile d c s) kbuf fullShare (win Kf o (160 * m)) ∗ arr (tile d c s) off fullShare (lanePos (kd 0 Kf) 20480000 o (160 * m + 160))
            ∗ arr (tile d c s) pbuf fullShare (win (place (kd 0 Kf)) o (160 * m)) ∗ arr (tile d c s) ibuf fullShare (win wd o (160 * m))
          -∗ wp frame (wpE defs₀ 𝒱₀ (tile d c s) none) Set.univ (k a) Φ)
        -∗ wp frame (wpE defs₀ 𝒱₀ (tile d c s) none) Set.univ (placeFirst (wd o) (Scf.iv 0#32 1#32 m) kbuf ibuf pbuf off >>= k) Φ : sProp 𝕄) := by
  iintro ⟨Hk', Ho, ⟨%B, Hp⟩, %B', Hi⟩ Hk
  unfold placeFirst
  iapply (wp_loop (F := F) (Φ := Φ) k1_t8_loop k1_t8_ok 160 rfl 0#32 _
    (fun t _ => iprop(arr (tile d c s) kbuf fullShare (win Kf o (160 * m)) ∗ arr (tile d c s) off fullShare (lanePos (kd 0 Kf) 20480000 o (160 * m + t))
      ∗ arr (tile d c s) pbuf fullShare (mixL t (win (place (kd 0 Kf)) o (160 * m)) B) ∗ arr (tile d c s) ibuf fullShare (mixL t (win wd o (160 * m)) B'))) ?_) $$ [Hk' Ho Hp Hi]
  · intro t ht acc
    have hsh : (0 : ℕ) < 32 := by decide
    iintro ⟨Hk', Ho, Hp, Hi⟩
    iapply (wp_check (F := F) ⟨atWin_inb ht, atWin_inb ht, atWin_inb ht⟩)
    iapply (wp_loadIdx1 (F := F)) $$ Hk'
    iintro Hk'
    iapply (wp_check (F := F) ⟨atBin_inb hsh Kf o (160 * m) t ht, atBin_inb hsh Kf o (160 * m) t ht⟩)
    iapply (wp_loadIdx1 (F := F)) $$ Ho
    iintro Ho
    have hb := bump hsh Kf o (160 * m) t ht (lanePos (kd 0 Kf) 20480000 o (160 * m + t)) (lanePos (kd 0 Kf) 20480000 o (160 * m + t + 1)) fun j _ => by
      rw [lanePos_succ, Nat.add_assoc (o + 40000 * (j / 2048))]
    iapply (wp_storeIdx1 (F := F) (lanePos (kd 0 Kf) 20480000 o (160 * m + t + 1)) (atBin_inj hsh Kf o (160 * m) t ht) (fun x => (hb.1 x).trans (if_pos rfl).symm) hb.2) $$ Ho
    iintro Ho
    iapply (wp_storeWin (F := F) ht (fun x => (lanePos_at hsh Kf o (160 * m) t ht x).trans (win_at _ o (160 * m) t _ ht).symm)) $$ Hp
    iintro Hp
    iapply (wp_storeWin (F := F) ht (fun x => by
      rw [win_at _ _ _ _ _ ht]
      show wd o + lanes x * 40000#32 + (Scf.iv 0#32 1#32 m * 160#32 + Scf.iv 0#32 1#32 t.val) = _
      rw [lanes_apply, iv_eq, iv_eq, show (160#32 : BitVec 32) = BitVec.ofNat 32 160 from rfl, show (40000#32 : BitVec 32) = BitVec.ofNat 32 40000 from rfl, ← BitVec.ofNat_mul, ← BitVec.ofNat_mul, wd_add, wd_add, wd_add]
      exact congrArg wd (by ring))) $$ Hi
    iintro Hi
    iapply (wp_done (F := F))
    isplitl [Hk']; · iexact Hk'
    isplitl [Ho]; · iexact Ho
    isplitl [Hp]; · iexact Hp
    iexact Hi
  · rw [mixL_zero, mixL_zero]
    isplitl [Hk']; · iexact Hk'
    isplitl [Ho]; · iexact Ho
    isplitl [Hp]; · iexact Hp
    iexact Hi
  rw [mixL_all, mixL_all]
  iintro %a H
  iapply Hk
  iexact H

end Cert.Proof

end
-- ==== Proof.Fetch2.lean ====
/-
  The windows of two arrays fetched together.
-/
module

public import proofs.«01_k».proof.Proof.HistRun
public import proofs.«01_k».proof.Proof.Place

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F] {d : Dev nD} {c : Fin τ.nSC} {s : Fin τ.nSub} {α : Type} {Φ : α → sProp (MT nD τ sig (HIx 6) (Elt F) ℕ UU ℕ)}

/-- Thirty-two things are sixteen and sixteen. -/
theorem bigSep_halves (Ψ : Fin 32 → sProp 𝕄) :
    bigSep Finset.univ Ψ = iprop((bigSep Finset.univ fun a : Fin 16 => Ψ (Fin.castAdd 16 a)) ∗ bigSep Finset.univ fun a : Fin 16 => Ψ (Fin.natAdd 16 a)) := by
  rw [bigSep_univ_equiv (finSumFinEquiv (m := 16) (n := 16)) Ψ, bigSep_univ_sum]
  rfl

section Pick

variable {β : Type} (x y : β) (a : Fin 16)

theorem pick_fst : pick x y (Fin.castAdd 16 a) = x := if_pos a.isLt

theorem pick_snd : pick x y (Fin.natAdd 16 a) = y := if_neg (by show ¬ (16 + a.val < 16); omega)

theorem lane_fst : laneOfPiece (Fin.castAdd 16 a) = a := Fin.ext (Nat.mod_eq_of_lt a.isLt)

theorem lane_snd : laneOfPiece (Fin.natAdd 16 a) = a := Fin.ext (by show (16 + a.val) % 16 = a.val; omega)

end Pick

/-- The windows of two arrays: sixteen pieces of each, side by side. -/
theorem wp_fetch32 {ks is : Memref sig .scVector .hbm S20480000 .i32} {kb ib : Memref sig .scVector .vmem S2560 .i32} {sem : DmaSem sig} {off : Fin 16 → Fin 1 → ℕ} {inb : ∀ (l : Fin 16) a, off l a + S160.size a ≤ S20480000.size a}
    {O : CellTallies nD τ sig (HIx 6)} {W : Waits sig (HIx 6)} {q : PosShare TreeShare} {A A' : ℕ → BitVec 32}
    (o : Fin 16 → ℕ) (ho : ∀ l, off l = ![o l]) (hd : ∀ l l', l ≠ l' → o l + 160 ≤ o l' ∨ o l' + 160 ≤ o l) (B B' : ℕ → BitVec 32)
    (hB : ∀ (l : Fin 16) j, j < 160 → B (160 * l.val + j) = A (o l + j)) (hB' : ∀ (l : Fin 16) j, j < 160 → B' (160 * l.val + j) = A' (o l + j)) {k : Prog (TpuEff nD τ sig (Elt F) Λ₀ (.scVector c s)) α} :
    iprop(semVal (tile d c s, .dma sem) 0 ∗ ow (tile d c s) O W ∗ Transfers.MayWaits (tile d c s) (default : HIx 6) O
        ∗ arr (tile d c s) ks q A ∗ arr (tile d c s) is q A' ∗ (∃ B₀, arr (tile d c s) kb fullShare B₀) ∗ ∃ B₁, arr (tile d c s) ib fullShare B₁)
      ⊢ iprop((iprop(semVal (tile d c s, .dma sem) 0 ∗ ow (tile d c s) O W ∗ arr (tile d c s) ks q A ∗ arr (tile d c s) is q A' ∗ arr (tile d c s) kb fullShare B ∗ arr (tile d c s) ib fullShare B')
            -∗ wp frame (wpE defs₀ 𝒱₀ (tile d c s) none) Set.univ k Φ)
          -∗ wp frame (wpE defs₀ 𝒱₀ (tile d c s) none) Set.univ (fetch (m := 31) (pick ks is) (pick kb ib) sem (fun l => off (laneOfPiece l)) (fun l => inb (laneOfPiece l)) (fun l => 160 * (laneOfPiece l).val) (fun l => inb_lane (laneOfPiece l)) k) Φ : sProp 𝕄) := by
  iintro ⟨Hv, HO, #Hmw, Hks, His, ⟨%B₀, Hkb⟩, %B₁, Hib⟩ Hk
  ihave Hks := (arr_carve (F := F) (t := tile d c s) (m := ks) (q := q) (A := A) 160 off inb o ho hd) $$ Hks
  icases Hks with ⟨Hks, Hback⟩
  ihave His := (arr_carve (F := F) (t := tile d c s) (m := is) (q := q) (A := A') 160 off inb o ho hd) $$ His
  icases His with ⟨His, Hback'⟩
  ihave Hkb := (arr_pieces (F := F) (t := tile d c s) (m := kb) (q := fullShare) (A := B₀) 16 160 rfl inb_lane) $$ Hkb
  ihave Hib := (arr_pieces (F := F) (t := tile d c s) (m := ib) (q := fullShare) (A := B₁) 16 160 rfl inb_lane) $$ Hib
  ihave H1 := (ready_of (F := F) (t := tile d c s) (fun l : Fin 16 => piece ks 160 (off l) (inb l)) (fun l : Fin 16 => piece kb 160 ![160 * l.val] (inb_lane l)) q (fun l j => A (o l + j))
      (fun l j => B₀ (160 * l.val + j))) $$ [Hks Hkb]
  · isplitl [Hkb] <;> iassumption
  ihave H2 := (ready_of (F := F) (t := tile d c s) (fun l : Fin 16 => piece is 160 (off l) (inb l)) (fun l : Fin 16 => piece ib 160 ![160 * l.val] (inb_lane l)) q (fun l j => A' (o l + j))
      (fun l j => B₁ (160 * l.val + j))) $$ [His Hib]
  · isplitl [Hib] <;> iassumption
  unfold fetch
  iapply (wp_copies (F := F) (Φ := Φ) (sig.dmaCredit .scVector (Kind.scVector.table .vmem) kb.view.buf S160 .i32) (sig.dmaCredit_pos _ _ _ _ _ (by decide)) (sem := sem) (q := q) (O := O) (W := W) (m := 31)
    (fun l => piece (pick ks is l) 160 (off (laneOfPiece l)) (inb (laneOfPiece l))) (fun l => piece (pick kb ib l) 160 ![160 * (laneOfPiece l).val] (inb_lane (laneOfPiece l)))
    (fun l j => pick A A' l (o (laneOfPiece l) + j)) (fun l => by unfold pick; split <;> rfl)) $$ [Hv HO H1 H2]
  · isplitl [Hv]; · iexact Hv
    isplitl [HO]; · iexact HO
    isplitr; · iexact Hmw
    rw [bigSep_halves]
    simp only [pick_fst, pick_snd, lane_fst, lane_snd]
    isplitl [H1]; · iexact H1
    iexact H2
  rw [bigSep_halves]
  unfold landed
  simp only [pick_fst, pick_snd, lane_fst, lane_snd]
  rw [bigSep_two, bigSep_two]
  iintro ⟨⟨⟨Hkb, Hks⟩, Hib, His⟩, Hv, HO⟩
  iapply Hk
  isplitl [Hv]; · iexact Hv
  isplitl [HO]; · iexact HO
  isplitl [Hks Hback]
  · iapply Hback; iexact Hks
  isplitl [His Hback']
  · iapply Hback'; iexact His
  isplitl [Hkb]
  · iapply (arr_of_lanes (F := F) o A B hB) $$ Hkb
  iapply (arr_of_lanes (F := F) o A' B' hB') $$ Hib

end Cert.Proof

end
-- ==== Proof.Scat.lean ====
/-
  Two indexed copies started on one semaphore and both waited for: the rows of both, as one batch.
-/
module

public import proofs.«01_k».proof.Proof.Words
public import Idealize.ShloMosaic.Lib.SparseCore.Scatter

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F] {d : Dev nD} {c : Fin τ.nSC} {s : Fin τ.nSub} {α : Type} {Φ : α → sProp (MT nD τ sig (HIx 6) (Elt F) ℕ UU ℕ)} {w : ℕ}

/-- Rows `a` to `b - 1` of a batch still to be started, and those from `b` on. -/
theorem pending_block {n : ℕ} (j w : ℕ) (h : j + w ≤ n) (Ψ : Fin n → sProp 𝕄) :
    bigSep (Transfers.pending (n := n) j) Ψ = iprop((bigSep Finset.univ fun k : Fin w => Ψ ⟨j + k.val, by omega⟩) ∗ bigSep (Transfers.pending (n := n) (j + w)) Ψ) := by
  classical
  let f : Fin w ↪ Fin n := ⟨fun k => ⟨j + k.val, by omega⟩, fun a b e => Fin.ext (by have := congrArg Fin.val e; simp only at this; omega)⟩
  have hs : Transfers.pending (n := n) j = Finset.univ.map f ∪ Transfers.pending (n := n) (j + w) := by
    ext t
    simp only [Transfers.pending, Finset.mem_union, Finset.mem_map, Finset.mem_filter, Finset.mem_univ, true_and]
    constructor
    · intro ht
      by_cases hh : j + w ≤ t.val
      · exact .inr hh
      · exact .inl ⟨⟨t.val - j, by omega⟩, Fin.ext (show j + (t.val - j) = t.val by omega)⟩
    · rintro (⟨k, rfl⟩ | h)
      · show j ≤ j + k.val; omega
      · omega
  have hd : Disjoint (Finset.univ.map f) (Transfers.pending (n := n) (j + w)) := by
    rw [Finset.disjoint_left]
    intro t ht
    obtain ⟨k, -, rfl⟩ := Finset.mem_map.mp ht
    simp only [Transfers.pending, Finset.mem_filter, Finset.mem_univ, true_and]
    show ¬ (j + w ≤ j + k.val); omega
  rw [hs, bigSep_union hd, SparseCore.bigSep_map]
  rfl

/-- The entries of a list of `w` words, and the rows of the target. -/
abbrev Ent (hg : S20480000.Gathers 0 ⟨1, ![w]⟩) : Type := Fin ((⟨1, ![w]⟩ : Shape).size hg.axis')
abbrev Row (hg : S20480000.Gathers 0 ⟨1, ![w]⟩) : Type := Fin (S20480000.size hg.axis)

theorem ent_lt (hg : S20480000.Gathers 0 ⟨1, ![w]⟩) {j n : ℕ} (hj : j + w ≤ n) (k : Ent hg) : j + k.val < n := by
  have : k.val < w := k.isLt
  omega

section Issue

variable {src offs : Memref sig .scVector .vmem ⟨1, ![w]⟩ .i32} {dst : Memref sig .scVector .hbm S20480000 .i32} {hg : S20480000.Gathers 0 ⟨1, ![w]⟩}
  {hn : (⟨1, ![w]⟩ : Shape).numel = (⟨1, ![w]⟩ : Shape).size hg.axis'} {sem : DmaSem sig}

/-- What serving entry `k` leaves: its row of the target written, its word of the list, its row of the source. -/
def rowDone (d : Dev nD) (c : Fin τ.nSC) (s : Fin τ.nSub) (src offs : Memref sig .scVector .vmem ⟨1, ![w]⟩ .i32) (dst : Memref sig .scVector .hbm S20480000 .i32) (hg : S20480000.Gathers 0 ⟨1, ![w]⟩)
    (hn : (⟨1, ![w]⟩ : Shape).numel = (⟨1, ![w]⟩ : Shape).size hg.axis')
    (q qo : PosShare TreeShare) (fs : Buf (Elt F) (src.view.loc (tile d c s))) (fd : Buf (Elt F) (dst.view.loc (tile d c s))) (fo : Buf (Elt F) (offs.view.loc (tile d c s)))
    (r : Ent hg → Row hg) (k : Ent hg) : sProp 𝕄 :=
  iprop(((dst.view.loc (tile d c s) ↦[(dst.view.slice (S20480000.rowRect hg.axis (r k))).set]{fullShare}
        ((dst.view.slice (S20480000.rowRect hg.axis (r k))).write (Elt F) fd (SparseCore.scatterRowPayload (tile d c s) src hg fs k) Finset.univ))
      ∗ (offs.view.loc (tile d c s) ↦[{offs.view.emb ((⟨1, ![w]⟩ : Shape).rowMajor.symm (Fin.cast hn.symm k))}]{qo} fo))
    ∗ (src.view.loc (tile d c s) ↦[(src.view.slice ((⟨1, ![w]⟩ : Shape).rowRect hg.axis' k)).set]{q} fs))

instance rowDone_storable {q qo fs fd fo} {r : Ent hg → Row hg} {k : Ent hg} :
    BI.Storable (upEmb : UEmb _ 𝕄) (rowDone (F := F) d c s src offs dst hg hn q qo fs fd fo r k) := by unfold rowDone; infer_instance

/-- An indexed copy started into a batch: its rows are the batch's next ones. -/
theorem wp_scatIssue {hp he hsp hr} {n : ℕ} {Dl : Fin n → sProp (MT nD τ sig (HIx 6) (Elt F) ℕ UU ℕ)} {j u : ℕ} (hj : j + w ≤ n) (hu : u ≤ j * 32) (hw : 0 < w)
    {q qo : PosShare TreeShare} {fs : Buf (Elt F) (src.view.loc (tile d c s))} {fd : Buf (Elt F) (dst.view.loc (tile d c s))} {fo : Buf (Elt F) (offs.view.loc (tile d c s))}
    (hin : ∀ x, (offs.view.read (Elt F) fo x).toNat < S20480000.size hg.axis)
    (hinj : Function.Injective (SparseCore.rows (offs.view.read (Elt F) fo) hn hin))
    (hD : ∀ k : Ent hg, rowDone d c s src offs dst hg hn q qo fs fd fo (SparseCore.rows (offs.view.read (Elt F) fo) hn hin) k ⊢ Dl ⟨j + k.val, ent_lt hg hj k⟩)
    {k : PUnit → Prog (TpuEff nD τ sig (Elt F) Λ₀ (.scVector c s)) α} :
    iprop((src.view.loc (tile d c s) ↦[src.view.set]{q} fs)
        ∗ (dst.view.loc (tile d c s) ↦[SparseCore.namedRows (tile d c s) dst.view hg.axis (SparseCore.rows (offs.view.read (Elt F) fo) hn hin)]{fullShare} fd)
        ∗ (offs.view.loc (tile d c s) ↦[offs.view.set]{qo} fo) ∗ Transfers.Batch countersEmb (tile d c s) (.dma sem) (default : HIx 6) 32 Dl j u)
      ⊢ iprop((Transfers.Batch countersEmb (tile d c s) (.dma sem) (default : HIx 6) 32 Dl (j + w) u -∗ wp frame (wpE defs₀ 𝒱₀ (tile d c s) none) Set.univ (k ⟨⟩) Φ)
        -∗ wp frame (wpE defs₀ 𝒱₀ (tile d c s) none) Set.univ (SparseCore.enqueueIndirectScatter hp src dst hg offs hn sem he hsp hr >>= k) Φ : sProp 𝕄) := by
  classical
  let tl : Thread nD τ := tile d c s
  let r : Ent hg → Row hg := SparseCore.rows (offs.view.read (Elt F) fo) hn hin
  let S : Stream nD τ sig (Elt F) :=
    Stream.issued tl offs.view hn sem (fun j w => (SparseCore.rowOf (S20480000.size hg.axis) w).map (SparseCore.scatterRow tl src dst hg sem he hsp hr j)) 0
  let rd : Ent hg → RowDma τ sig (Elt F) tl.2 sem := fun j => SparseCore.scatterRow tl src dst hg sem he hsp hr j (r j)
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (S20480000.size hg.axis) (offs.view.read (Elt F) fo (S.entry j))).map _ = _
    rw [SparseCore.rowOf_of_lt (hin _)]; rfl
  have hen : Function.Bijective S.entry := (⟨1, ![w]⟩ : Shape).rowMajor.symm.bijective.comp (finCongr hn.symm).bijective
  have hset : ∀ j, (src.view.slice ((⟨1, ![w]⟩ : Shape).rowRect hg.axis' j)).set = (rd j).src.view.set := fun j =>
    (View.set_cast (v := src.view.slice ((⟨1, ![w]⟩ : Shape).rowRect hg.axis' j)) _ _).symm
  have hN : ∑ k, (rd k).dst.view.dmaCredit = w * 32 := by
    have h1 : ∀ k, (rd k).dst.view.dmaCredit = 32 := fun k => rfl
    rw [Finset.sum_congr rfl fun k _ => h1 k, Finset.sum_const, Finset.card_univ, Fintype.card_fin, smul_eq_mul]; rfl
  have hrows : (dst.view.loc tl ↦[SparseCore.namedRows tl dst.view hg.axis r]{fullShare} fd : sProp 𝕄)
      = bigSep Finset.univ fun j => dst.view.loc tl ↦[(dst.view.slice (S20480000.rowRect hg.axis (r j))).set]{fullShare} fd :=
    pointsTo_biUnion _ _ fun j _ j' _ h => dst.view.disjoint_rows hg.axis fun e => h (hinj e)
  rw [SparseCore.enqueueIndirectScatter_bind]
  unfold Transfers.Batch
  iintro ⟨Hs, Hd, Ho, ⟨%γ, %γ₀, %κ, #Hinv, HI, H0, Hcred⟩⟩ Hk
  ihave HI' := (Entails.of_eq (pending_block (F := F) j ((⟨1, ![w]⟩ : Shape).size hg.axis') hj fun t => count countersEmb (γ t) 0)) $$ HI
  icases HI' with ⟨Hγ, HI⟩
  ihave Hd' := (Entails.of_eq hrows) $$ [Hd]
  · iexact Hd
  ihave Ho' := (Entails.of_eq (pointsTo_entries tl offs.view S.entry hen qo fo)) $$ Ho
  ihave Hs' := (Entails.of_eq (pointsTo_rows tl src.view hg.axis' q fs)) $$ Hs
  iapply (wp_enqueueIndirectDma 𝒱₀ tl none Set.univ (qo := qo) (fo := fo) (rd := rd) (default : HIx 6) (w * 32) hA hrd hN) $$ [Hd' Ho' Hs' Hγ]
  · have hrow : ∀ k : Ent hg, iprop(inv κ (Transfers.batchBody countersEmb (tl, SemLoc.dma sem) 32 Dl γ γ₀)
          ∗ ((((dst.view.loc tl ↦[(dst.view.slice (S20480000.rowRect hg.axis (r k))).set]{fullShare} fd) ∗ S.heldEntry qo fo k)
          ∗ (src.view.loc tl ↦[(src.view.slice ((⟨1, ![w]⟩ : Shape).rowRect hg.axis' k)).set]{q} fs)) ∗ count countersEmb (γ ⟨j + k.val, ent_lt hg hj k⟩) 0))
        ⊢ iprop(S.heldEntry qo fo k ∗ (S.heldEntry qo fo k -∗ rowRes tl (rd k))) := fun k => by
      have hput : iprop(((dst.view.loc tl ↦[(dst.view.slice (S20480000.rowRect hg.axis (r k))).set]{fullShare}
              ((dst.view.slice (S20480000.rowRect hg.axis (r k))).write (Elt F) fd (SparseCore.scatterRowPayload tl src hg fs k) Finset.univ)) ∗ S.heldEntry qo fo k)
              ∗ ((rd k).src.view.loc tl ↦[(rd k).src.view.set]{q} fs)) ⊢ Dl ⟨j + k.val, ent_lt hg hj k⟩ := by
        rw [← hset k]; exact hD k
      iintro ⟨#Hinv, ⟨⟨Hr, He⟩, Hsq⟩, Hγk⟩
      isplitl [He]; · iexact He
      iintro He
      unfold rowRes
      iexists q, fs, iprop((dst.view.loc tl ↦[(dst.view.slice (S20480000.rowRect hg.axis (r k))).set]{fullShare}
              ((dst.view.slice (S20480000.rowRect hg.axis (r k))).write (Elt F) fd (SparseCore.scatterRowPayload tl src hg fs k) Finset.univ)) ∗ S.heldEntry qo fo k)
      isplitl [Hsq]; · iapply (Entails.of_eq (congrArg (fun I => (src.view.loc tl ↦[I]{q} fs : sProp 𝕄)) (hset k))) $$ Hsq
      isplitl [Hr He]
      · iapply writeUpdate_frame
        isplitl [Hr]
        · iapply (pointsTo_writeUpdate tl (v := dst.view.slice (S20480000.rowRect hg.axis (r k))) subset_rfl) $$ Hr
        · iexact He
      · iapply (Transfers.batch_creditUpdate countersEmb (D := Dl) (γ := γ) ⟨j + k.val, ent_lt hg hj k⟩ hput)
        isplitr; · iexact Hinv
        iexact Hγk
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (j + w) * 32 - u = (j * 32 - u) + w * 32 by omega, ← tallyAt_add]
  icombine Hcred Hcred' as H
  iexact H

/-- All the entries served: the named rows, the source and the list. -/
theorem rowsDone_join {q qo : PosShare TreeShare} {fs : Buf (Elt F) (src.view.loc (tile d c s))} {fd : Buf (Elt F) (dst.view.loc (tile d c s))} {fo : Buf (Elt F) (offs.view.loc (tile d c s))}
    {r : Ent hg → Row hg} (hinj : Function.Injective r) :
    (bigSep Finset.univ fun k => rowDone d c s src offs dst hg hn q qo fs fd fo r k)
      ⊢ (iprop((dst.view.loc (tile d c s) ↦[SparseCore.namedRows (tile d c s) dst.view hg.axis r]{fullShare} (SparseCore.scatterBuf (tile d c s) dst.view hg.axis r (SparseCore.scatterRowPayload (tile d c s) src hg fs) fd))
        ∗ (src.view.loc (tile d c s) ↦[src.view.set]{q} fs) ∗ (offs.view.loc (tile d c s) ↦[offs.view.set]{qo} fo)) : sProp 𝕄) := by
  have hen : Function.Bijective (fun k : Ent hg => (⟨1, ![w]⟩ : Shape).rowMajor.symm (Fin.cast hn.symm k)) := (⟨1, ![w]⟩ : Shape).rowMajor.symm.bijective.comp (finCongr hn.symm).bijective
  unfold rowDone
  iintro H
  ihave H1 := Transfers.bigSep_sep_out _ _ _ $$ H
  icases H1 with ⟨H2, Hsrc⟩
  ihave H3 := Transfers.bigSep_sep_out _ _ _ $$ H2
  icases H3 with ⟨Hrows, Hoffs⟩
  isplitl [Hrows]
  · ihave Hj := (pointsTo_biUnion_join (ℓ := dst.view.loc (tile d c s)) (q := fullShare) Finset.univ
        (fun k => (dst.view.slice (S20480000.rowRect hg.axis (r k))).set)
        (fun k => (dst.view.slice (S20480000.rowRect hg.axis (r k))).write (Elt F) fd (SparseCore.scatterRowPayload (tile d c s) src hg fs k) Finset.univ) fd
        fun k _ k' _ h => dst.view.disjoint_rows hg.axis fun e => h (hinj e)) $$ Hrows
    icases Hj with ⟨%g, %hgw, Hj⟩
    have hc : ∀ i ∈ Finset.univ.biUnion (fun k => (dst.view.slice (S20480000.rowRect hg.axis (r k))).set),
        g i = SparseCore.scatterBuf (tile d c s) dst.view hg.axis r (SparseCore.scatterRowPayload (tile d c s) src hg fs) fd i := fun i hi => by
      obtain ⟨k, -, hk⟩ := Finset.mem_biUnion.mp hi
      rw [hgw k (Finset.mem_univ k) i hk, SparseCore.scatterBuf_of_mem (tile d c s) dst.view hg.axis r hinj _ fd hk]
    rw [SparseCore.namedRows_eq, ← pointsTo_congr hc]
    iexact Hj
  isplitl [Hsrc]
  · iapply (Entails.of_eq (pointsTo_rows (tile d c s) src.view hg.axis' q fs).symm) $$ Hsrc
  · iapply (Entails.of_eq (pointsTo_entries (tile d c s) offs.view _ hen qo fo).symm) $$ Hoffs

end Issue

end Cert.Proof

end
-- ==== Proof.Spots.lean ====
/-
  Part of a flat array: the positions a condition names, at given contents; and two indexed copies onto such parts.
-/
module

public import proofs.«01_k».proof.Proof.Scat

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

section Parts

variable {sp : Space} {n : ℕ} {t : Thread nD τ}

/-- The elements of an array whose positions satisfy `p`. -/
def spots {κ : Kind} (m : Memref sig κ sp ⟨1, ![n]⟩ .i32) (p : ℕ → Prop) : Finset m.view.ty.Idx :=
  open scoped Classical in (Finset.univ.filter fun x : (⟨1, ![n]⟩ : Shape).Idx => p (x 0).val).map m.view.emb

theorem mem_spots {κ : Kind} {m : Memref sig κ sp ⟨1, ![n]⟩ .i32} {p : ℕ → Prop} {y : m.view.ty.Idx} : y ∈ spots m p ↔ ∃ x : (⟨1, ![n]⟩ : Shape).Idx, p (x 0).val ∧ m.view.emb x = y := by
  simp [spots]

/-- The positions of `m` that satisfy `p`, holding the words `A` gives them. -/
def part (t : Thread nD τ) (m : Memref sig t.2.kind sp ⟨1, ![n]⟩ .i32) (p : ℕ → Prop) (A : ℕ → BitVec 32) : sProp 𝕄 :=
  iprop(∃ f, ⌜∀ x : (⟨1, ![n]⟩ : Shape).Idx, p (x 0).val → m.view.read (Elt F) f x = A (x 0).val⌝ ∗ (m.view.loc t ↦[spots m p]{fullShare} f))

instance part_storable {m : Memref sig t.2.kind sp ⟨1, ![n]⟩ .i32} {p : ℕ → Prop} {A : ℕ → BitVec 32} : BI.Storable (upEmb : UEmb _ 𝕄) (part (F := F) t m p A) := by
  unfold part; infer_instance

instance arr_storable {m : Memref sig t.2.kind sp ⟨1, ![n]⟩ .i32} {q : PosShare TreeShare} {A : ℕ → BitVec 32} : BI.Storable (upEmb : UEmb _ 𝕄) (arr (F := F) t m q A) := by
  unfold arr; infer_instance

variable {m : Memref sig t.2.kind sp ⟨1, ![n]⟩ .i32} {p q r : ℕ → Prop} {A B : ℕ → BitVec 32}

theorem spots_true {κ : Kind} {m : Memref sig κ sp ⟨1, ![n]⟩ .i32} (h : ∀ i, i < n → p i) : spots m p = m.view.set := by
  ext y
  rw [mem_spots, View.set, Finset.mem_map]
  exact ⟨fun ⟨x, _, e⟩ => ⟨x, Finset.mem_univ _, e⟩, fun ⟨x, _, e⟩ => ⟨x, h _ (x 0).isLt, e⟩⟩

/-- Every position: the whole array. -/
theorem part_all (h : ∀ i, i < n → p i) : (part t m p A : sProp 𝕄) ⊢ arr t m fullShare A := by
  unfold part arr owns
  rw [spots_true h]
  iintro ⟨%f, %hf, H⟩
  iexists f
  isplitr; · ipureintro; funext x; exact hf x (h _ (x 0).isLt)
  iexact H

theorem all_part (h : ∀ i, i < n → p i) : (arr t m fullShare A : sProp 𝕄) ⊢ part t m p A := by
  unfold part arr owns
  rw [spots_true h]
  iintro ⟨%f, %hf, H⟩
  iexists f
  isplitr; · ipureintro; intro x _; rw [hf]
  iexact H

theorem spots_congr {κ : Kind} {m : Memref sig κ sp ⟨1, ![n]⟩ .i32} (h : ∀ i, i < n → (p i ↔ q i)) : spots m p = spots m q := by
  ext y
  rw [mem_spots, mem_spots]
  exact ⟨fun ⟨x, hx, e⟩ => ⟨x, (h _ (x 0).isLt).1 hx, e⟩, fun ⟨x, hx, e⟩ => ⟨x, (h _ (x 0).isLt).2 hx, e⟩⟩

theorem part_congr (h : ∀ i, i < n → (p i ↔ q i)) (hA : ∀ i, i < n → q i → A i = B i) : (part t m p A : sProp 𝕄) ⊢ part t m q B := by
  unfold part
  rw [spots_congr h]
  iintro ⟨%f, %hf, H⟩
  iexists f
  isplitr; · ipureintro; intro x hx; rw [hf x ((h _ (x 0).isLt).2 hx), hA _ (x 0).isLt hx]
  iexact H

theorem spots_or {κ : Kind} {m : Memref sig κ sp ⟨1, ![n]⟩ .i32} (h : ∀ i, i < n → (p i ↔ q i ∨ r i)) : spots m p = spots m q ∪ spots m r := by
  ext y
  rw [Finset.mem_union, mem_spots, mem_spots, mem_spots]
  constructor
  · rintro ⟨x, hx, e⟩
    rcases (h _ (x 0).isLt).1 hx with h1 | h1
    · exact .inl ⟨x, h1, e⟩
    · exact .inr ⟨x, h1, e⟩
  · rintro (⟨x, hx, e⟩ | ⟨x, hx, e⟩)
    · exact ⟨x, (h _ (x 0).isLt).2 (.inl hx), e⟩
    · exact ⟨x, (h _ (x 0).isLt).2 (.inr hx), e⟩

theorem spots_disjoint {κ : Kind} {m : Memref sig κ sp ⟨1, ![n]⟩ .i32} (h : ∀ i, i < n → q i → ¬ r i) : Disjoint (spots m q) (spots m r) := by
  rw [Finset.disjoint_left]
  intro y hy hz
  obtain ⟨x, hx, rfl⟩ := mem_spots.mp hy
  obtain ⟨x', hx', e⟩ := mem_spots.mp hz
  have := m.view.emb.injective e
  subst this
  exact h _ (x' 0).isLt hx hx'

theorem part_split (h : ∀ i, i < n → (p i ↔ q i ∨ r i)) (hd : ∀ i, i < n → q i → ¬ r i) :
    (part t m p A : sProp 𝕄) ⊢ iprop(part t m q A ∗ part t m r A) := by
  unfold part
  rw [spots_or h]
  iintro ⟨%f, %hf, H⟩
  ihave H := (pointsTo_union (spots_disjoint hd)).1 $$ H
  icases H with ⟨H1, H2⟩
  isplitl [H1]
  · iexists f
    isplitr; · ipureintro; intro x hx; exact hf x ((h _ (x 0).isLt).2 (.inl hx))
    iexact H1
  · iexists f
    isplitr; · ipureintro; intro x hx; exact hf x ((h _ (x 0).isLt).2 (.inr hx))
    iexact H2

theorem part_join (h : ∀ i, i < n → (p i ↔ q i ∨ r i)) (hd : ∀ i, i < n → q i → ¬ r i) :
    iprop(part t m q A ∗ part t m r A) ⊢ (part t m p A : sProp 𝕄) := by
  classical
  unfold part
  rw [spots_or h]
  iintro ⟨⟨%f, %hf, H1⟩, ⟨%g, %hg, H2⟩⟩
  have h1 : ∀ i ∈ spots m q, f i = if i ∈ spots m q then f i else g i := fun i hi => (if_pos hi).symm
  have h2 : ∀ i ∈ spots m r, g i = if i ∈ spots m q then f i else g i := fun i hi =>
    (if_neg fun hq => Finset.disjoint_left.mp (spots_disjoint hd) hq hi).symm
  iexists fun i => if i ∈ spots m q then f i else g i
  isplitr
  · ipureintro
    intro x hx
    by_cases hq : q (x 0).val
    · rw [← hf x hq, View.read_apply, View.read_apply, if_pos (mem_spots.mpr ⟨x, hq, rfl⟩)]
    · have hr : r (x 0).val := ((h _ (x 0).isLt).1 hx).resolve_left hq
      rw [← hg x hr, View.read_apply, View.read_apply, if_neg]
      intro hm
      obtain ⟨x', hx', e⟩ := mem_spots.mp hm
      have := m.view.emb.injective e
      subst this
      exact hq hx'
  iapply (pointsTo_union (spots_disjoint hd)).2
  isplitl [H1]
  · iapply (Entails.of_eq (pointsTo_congr h1)) $$ H1
  · iapply (Entails.of_eq (pointsTo_congr h2)) $$ H2

/-- The whole array, cut as one piece, is the array. -/
theorem part_slice {inb : ∀ a, (![0] : Fin 1 → ℕ) a + (![n] : Fin 1 → ℕ) a ≤ (⟨1, ![n]⟩ : Shape).size a} {hst} :
    (part t (m.slice (Rect.unit (s := ⟨1, ![n]⟩) ![0] ![n] inb) hst) p A : sProp 𝕄) = part t m p A := by
  have he : ∀ x : (⟨1, ![n]⟩ : Shape).Idx, (Rect.unit (s := ⟨1, ![n]⟩) ![0] ![n] inb).emb x = x := fun x => by
    funext a
    have : a = 0 := Subsingleton.elim _ _
    subst this
    apply Fin.ext
    show 0 + 1 * (x 0).val = (x 0).val
    omega
  have h1 : ∀ x, (m.slice (Rect.unit (s := ⟨1, ![n]⟩) ![0] ![n] inb) hst).view.emb x = m.view.emb x := fun x => congrArg m.view.emb (he x)
  have h2 : spots (m.slice (Rect.unit (s := ⟨1, ![n]⟩) ![0] ![n] inb) hst) p = spots m p := by
    ext y
    rw [mem_spots]
    refine Iff.trans ?_ mem_spots.symm
    exact ⟨fun ⟨x, hx, e⟩ => ⟨x, hx, (h1 x).symm.trans e⟩, fun ⟨x, hx, e⟩ => ⟨x, hx, (h1 x).trans e⟩⟩
  have h3 : ∀ (f : m.view.ty.Contents (Elt F)) x, (m.slice (Rect.unit (s := ⟨1, ![n]⟩) ![0] ![n] inb) hst).view.read (Elt F) f x = m.view.read (Elt F) f x := fun f x =>
    congrArg (m.view.read (Elt F) f) (he x)
  unfold part
  rw [h2]
  show iprop(∃ f, ⌜∀ x : (⟨1, ![n]⟩ : Shape).Idx, p (x 0).val → (m.slice (Rect.unit (s := ⟨1, ![n]⟩) ![0] ![n] inb) hst).view.read (Elt F) f x = A (x 0).val⌝ ∗ (m.view.loc t ↦[spots m p]{fullShare} f)) = _
  simp only [h3]

end Parts

end Cert.Proof

end
-- ==== Proof.Scat2.lean ====
/-
  Two indexed copies, both started before either is waited for: the parts of the targets their lists name, written.
-/
module

public import proofs.«01_k».proof.Proof.Spots

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

section Named

variable {w : ℕ} {t : Thread nD τ} {src offs : Memref sig t.2.kind .vmem ⟨1, ![w]⟩ .i32} {dst : Memref sig t.2.kind .hbm S20480000 .i32} {hg : S20480000.Gathers 0 ⟨1, ![w]⟩}

theorem row_size (s : Shape) (a b : Fin s.rank) (h : b = a) : (s.rowShape a).size b = 1 := if_pos h

theorem mem_row {i : Row hg} {x : S20480000.Idx} : x ∈ (S20480000.rowRect hg.axis i).set ↔ (x 0).val = i.val := by
  refine Iff.trans (Rect.mem_set_unit (s := S20480000)) ?_
  constructor
  · intro h
    have h0 := h 0
    have e : (if (0 : Fin 1) = hg.axis then i.val else 0) = i.val := if_pos (Subsingleton.elim _ _)
    have e' : (S20480000.rowShape hg.axis).size (0 : Fin 1) = 1 := row_size _ _ _ (Subsingleton.elim (α := Fin 1) _ _)
    exact by
      have h1 := h0.1
      have h2 := h0.2
      rw [e] at h1
      have h3 := lt_of_lt_of_eq h2 (congrArg₂ (· + ·) e e')
      omega
  · intro h a
    have e : (if a = hg.axis then i.val else 0) = i.val := if_pos (Subsingleton.elim (α := Fin 1) _ _)
    have e' : (S20480000.rowShape hg.axis).size a = 1 := if_pos (Subsingleton.elim (α := Fin 1) _ _)
    have ea : a = (0 : Fin 1) := Subsingleton.elim (α := Fin 1) _ _
    subst ea
    exact ⟨by rw [e]; omega, lt_of_lt_of_eq (by omega) (congrArg₂ (· + ·) e e').symm⟩

/-- The rows a list names are the spots it names. -/
theorem names_spots (r : Ent hg → Row hg) : SparseCore.namedRows t dst.view hg.axis r = spots dst fun i => ∃ k, (r k).val = i := by
  ext y
  rw [mem_spots, SparseCore.namedRows_eq, Finset.mem_biUnion]
  constructor
  · rintro ⟨k, -, hk⟩
    rw [View.set_slice, Finset.mem_map] at hk
    obtain ⟨x, hx, e⟩ := hk
    exact ⟨x, ⟨k, (mem_row.mp hx).symm⟩, e⟩
  · rintro ⟨x, ⟨k, hk⟩, e⟩
    refine ⟨k, Finset.mem_univ _, ?_⟩
    rw [View.set_slice, Finset.mem_map]
    exact ⟨x, mem_row.mpr hk.symm, e⟩

theorem scattered_read (r : Ent hg → Row hg) (hinj : Function.Injective r) (fs : Buf (Elt F) (src.view.loc t)) (fd : Buf (Elt F) (dst.view.loc t)) {x : S20480000.Idx} {k : Ent hg} (hk : (r k).val = (x 0).val)
    (z : (⟨1, ![w]⟩ : Shape).Idx) (hz : (z 0).val = k.val) :
    dst.view.read (Elt F) (SparseCore.scatterBuf t dst.view hg.axis r (SparseCore.scatterRowPayload t src hg fs) fd) x = src.view.read (Elt F) fs z := by
  have hx : x ∈ (S20480000.rowRect hg.axis (r k)).set := mem_row.mpr hk.symm
  have hm : dst.view.emb x ∈ (dst.view.slice (S20480000.rowRect hg.axis (r k))).set := by
    rw [View.set_slice]; exact Finset.mem_map_of_mem _ hx
  rw [View.read_apply, SparseCore.scatterBuf_of_mem t dst.view hg.axis r hinj _ fd hm, ← View.read_apply]
  obtain ⟨y, -, hy⟩ := Finset.mem_map.mp hm
  have hxy : x = (S20480000.rowRect hg.axis (r k)).emb y := dst.view.emb.injective hy.symm
  rw [hxy]
  refine Eq.trans (View.read_slice_write_emb (Val := Elt F) (v := dst.view) (S20480000.rowRect hg.axis (r k)) fd (SparseCore.scatterRowPayload t src hg fs k) (Finset.mem_univ y)) ?_
  show ((src.view.slice ((⟨1, ![w]⟩ : Shape).rowRect hg.axis' k)).cast hg.rowShape_eq rfl).read (Elt F) fs y = _
  refine congrArg (src.view.read (Elt F) fs) (?_ : ((⟨1, ![w]⟩ : Shape).rowRect hg.axis' k).emb ((Shape.idxEquiv hg.rowShape_eq).symm y) = z)
  funext a
  have ea : a = (0 : Fin 1) := Subsingleton.elim (α := Fin 1) _ _
  subst ea
  apply Fin.ext
  have h1 : (((Shape.idxEquiv hg.rowShape_eq).symm y) (0 : Fin 1)).val < 1 :=
    lt_of_lt_of_eq ((((Shape.idxEquiv hg.rowShape_eq).symm y) (0 : Fin 1)).isLt)
      (show ((⟨1, ![w]⟩ : Shape).rowShape hg.axis').size (0 : Fin 1) = 1 from row_size _ _ _ (Subsingleton.elim (α := Fin 1) _ _))
  have e : (if (0 : Fin 1) = hg.axis' then k.val else 0) = k.val := if_pos (Subsingleton.elim _ _)
  show (if (0 : Fin 1) = hg.axis' then k.val else 0) + 1 * (((Shape.idxEquiv hg.rowShape_eq).symm y) (0 : Fin 1)).val = (z 0).val
  rw [e, hz]
  omega

end Named

/-- A list `O` of `w` distinct rows of the target names exactly the rows of `p`, and `G` is what words `A` put there. -/
structure Fits (w : ℕ) (O A : ℕ → BitVec 32) (p : ℕ → Prop) (G : ℕ → BitVec 32) : Prop where
  inb : ∀ j, j < w → (O j).toNat < 20480000
  inj : ∀ j j', j < w → j' < w → (O j).toNat = (O j').toNat → j = j'
  spots : ∀ i, p i ↔ ∃ j, j < w ∧ (O j).toNat = i
  val : ∀ j, j < w → G (O j).toNat = A j

section Two

variable [FloatOps F] {d : Dev nD} {c : Fin τ.nSC} {s : Fin τ.nSub} {α : Type} {Φ : α → sProp (MT nD τ sig (HIx 6) (Elt F) ℕ UU ℕ)} {w : ℕ}
  {src offs : Memref sig .scVector .vmem ⟨1, ![w]⟩ .i32} {dst : Memref sig .scVector .hbm S20480000 .i32} {hg : S20480000.Gathers 0 ⟨1, ![w]⟩}
  {hn : (⟨1, ![w]⟩ : Shape).numel = (⟨1, ![w]⟩ : Shape).size hg.axis'}
  {O A G : ℕ → BitVec 32} {p : ℕ → Prop}

theorem list_inb (H : Fits w O A p G) {fo : Buf (Elt F) (offs.view.loc (tile d c s))} (ho : ∀ x, offs.view.read (Elt F) fo x = O (x 0).val) (x : (⟨1, ![w]⟩ : Shape).Idx) :
    (offs.view.read (Elt F) fo x).toNat < S20480000.size hg.axis :=
  lt_of_lt_of_eq (by rw [ho]; exact H.inb _ (x 0).isLt) (congrArg S20480000.size (Subsingleton.elim (α := Fin 1) 0 _))

theorem list_row (H : Fits w O A p G) {fo : Buf (Elt F) (offs.view.loc (tile d c s))} (ho : ∀ x, offs.view.read (Elt F) fo x = O (x 0).val) (k : Ent hg) :
    (SparseCore.rows (offs.view.read (Elt F) fo) hn (list_inb H ho) k : Row hg).val = (O k.val).toNat := by
  show (offs.view.read (Elt F) fo _).toNat = _
  rw [ho, ← Shape.rowMajor_val_one, Equiv.apply_symm_apply]
  rfl

theorem list_inj (H : Fits w O A p G) {fo : Buf (Elt F) (offs.view.loc (tile d c s))} (ho : ∀ x, offs.view.read (Elt F) fo x = O (x 0).val) :
    Function.Injective (SparseCore.rows (offs.view.read (Elt F) fo) hn (list_inb H ho) : Ent hg → Row hg) := fun a b e => by
  have h := congrArg Fin.val e
  rw [list_row H ho, list_row H ho] at h
  exact Fin.ext (H.inj _ _ a.isLt b.isLt h)

theorem list_spots (H : Fits w O A p G) {fo : Buf (Elt F) (offs.view.loc (tile d c s))} (ho : ∀ x, offs.view.read (Elt F) fo x = O (x 0).val) :
    SparseCore.namedRows (tile d c s) dst.view hg.axis (SparseCore.rows (offs.view.read (Elt F) fo) hn (list_inb H ho)) = spots dst p := by
  rw [names_spots (t := tile d c s)]
  refine spots_congr fun i _ => ?_
  rw [H.spots]
  constructor
  · rintro ⟨k, hk⟩
    exact ⟨k.val, k.isLt, by rw [← hk, list_row H ho]⟩
  · rintro ⟨j, hj, e⟩
    exact ⟨⟨j, hj⟩, by rw [list_row H ho]; exact e⟩

/-- What the served entries leave, in words. -/
theorem served (H : Fits w O A p G) {q qo : PosShare TreeShare} {fs : Buf (Elt F) (src.view.loc (tile d c s))} {fd : Buf (Elt F) (dst.view.loc (tile d c s))} {fo : Buf (Elt F) (offs.view.loc (tile d c s))}
    (hs : ∀ x, src.view.read (Elt F) fs x = A (x 0).val) (ho : ∀ x, offs.view.read (Elt F) fo x = O (x 0).val) :
    (bigSep Finset.univ fun k : Ent hg => rowDone d c s src offs dst hg hn q qo fs fd fo (SparseCore.rows (offs.view.read (Elt F) fo) hn (list_inb H ho)) k)
      ⊢ (iprop(arr (tile d c s) src q A ∗ arr (tile d c s) offs qo O ∗ part (tile d c s) dst p G) : sProp 𝕄) := by
  iintro H
  ihave H := (rowsDone_join (list_inj H ho)) $$ H
  icases H with ⟨Hd, Hs, Ho⟩
  isplitl [Hs]
  · unfold arr owns
    iexists fs
    isplitr; · ipureintro; funext x; exact hs x
    iexact Hs
  isplitl [Ho]
  · unfold arr owns
    iexists fo
    isplitr; · ipureintro; funext x; exact ho x
    iexact Ho
  · rw [list_spots H ho]
    unfold part
    iexists _
    isplitr; swap; · iexact Hd
    ipureintro
    intro x hx
    obtain ⟨j, hj, e⟩ := (H.spots _).mp hx
    have hk : (SparseCore.rows (offs.view.read (Elt F) fo) hn (list_inb H ho) (⟨j, hj⟩ : Ent hg) : Row hg).val = (x 0).val := (list_row H ho _).trans e
    rw [scattered_read (t := tile d c s) _ (list_inj H ho) fs fd hk (fun a => ⟨j, by rw [Subsingleton.elim (α := Fin 1) a 0]; exact hj⟩) rfl, hs, ← e]
    exact (H.val j hj).symm

variable {src' offs' wsrc wsrc' : Memref sig .scVector .vmem ⟨1, ![w]⟩ .i32} {dst' wdst wdst' : Memref sig .scVector .hbm S20480000 .i32} {O' A' G' : ℕ → BitVec 32} {p' : ℕ → Prop}

theorem wp_scatter2 {hp he hsp hr hp' he' hsp' hr' h1 h2 h3 h4} {hn' : (⟨1, ![w]⟩ : Shape).numel = (⟨1, ![w]⟩ : Shape).size hg.axis'} {sem : DmaSem sig} (hw : 0 < w)
    (hc : wsrc.view.dmaCredit = w * 32) (hc' : wsrc'.view.dmaCredit = w * 32)
    {q q' qo qo' : PosShare TreeShare} {OO : CellTallies nD τ sig (HIx 6)} {W : Waits sig (HIx 6)} {B B' : ℕ → BitVec 32}
    (H : Fits w O A p G) (H' : Fits w O' A' p' G')
    {k : PUnit → Prog (TpuEff nD τ sig (Elt F) Λ₀ (.scVector c s)) α} :
    iprop(semVal (tile d c s, .dma sem) 0 ∗ ow (tile d c s) OO W ∗ Transfers.MayWaits (tile d c s) (default : HIx 6) OO
        ∗ arr (tile d c s) src q A ∗ arr (tile d c s) offs qo O ∗ part (tile d c s) dst p B
        ∗ arr (tile d c s) src' q' A' ∗ arr (tile d c s) offs' qo' O' ∗ part (tile d c s) dst' p' B')
      ⊢ iprop((iprop(semVal (tile d c s, .dma sem) 0 ∗ ow (tile d c s) OO W
          ∗ arr (tile d c s) src q A ∗ arr (tile d c s) offs qo O ∗ part (tile d c s) dst p G
          ∗ arr (tile d c s) src' q' A' ∗ arr (tile d c s) offs' qo' O' ∗ part (tile d c s) dst' p' G') -∗ wp frame (wpE defs₀ 𝒱₀ (tile d c s) none) Set.univ (k ⟨⟩) Φ)
        -∗ wp frame (wpE defs₀ 𝒱₀ (tile d c s) none) Set.univ
            (SparseCore.enqueueIndirectScatter hp src dst hg offs hn sem he hsp hr >>= fun _ =>
              SparseCore.enqueueIndirectScatter hp' src' dst' hg offs' hn' sem he' hsp' hr' >>= fun _ =>
              SparseCore.waitIndirectScatter sem wsrc wdst h1 h2 >>= fun _ => SparseCore.waitIndirectScatter sem wsrc' wdst' h3 h4 >>= k) Φ : sProp 𝕄) := by
  unfold arr owns part
  iintro ⟨Hv, HO, #Hmw, ⟨%fs, %hs, Hs⟩, ⟨%fo, %ho, Ho⟩, ⟨%fd, -, Hd⟩, ⟨%fs', %hs', Hs'⟩, ⟨%fo', %ho', Ho'⟩, ⟨%fd', -, Hd'⟩⟩ Hk
  have gs : ∀ x, src.view.read (Elt F) fs x = A (x 0).val := fun x => congrFun hs x
  have go : ∀ x, offs.view.read (Elt F) fo x = O (x 0).val := fun x => congrFun ho x
  have gs' : ∀ x, src'.view.read (Elt F) fs' x = A' (x 0).val := fun x => congrFun hs' x
  have go' : ∀ x, offs'.view.read (Elt F) fo' x = O' (x 0).val := fun x => congrFun ho' x
  let D1 : Ent hg → sProp 𝕄 := fun k => rowDone d c s src offs dst hg hn q qo fs fd fo (SparseCore.rows (offs.view.read (Elt F) fo) hn (list_inb H go)) k
  let D2 : Ent hg → sProp 𝕄 := fun k => rowDone d c s src' offs' dst' hg hn' q' qo' fs' fd' fo' (SparseCore.rows (offs'.view.read (Elt F) fo') hn' (list_inb H' go')) k
  let Dl : Fin (w + w) → sProp 𝕄 := fun t => if h : t.val < w then D1 ⟨t.val, h⟩ else D2 ⟨t.val - w, show t.val - w < w by omega⟩
  haveI hst : ∀ t, BI.Storable (upEmb : UEmb _ 𝕄) (Dl t) := fun t => by
    by_cases h : t.val < w
    · rw [show Dl t = D1 ⟨t.val, h⟩ from dif_pos h]; exact rowDone_storable
    · rw [show Dl t = D2 ⟨t.val - w, show t.val - w < w by omega⟩ from dif_neg h]; exact rowDone_storable
  have e1 : ∀ k : Ent hg, Dl ⟨0 + k.val, ent_lt hg (j := 0) (n := w + w) (by omega) k⟩ = D1 k := fun k => by
    have hk : k.val < w := k.isLt
    show (if h : 0 + k.val < w then D1 ⟨0 + k.val, h⟩ else _) = _
    rw [dif_pos (by omega)]
    exact congrArg D1 (Fin.ext (Nat.zero_add _))
  have e2 : ∀ k : Ent hg, Dl ⟨w + k.val, ent_lt hg (j := w) (n := w + w) (by omega) k⟩ = D2 k := fun k => by
    have hk : k.val < w := k.isLt
    show (if h : w + k.val < w then D1 ⟨w + k.val, h⟩ else _) = _
    rw [dif_neg (by omega)]
    exact congrArg D2 (Fin.ext (Nat.add_sub_cancel_left _ _))
  imod (Transfers.batch_alloc' countersEmb (tile d c s) (sm := SemLoc.dma sem) (default : HIx 6) 32 Dl (E := Set.univ)) $$ Hv with HB
  iapply (wp_scatIssue (Dl := Dl) (j := 0) (u := 0) (by omega) (by omega) hw (list_inb H go) (list_inj H go) (fun k => Entails.of_eq (e1 k).symm)) $$ [Hs Ho Hd HB]
  · isplitl [Hs]; · iexact Hs
    isplitl [Hd]; · rw [list_spots H go]; iexact Hd
    isplitl [Ho]; · iexact Ho
    iexact HB
  rw [Nat.zero_add]
  iintro HB
  iapply (wp_scatIssue (Dl := Dl) (j := w) (u := 0) (by omega) (by omega) hw (list_inb H' go') (list_inj H' go') (fun k => Entails.of_eq (e2 k).symm)) $$ [Hs' Ho' Hd' HB]
  · isplitl [Hs']; · iexact Hs'
    isplitl [Hd']; · rw [list_spots H' go']; iexact Hd'
    isplitl [Ho']; · iexact Ho'
    iexact HB
  iintro HB
  unfold ow
  icases HO with ⟨%W', %hW', HO⟩
  iapply (Transfers.wp_waitBatchMulO (defs := defs₀) countersEmb 𝒱₀ (tile d c s) none (Q := Φ) (sem := sem) (default : HIx 6) w (N := 32) hc
    (D := Dl) (j := w + w) (u := 0) (by omega) (O := OO) (W := W')) $$ [HB HO]
  · isplitl [HB]; · iexact HB
    isplitl [HO]; · iexact HO
    iapply (Transfers.MayWaits.elim (SemLoc.dma sem)) $$ Hmw
  iintro ⟨HB, HO⟩
  iapply (Transfers.wp_waitBatchAllO (defs := defs₀) countersEmb 𝒱₀ (tile d c s) none (Q := Φ) (sem := sem) (default : HIx 6) hc' (N := 32) (by decide)
    (D := Dl) (u := 0 + w * 32) (by omega) (O := OO)) $$ [HB HO]
  · isplitl [HB]; · iexact HB
    isplitl [HO]; · iexact HO
    iapply (Transfers.MayWaits.elim (SemLoc.dma sem)) $$ Hmw
  iintro ⟨HD, Hv, HO⟩
  have hall : bigSep Finset.univ Dl = iprop((bigSep Finset.univ D1) ∗ ((bigSep Finset.univ D2) ∗ bigSep (Transfers.pending (n := w + w) (w + w)) Dl)) := by
    have h2 := (pending_block 0 w (by omega) Dl).trans (congrArg₂ BIBase.sep (congrArg (bigSep Finset.univ) (funext e1))
      ((congrArg (fun n => bigSep (Transfers.pending n) Dl) (Nat.zero_add w)).trans
        ((pending_block w w le_rfl Dl).trans (congrArg₂ BIBase.sep (congrArg (bigSep Finset.univ) (funext e2)) rfl))))
    rw [← Transfers.pending_zero]
    exact h2
  ihave HD := (Entails.of_eq hall) $$ HD
  icases HD with ⟨HD1, HD2, -⟩
  ihave HD1 := (served H gs go) $$ HD1
  ihave HD2 := (served H' gs' go') $$ HD2
  icases HD1 with ⟨Hs, Ho, Hd⟩
  icases HD2 with ⟨Hs', Ho', Hd'⟩
  unfold arr owns part
  iapply Hk
  isplitl [Hv]; · iexact Hv
  isplitl [HO]
  · iexists _; isplitr; swap; · iexact HO
    ipureintro; intro p hp
    rcases Finset.mem_insert.mp hp with hp | hp
    · exact .inr (hp ▸ rfl)
    rcases Finset.mem_insert.mp hp with hp | hp
    · exact .inr (hp ▸ rfl)
    · exact hW' p hp
  isplitl [Hs]; · iexact Hs
  isplitl [Ho]; · iexact Ho
  isplitl [Hd]; · iexact Hd
  isplitl [Hs']; · iexact Hs'
  isplitl [Ho']; · iexact Ho'
  iexact Hd'

end Two

end Cert.Proof

end
-- ==== Proof.Send.lean ====
/-
  A window sent to its places.
-/
module

public import proofs.«01_k».proof.Proof.Fill
public import proofs.«01_k».proof.Proof.Fetch2
public import proofs.«01_k».proof.Proof.Scat2
public import Idealize.ShloMosaic.Lib.MemrefSat
public import Idealize.ShloMosaic.Lib.StableHlo.CollectiveRules

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

/-- The places of the words `lo` to `hi` of every lane of a tile whose words start at `o`. -/
def rng (D : ℕ → ℕ) (o lo hi i : ℕ) : Prop := ∃ l m, l < 16 ∧ lo ≤ m ∧ m < hi ∧ pos D 20480000 (o + 40000 * l + m) = i

/-- The places of the words `a` to `b` of a window. -/
def seg (D : ℕ → ℕ) (o n a b i : ℕ) : Prop := ∃ j, a ≤ j ∧ j < b ∧ pos D 20480000 (o + 40000 * (j / 160) + n + j % 160) = i

variable {D : ℕ → ℕ} {o n : ℕ}

theorem rng_split {lo mid hi : ℕ} (h1 : lo ≤ mid) (h2 : mid ≤ hi) (i : ℕ) : rng D o lo hi i ↔ rng D o lo mid i ∨ rng D o mid hi i := by
  constructor
  · rintro ⟨l, m, hl, hm, hm', e⟩
    by_cases h : m < mid
    · exact .inl ⟨l, m, hl, hm, h, e⟩
    · exact .inr ⟨l, m, hl, by omega, hm', e⟩
  · rintro (⟨l, m, hl, hm, hm', e⟩ | ⟨l, m, hl, hm, hm', e⟩)
    · exact ⟨l, m, hl, hm, by omega, e⟩
    · exact ⟨l, m, hl, by omega, hm', e⟩

theorem rng_apart (ho : o + 640000 ≤ 20480000) {lo mid hi : ℕ} (hh : hi ≤ 40000) (h2 : mid ≤ hi) (i : ℕ) : rng D o lo mid i → ¬ rng D o mid hi i := by
  rintro ⟨l, m, hl, hm, hm', e⟩ ⟨l', m', hl', hm1, hm2, e'⟩
  have := pos_inj (d := D) (N := 20480000) (by omega) (by omega) (e.trans e'.symm)
  omega

theorem rng_window (i : ℕ) : rng D o n (n + 160) i ↔ seg D o n 0 2560 i := by
  constructor
  · rintro ⟨l, m, hl, hm, hm', e⟩
    refine ⟨160 * l + (m - n), by omega, by omega, ?_⟩
    rw [show o + 40000 * ((160 * l + (m - n)) / 160) + n + (160 * l + (m - n)) % 160 = o + 40000 * l + m by omega]
    exact e
  · rintro ⟨j, -, hj, e⟩
    refine ⟨j / 160, n + j % 160, by omega, by omega, by omega, ?_⟩
    rw [← Nat.add_assoc]; exact e

theorem seg_split {a b c : ℕ} (h1 : a ≤ b) (h2 : b ≤ c) (i : ℕ) : seg D o n a c i ↔ seg D o n a b i ∨ seg D o n b c i := by
  constructor
  · rintro ⟨j, h, h', e⟩
    by_cases hb : j < b
    · exact .inl ⟨j, h, hb, e⟩
    · exact .inr ⟨j, by omega, h', e⟩
  · rintro (⟨j, h, h', e⟩ | ⟨j, h, h', e⟩)
    · exact ⟨j, h, by omega, e⟩
    · exact ⟨j, by omega, h', e⟩

theorem window_inj (ho : o + 640000 ≤ 20480000) (hn : n + 160 ≤ 40000) {j j' : ℕ} (hj : j < 2560) (hj' : j' < 2560)
    (h : pos D 20480000 (o + 40000 * (j / 160) + n + j % 160) = pos D 20480000 (o + 40000 * (j' / 160) + n + j' % 160)) : j = j' := by
  have := pos_inj (d := D) (N := 20480000) (by omega) (by omega) h
  omega

theorem seg_apart (ho : o + 640000 ≤ 20480000) (hn : n + 160 ≤ 40000) {a b c : ℕ} (hc : c ≤ 2560) (h2 : b ≤ c) (i : ℕ) : seg D o n a b i → ¬ seg D o n b c i := by
  rintro ⟨j, h, h', e⟩ ⟨j', h1, h1', e'⟩
  have := window_inj ho hn (by omega) (by omega) (e.trans e'.symm)
  omega

/-- What a place of the result holds: the word of the element that belongs there. -/
abbrev moved (D : ℕ → ℕ) (A : ℕ → BitVec 32) (p : ℕ) : BitVec 32 := A (inv D 20480000 p)

theorem place_toNat {e : ℕ} (he : e < 20480000) : (place D e).toNat = pos D 20480000 e :=
  wd_toNat ((pos_lt he).trans (by norm_num))

/-- A stretch of a window, as the indexed copies move it. -/
theorem fits (A : ℕ → BitVec 32) (ho : o + 640000 ≤ 20480000) (hn : n + 160 ≤ 40000) (a w : ℕ) (hw : a + w ≤ 2560) :
    Fits w (fun j => win (place D) o n (a + j)) (fun j => win A o n (a + j)) (seg D o n a (a + w)) (moved D A) := by
  have hb : ∀ j, j < w → o + 40000 * ((a + j) / 160) + n + (a + j) % 160 < 20480000 := fun j hj => by omega
  have ht : ∀ j, j < w → (win (place D) o n (a + j)).toNat = pos D 20480000 (o + 40000 * ((a + j) / 160) + n + (a + j) % 160) := fun j hj => place_toNat (hb j hj)
  refine ⟨fun j hj => ?_, fun j j' hj hj' h => ?_, fun i => ?_, fun j hj => ?_⟩
  · rw [ht j hj]; exact pos_lt (hb j hj)
  · rw [ht j hj, ht j' hj'] at h
    have := window_inj ho hn (by omega) (by omega) h
    omega
  · constructor
    · rintro ⟨j, h1, h2, e⟩
      refine ⟨j - a, by omega, ?_⟩
      rw [ht _ (by omega), show a + (j - a) = j by omega]; exact e
    · rintro ⟨j, hj, e⟩
      rw [ht j hj] at e
      exact ⟨a + j, by omega, by omega, e⟩
  · show moved D A (win (place D) o n (a + j)).toNat = _
    rw [ht j hj]
    exact congrArg A (inv_pos (hb j hj))

section Rules

variable [FloatOps F] {d : Dev nD} {c : Fin τ.nSC} {s : Fin τ.nSub} {α : Type} {Q : BitVec 32 → sProp (MT nD τ sig (HIx 6) (Elt F) ℕ UU ℕ)}

/-- A result after `n` words of every lane of the tile have been sent. -/
def sent (t : Thread nD τ) (m : Memref sig t.2.kind .hbm S20480000 .i32) (D : ℕ → ℕ) (o n : ℕ) (G : ℕ → BitVec 32) : sProp 𝕄 :=
  iprop(part t m (rng D o 0 n) G ∗ ∃ B, part t m (rng D o n 40000) B)

/-- The next window's places, taken out. -/
theorem sent_open {t : Thread nD τ} {m : Memref sig t.2.kind .hbm S20480000 .i32} {G : ℕ → BitVec 32} (ho : o + 640000 ≤ 20480000) (hn : n + 160 ≤ 40000) :
    (sent t m D o n G : sProp 𝕄) ⊢ iprop(∃ B, part t m (seg D o n 0 2560) B ∗ (part t m (seg D o n 0 2560) G -∗ sent t m D o (n + 160) G)) := by
  unfold sent
  iintro ⟨Hd, %B, Ht⟩
  ihave Ht := (part_split (F := F) (q := seg D o n 0 2560) (r := rng D o (n + 160) 40000) (fun i _ => (rng_split (by omega) hn i).trans (or_congr (rng_window i) Iff.rfl))
    (fun i _ h => rng_apart ho (le_refl _) hn i ((rng_window i).2 h))) $$ Ht
  icases Ht with ⟨Hw, Ht⟩
  iexists B
  isplitl [Hw]; · iexact Hw
  iintro Hw
  isplitl [Hd Hw]
  · iapply (part_join (F := F) (q := rng D o 0 n) (r := seg D o n 0 2560) (fun i _ => (rng_split (by omega) (by omega) i).trans (or_congr Iff.rfl (rng_window i)))
      (fun i _ h h' => rng_apart ho hn (by omega) i h ((rng_window i).2 h')))
    isplitl [Hd]; · iexact Hd
    iexact Hw
  iexists B; iexact Ht

/-- An array lent to two readers. -/
theorem arr_halves {k : ℕ} {sp : Space} {t : Thread nD τ} {m : Memref sig t.2.kind sp ⟨1, ![k]⟩ .i32} {q : PosShare TreeShare} {A : ℕ → BitVec 32} :
    (arr t m q A : sProp 𝕄) ⊣⊢ iprop(arr t m q.left A ∗ arr t m q.right A) := owns_halves t m q _

/-- Keys and numbers sent. -/
theorem wp_sendBoth {sem : DmaSem sig} {kbuf ibuf pbuf : Memref sig .scVector .vmem S2560 .i32} {kout iout : Memref sig .scVector .hbm S20480000 .i32} {h1 h2} {A I : ℕ → BitVec 32}
    {O : CellTallies nD τ sig (HIx 6)} {W : Waits sig (HIx 6)} (ho : o + 640000 ≤ 20480000) (hn : n + 160 ≤ 40000) (hc : kbuf.view.dmaCredit = 2560 * 32) (hc' : ibuf.view.dmaCredit = 2560 * 32) :
    iprop(semVal (tile d c s, .dma sem) 0 ∗ ow (tile d c s) O W ∗ Transfers.MayWaits (tile d c s) (default : HIx 6) O
        ∗ arr (tile d c s) kbuf fullShare (win A o n) ∗ arr (tile d c s) ibuf fullShare (win I o n) ∗ arr (tile d c s) pbuf fullShare (win (place D) o n)
        ∗ sent (tile d c s) kout D o n (moved D A) ∗ sent (tile d c s) iout D o n (moved D I))
      ⊢ iprop((iprop(semVal (tile d c s, .dma sem) 0 ∗ ow (tile d c s) O W
          ∗ arr (tile d c s) kbuf fullShare (win A o n) ∗ arr (tile d c s) ibuf fullShare (win I o n) ∗ arr (tile d c s) pbuf fullShare (win (place D) o n)
          ∗ sent (tile d c s) kout D o (n + 160) (moved D A) ∗ sent (tile d c s) iout D o (n + 160) (moved D I)) -∗ Q 0#32)
        -∗ wp frame (wpE defs₀ 𝒱₀ (tile d c s) none) Set.univ (send (hg := gathers_S20480000_S2560) rfl sem kbuf pbuf ibuf pbuf kout iout h1 h2) Q : sProp 𝕄) := by
  iintro ⟨Hv, HO, #Hmw, HA, HI, HP, HS, HS'⟩ Hk
  ihave HS := (sent_open (F := F) ho hn) $$ HS
  icases HS with ⟨%B, HS, Hback⟩
  ihave HS' := (sent_open (F := F) ho hn) $$ HS'
  icases HS' with ⟨%B', HS', Hback'⟩
  ihave HP := (arr_halves (F := F)).1 $$ HP
  icases HP with ⟨HP, HP'⟩
  unfold send
  have HF := fits (D := D) A ho hn 0 2560 (by omega)
  have HF' := fits (D := D) I ho hn 0 2560 (by omega)
  simp only [Nat.zero_add] at HF HF'
  iapply (wp_scatter2 (F := F) (O := win (place D) o n) (O' := win (place D) o n) (A := win A o n) (A' := win I o n) (B := B) (B' := B') (q := fullShare) (q' := fullShare) (by omega) hc hc' HF HF') $$ [Hv HO HA HI HP HP' HS HS']
  · isplitl [Hv]; · iexact Hv
    isplitl [HO]; · iexact HO
    isplitr; · iexact Hmw
    isplitl [HA]; · iexact HA
    isplitl [HP]; · iexact HP
    isplitl [HS]; · rw [part_slice]; iexact HS
    isplitl [HI]; · iexact HI
    isplitl [HP']; · iexact HP'
    rw [part_slice]; iexact HS'
  rw [part_slice, part_slice]
  iintro ⟨Hv, HO, HA, HP, HS, HI, HP', HS'⟩
  iapply (wp_done (F := F))
  iapply Hk
  isplitl [Hv]; · iexact Hv
  isplitl [HO]; · iexact HO
  isplitl [HA]; · iexact HA
  isplitl [HI]; · iexact HI
  isplitl [HP HP']
  · iapply (arr_halves (F := F)).2
    isplitl [HP]; · iexact HP
    iexact HP'
  isplitl [HS Hback]
  · iapply Hback; iexact HS
  iapply Hback'; iexact HS'

/-- A window is its two halves. -/
theorem halves {t : Thread nD τ} {m : Memref sig t.2.kind .vmem S2560 .i32} {A : ℕ → BitVec 32} :
    (arr t m fullShare A : sProp 𝕄) ⊣⊢ iprop(arr t (m.slice (Rect.unit (s := S2560) ![0] S1280.size inb_S2560_S1280_0) (fun _ => rfl)) fullShare A
      ∗ arr t (m.slice (Rect.unit (s := S2560) ![1280] S1280.size inb_S2560_S1280_1280) (fun _ => rfl)) fullShare fun j => A (1280 + j)) := by
  have inb : ∀ (l : Fin 2) a, (![1280 * l.val] : Fin 1 → ℕ) a + (⟨1, ![1280]⟩ : Shape).size a ≤ (⟨1, ![2560]⟩ : Shape).size a := by decide
  have e : (bigSep Finset.univ fun l : Fin 2 => arr t (piece m 1280 ![1280 * l.val] (inb l)) fullShare fun j => A (1280 * l.val + j))
      = (iprop(arr t (m.slice (Rect.unit (s := S2560) ![0] S1280.size inb_S2560_S1280_0) (fun _ => rfl)) fullShare A
      ∗ arr t (m.slice (Rect.unit (s := S2560) ![1280] S1280.size inb_S2560_S1280_1280) (fun _ => rfl)) fullShare fun j => A (1280 + j)) : sProp 𝕄) := by
    rw [bigSep_succ, bigSep_one]
    have e0 : (fun j => A (1280 * (0 : Fin 2).val + j)) = A := by funext j; exact congrArg A (by simp)
    rw [e0]
    rfl
  rw [← e]
  constructor
  · exact arr_pieces (F := F) 2 1280 rfl inb
  · refine (arr_of_pieces (F := F) (fun l j => A (1280 * l + j)) 2 1280 (by omega) rfl inb).trans (Entails.of_eq ?_)
    simp only [Nat.div_add_mod]

/-- The numbers sent, by halves of the window. -/
theorem wp_sendHalves {sem : DmaSem sig} {ibuf pbuf : Memref sig .scVector .vmem S2560 .i32} {iout : Memref sig .scVector .hbm S20480000 .i32} {h1 h2} {I : ℕ → BitVec 32}
    {O : CellTallies nD τ sig (HIx 6)} {W : Waits sig (HIx 6)} (ho : o + 640000 ≤ 20480000) (hn : n + 160 ≤ 40000) (hc : (half0 ibuf).view.dmaCredit = 1280 * 32) (hc' : (half1 ibuf).view.dmaCredit = 1280 * 32) :
    iprop(semVal (tile d c s, .dma sem) 0 ∗ ow (tile d c s) O W ∗ Transfers.MayWaits (tile d c s) (default : HIx 6) O
        ∗ arr (tile d c s) ibuf fullShare (win I o n) ∗ arr (tile d c s) pbuf fullShare (win (place D) o n)
        ∗ sent (tile d c s) iout D o n (moved D I))
      ⊢ iprop((iprop(semVal (tile d c s, .dma sem) 0 ∗ ow (tile d c s) O W
          ∗ arr (tile d c s) ibuf fullShare (win I o n) ∗ arr (tile d c s) pbuf fullShare (win (place D) o n)
          ∗ sent (tile d c s) iout D o (n + 160) (moved D I)) -∗ Q 0#32)
        -∗ wp frame (wpE defs₀ 𝒱₀ (tile d c s) none) Set.univ (send (hg := gathers_S20480000_S1280) rfl sem (half0 ibuf) (half0 pbuf) (half1 ibuf) (half1 pbuf) iout iout h1 h2) Q : sProp 𝕄) := by
  iintro ⟨Hv, HO, #Hmw, HI, HP, HS⟩ Hk
  ihave HS := (sent_open (F := F) ho hn) $$ HS
  icases HS with ⟨%B, HS, Hback⟩
  ihave HS := (part_split (F := F) (q := seg D o n 0 1280) (r := seg D o n 1280 2560) (fun i _ => seg_split (by omega) (by omega) i) (fun i _ => seg_apart ho hn (by omega) (by omega) i)) $$ HS
  icases HS with ⟨HS, HS'⟩
  ihave HP := (halves (F := F)).1 $$ HP
  icases HP with ⟨HP, HP'⟩
  ihave HI := (halves (F := F)).1 $$ HI
  icases HI with ⟨HI, HI'⟩
  unfold send
  have HF := fits (D := D) I ho hn 0 1280 (by omega)
  have HF' := fits (D := D) I ho hn 1280 1280 (by omega)
  simp only [Nat.zero_add] at HF
  iapply (wp_scatter2 (F := F) (O := win (place D) o n) (O' := fun j => win (place D) o n (1280 + j)) (A := win I o n) (A' := fun j => win I o n (1280 + j)) (B := B) (B' := B) (q := fullShare) (q' := fullShare) (by omega) hc hc' HF HF') $$ [Hv HO HI HI' HP HP' HS HS']
  · isplitl [Hv]; · iexact Hv
    isplitl [HO]; · iexact HO
    isplitr; · iexact Hmw
    isplitl [HI]; · iexact HI
    isplitl [HP]; · iexact HP
    isplitl [HS]; · rw [part_slice]; iexact HS
    isplitl [HI']; · iexact HI'
    isplitl [HP']; · iexact HP'
    rw [part_slice]; iexact HS'
  rw [part_slice, part_slice]
  iintro ⟨Hv, HO, HI, HP, HS, HI', HP', HS'⟩
  iapply (wp_done (F := F))
  iapply Hk
  isplitl [Hv]; · iexact Hv
  isplitl [HO]; · iexact HO
  isplitl [HI HI']
  · iapply (halves (F := F)).2
    isplitl [HI]; · iexact HI
    iexact HI'
  isplitl [HP HP']
  · iapply (halves (F := F)).2
    isplitl [HP]; · iexact HP
    iexact HP'
  iapply Hback
  iapply (part_join (F := F) (q := seg D o n 0 1280) (r := seg D o n 1280 2560) (fun i _ => seg_split (by omega) (by omega) i) (fun i _ => seg_apart ho hn (by omega) (by omega) i))
  isplitl [HS]; · iexact HS
  iexact HS'

end Rules

end Cert.Proof

end
-- ==== Proof.Tiles.lean ====
/-
  The placing kernels run by one tile.
-/
module

public import proofs.«01_k».proof.Proof.Send

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD}

/-- An array held at some contents. -/
abbrev some1 {n : ℕ} {sp : Space} (t : Thread nD τ) (m : Memref sig t.2.kind sp ⟨1, ![n]⟩ .i32) : sProp 𝕄 := iprop(∃ B, arr t m fullShare B)

/-- The counts a tile reads: its own lanes', and all the tiles'. -/
def counts (d : Dev nD) (i : grid0.Coords) (hL : Memref sig .scVector .hbm S32x32768 .i32) (hW : Memref sig .scVector .hbm S32x2048 .i32) (D : ℕ → ℕ) (q : PosShare TreeShare) : sProp 𝕄 :=
  iprop(arr (gt d i) (rowP hL i) fullShare (laneCnt D (start i) 40000) ∗ bigSep Finset.univ fun t : Fin k1_t2_loop.trips => arr (gt d i) (rowT hW t) q (tileCnt D (640000 * t.val)))

/-- A tile's part of a result, not yet written. -/
def empty1 (t : Thread nD τ) (m : Memref sig t.2.kind .hbm S20480000 .i32) (D : ℕ → ℕ) (o : ℕ) : sProp 𝕄 := iprop(∃ B, part t m (rng D o 0 40000) B)

/-- A tile's part of a result, written. -/
abbrev full1 (t : Thread nD τ) (m : Memref sig t.2.kind .hbm S20480000 .i32) (D : ℕ → ℕ) (o : ℕ) (G : ℕ → BitVec 32) : sProp 𝕄 := part t m (rng D o 0 40000) G

theorem rng_none {D : ℕ → ℕ} {o m i : ℕ} : ¬ rng D o m m i := by
  rintro ⟨l, k, _, h1, h2, _⟩; omega

theorem sent_start {t : Thread nD τ} {m : Memref sig t.2.kind .hbm S20480000 .i32} {D : ℕ → ℕ} {o : ℕ} {G : ℕ → BitVec 32} : (empty1 t m D o : sProp 𝕄) ⊢ sent t m D o 0 G := by
  unfold empty1 sent
  iintro ⟨%B, H⟩
  ihave H := (part_split (F := F) (q := rng D o 0 0) (r := rng D o 0 40000) (fun i _ => rng_split (by omega) (by omega) i) (fun i _ h => absurd h rng_none)) $$ H
  icases H with ⟨H0, H⟩
  isplitl [H0]
  · iapply (part_congr (F := F) (fun _ _ => Iff.rfl) (fun _ _ h => absurd h rng_none)) $$ H0
  iexists B; iexact H

theorem sent_end {t : Thread nD τ} {m : Memref sig t.2.kind .hbm S20480000 .i32} {D : ℕ → ℕ} {o : ℕ} {G : ℕ → BitVec 32} : (sent t m D o 40000 G : sProp 𝕄) ⊢ full1 t m D o G := by
  unfold sent
  iintro ⟨H, -⟩
  iexact H

theorem base_eq (i : grid0.Coords) : Scalar.muli (widW i) 640000#32 = wd (start i) := by
  rw [widW_eq]
  show wd (num i) * BitVec.ofNat 32 640000 = _
  rw [← BitVec.ofNat_mul, Nat.mul_comm]

theorem start_le (i : grid0.Coords) : start i + 640000 ≤ 20480000 := by
  have := num_lt i
  unfold num at this
  unfold start; omega

variable (i : grid0.Coords) {keys idx kout iout : Memref sig .scVector .hbm S20480000 .i32} {hL : Memref sig .scVector .hbm S32x32768 .i32} {hW : Memref sig .scVector .hbm S32x2048 .i32}
  {kbuf ibuf pbuf : Memref sig .scVector .vmem S2560 .i32} {hk : kbuf.IsWhole} {hi : ibuf.IsWhole} {off own : Memref sig .scVector .vmem S32768 .i32} {hown : own.IsWhole}
  {row : Memref sig .scVector .vmem S2048 .i32} {hrow : row.IsWhole} {tot pref : Memref sig .scVector .vmem S2048 .i32} {sem sem2 r0 r1 : DmaSems sig S_}
  {O : CellTallies nD τ sig (HIx 6)} {W : Waits sig (HIx 6)} {q : PosShare TreeShare} {Kf If : ℕ → BitVec 32}

/-- What one tile of the first placing kernel does. -/
theorem wp_firstK (hrow0 : 0 < row.view.dmaCredit) (hown0 : 0 < own.view.dmaCredit) (hc : kbuf.view.dmaCredit = 2560 * 32) (hc' : ibuf.view.dmaCredit = 2560 * 32) :
    iprop((semVal (gt d i, .dma sem.sem) 0 ∗ semVal (gt d i, .dma sem2.sem) 0 ∗ semVal (gt d i, .dma r0.sem) 0 ∗ semVal (gt d i, .dma r1.sem) 0)
        ∗ ow (gt d i) O W ∗ Transfers.MayWaits (gt d i) (default : HIx 6) O
        ∗ arr (gt d i) keys q Kf ∗ counts d i hL hW (kd 0 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ empty1 (gt d i) kout (kd 0 Kf) (start i) ∗ empty1 (gt d i) iout (kd 0 Kf) (start i))
      ⊢ (wp frame (wpE defs₀ 𝒱₀ (gt d i) none) Set.univ (firstK i keys hL hW kout iout kbuf hk ibuf hi pbuf off own hown row hrow tot pref sem sem2 r0 r1) (fun _ =>
        iprop((semVal (gt d i, .dma sem.sem) 0 ∗ semVal (gt d i, .dma sem2.sem) 0 ∗ semVal (gt d i, .dma r0.sem) 0 ∗ semVal (gt d i, .dma r1.sem) 0)
        ∗ ow (gt d i) O W
        ∗ arr (gt d i) keys q Kf ∗ counts d i hL hW (kd 0 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ full1 (gt d i) kout (kd 0 Kf) (start i) (moved (kd 0 Kf) Kf) ∗ full1 (gt d i) iout (kd 0 Kf) (start i) (moved (kd 0 Kf) wd))) : sProp 𝕄) := by
  iintro ⟨⟨Hv, Hv2, Hv0, Hv1⟩, HO, #Hmw, Hks, HC, ⟨Hkb, Hib, Hpb, Hoff, Hown, Hrow, Htot, Hpref⟩, HK, HI⟩
  unfold firstK counts
  icases HC with ⟨HL, HW⟩
  iapply (wp_prepK (F := F) i hrow0 hown0) $$ [Hv0 Hv1 HO HL HW Hoff Hown Hrow Htot Hpref]
  · isplitl [Hv0]; · iexact Hv0
    isplitl [Hv1]; · iexact Hv1
    isplitl [HO]; · iexact HO
    isplitr; · iexact Hmw
    isplitl [HL]; · iexact HL
    isplitl [HW]; · iexact HW
    isplitl [Hoff]; · iexact Hoff
    isplitl [Hown]; · iexact Hown
    isplitl [Hrow]; · iexact Hrow
    isplitl [Htot]; · iexact Htot
    iexact Hpref
  iintro ⟨Hv0, Hv1, HO, HL, HW, Hoff, Hown, Hrow, Htot, Hpref⟩
  iapply (wp_loop (F := F) k1_t7_loop k1_t7_ok 250 rfl 0#32 _
    (fun t _ => iprop(Transfers.MayWaits (gt d i) (default : HIx 6) O ∗ semVal (gt d i, .dma sem.sem) 0 ∗ semVal (gt d i, .dma sem2.sem) 0 ∗ ow (gt d i) O W ∗ arr (gt d i) keys q Kf
      ∗ some1 (gt d i) kbuf ∗ some1 (gt d i) ibuf ∗ some1 (gt d i) pbuf ∗ arr (gt d i) off fullShare (lanePos (kd 0 Kf) 20480000 (start i) (160 * t))
      ∗ sent (gt d i) kout (kd 0 Kf) (start i) (160 * t) (moved (kd 0 Kf) Kf) ∗ sent (gt d i) iout (kd 0 Kf) (start i) (160 * t) (moved (kd 0 Kf) wd))) ?_) $$ [Hv Hv2 HO Hks Hkb Hib Hpb Hoff HK HI]
  · intro t ht acc
    iintro ⟨#Hmw, Hv, Hv2, HO, Hks, Hkb, Hib, Hpb, Hoff, HK, HI⟩
    iapply (wp_fetch16 (F := F) (fun l => start i + 40000 * l.val + 160 * t.val) (fun l => by rw [k1_off8_eq]; congr 1; unfold start; ring_nf) (lanes_apart _ _) (win Kf (start i) (160 * t.val))
      (fun l j hj => by unfold win; congr 1; omega)) $$ [Hv HO Hks Hkb]
    · isplitl [Hv]; · iexact Hv
      isplitl [HO]; · iexact HO
      isplitr; · iexact Hmw
      isplitl [Hks]; · iexact Hks
      iexact Hkb
    iintro ⟨Hv, HO, Hks, Hkb⟩
    rw [base_eq]
    iapply (wp_placeFirst (F := F)) $$ [Hkb Hib Hpb Hoff]
    · isplitl [Hkb]; · iexact Hkb
      isplitl [Hoff]; · iexact Hoff
      isplitl [Hpb]; · iexact Hpb
      iexact Hib
    iintro %_ ⟨Hkb, Hoff, Hpb, Hib⟩
    have hn : 160 * t.val + 160 ≤ 40000 := by omega
    iapply (wp_sendBoth (F := F) (D := kd 0 Kf) (A := Kf) (I := wd) (start_le i) hn hc hc') $$ [Hv2 HO Hkb Hib Hpb HK HI]
    · isplitl [Hv2]; · iexact Hv2
      isplitl [HO]; · iexact HO
      isplitr; · iexact Hmw
      isplitl [Hkb]; · iexact Hkb
      isplitl [Hib]; · iexact Hib
      isplitl [Hpb]; · iexact Hpb
      isplitl [HK]; · iexact HK
      iexact HI
    iintro ⟨Hv2, HO, Hkb, Hib, Hpb, HK, HI⟩
    isplitr; · iexact Hmw
    isplitl [Hv]; · iexact Hv
    isplitl [Hv2]; · iexact Hv2
    isplitl [HO]; · iexact HO
    isplitl [Hks]; · iexact Hks
    isplitl [Hkb]; · iexists _; iexact Hkb
    isplitl [Hib]; · iexists _; iexact Hib
    isplitl [Hpb]; · iexists _; iexact Hpb
    isplitl [Hoff]; · iexact Hoff
    isplitl [HK]; · iexact HK
    iexact HI
  · isplitr; · iexact Hmw
    isplitl [Hv]; · iexact Hv
    isplitl [Hv2]; · iexact Hv2
    isplitl [HO]; · iexact HO
    isplitl [Hks]; · iexact Hks
    isplitl [Hkb]; · iexact Hkb
    isplitl [Hib]; · iexact Hib
    isplitl [Hpb]; · iexact Hpb
    isplitl [Hoff]; · iexact Hoff
    isplitl [HK]
    · iapply (sent_start (F := F)) $$ HK
    iapply (sent_start (F := F)) $$ HI
  iintro %_ ⟨-, Hv, Hv2, HO, Hks, Hkb, Hib, Hpb, Hoff, HK, HI⟩
  iapply (wp_done (F := F))
  isplitl [Hv Hv2 Hv0 Hv1]
  · isplitl [Hv]; · iexact Hv
    isplitl [Hv2]; · iexact Hv2
    isplitl [Hv0]; · iexact Hv0
    iexact Hv1
  isplitl [HO]; · iexact HO
  isplitl [Hks]; · iexact Hks
  isplitl [HL HW]
  · isplitl [HL]; · iexact HL
    iexact HW
  isplitl [Hkb Hib Hpb Hoff Hown Hrow Htot Hpref]
  · isplitl [Hkb]; · iexact Hkb
    isplitl [Hib]; · iexact Hib
    isplitl [Hpb]; · iexact Hpb
    isplitl [Hoff]; · iexists _; iexact Hoff
    isplitl [Hown]; · iexact Hown
    isplitl [Hrow]; · iexact Hrow
    isplitl [Htot]; · iexact Htot
    iexact Hpref
  isplitl [HK]
  · iapply (sent_end (F := F)) $$ HK
  iapply (sent_end (F := F)) $$ HI

/-- The windows of a later pass: fetched, placed, and sent by `snd`. -/
theorem wp_window {sh : ℕ} (hsh : sh < 32) (t : Fin k3_t7_loop.trips) (ht : t.val < 250) {snd : Prog (TpuEff nD τ sig (Elt F) Λ₀ (.scVector ((i 0).castLE hcore3) ((i 1).castLE hsub3))) (BitVec 32)}
    {R R' : sProp (MT nD τ sig (HIx 6) (Elt F) ℕ UU ℕ)} {acc : BitVec 32}
    (hsnd : ∀ {Q : BitVec 32 → sProp (MT nD τ sig (HIx 6) (Elt F) ℕ UU ℕ)},
      iprop(semVal (gt d i, .dma sem2.sem) 0 ∗ ow (gt d i) O W ∗ Transfers.MayWaits (gt d i) (default : HIx 6) O
        ∗ arr (gt d i) kbuf fullShare (win Kf (start i) (160 * t.val)) ∗ arr (gt d i) ibuf fullShare (win If (start i) (160 * t.val))
        ∗ arr (gt d i) pbuf fullShare (win (place (kd sh Kf)) (start i) (160 * t.val)) ∗ R)
      ⊢ iprop((iprop(semVal (gt d i, .dma sem2.sem) 0 ∗ ow (gt d i) O W
          ∗ arr (gt d i) kbuf fullShare (win Kf (start i) (160 * t.val)) ∗ arr (gt d i) ibuf fullShare (win If (start i) (160 * t.val))
          ∗ arr (gt d i) pbuf fullShare (win (place (kd sh Kf)) (start i) (160 * t.val)) ∗ R') -∗ Q 0#32)
        -∗ wp frame (wpE defs₀ 𝒱₀ (gt d i) none) Set.univ snd Q)) :
    iprop(Transfers.MayWaits (gt d i) (default : HIx 6) O ∗ semVal (gt d i, .dma sem.sem) 0 ∗ semVal (gt d i, .dma sem2.sem) 0 ∗ ow (gt d i) O W ∗ arr (gt d i) keys q Kf ∗ arr (gt d i) idx q If
      ∗ some1 (gt d i) kbuf ∗ some1 (gt d i) ibuf ∗ some1 (gt d i) pbuf ∗ arr (gt d i) off fullShare (lanePos (kd sh Kf) 20480000 (start i) (160 * t.val)) ∗ R)
      ⊢ (wp frame (wpE defs₀ 𝒱₀ (gt d i) none) Set.univ (fetchBoth (i := i) t keys idx kbuf ibuf sem.sem (placeNext (wd sh) kbuf pbuf off >>= fun _ => snd)) (fun _ =>
        iprop(Transfers.MayWaits (gt d i) (default : HIx 6) O ∗ semVal (gt d i, .dma sem.sem) 0 ∗ semVal (gt d i, .dma sem2.sem) 0 ∗ ow (gt d i) O W ∗ arr (gt d i) keys q Kf ∗ arr (gt d i) idx q If
      ∗ some1 (gt d i) kbuf ∗ some1 (gt d i) ibuf ∗ some1 (gt d i) pbuf ∗ arr (gt d i) off fullShare (lanePos (kd sh Kf) 20480000 (start i) (160 * (t.val + 1))) ∗ R')) : sProp 𝕄) := by
  iintro ⟨#Hmw, Hv, Hv2, HO, Hks, His, Hkb, Hib, Hpb, Hoff, HR⟩
  unfold fetchBoth
  iapply (wp_fetch32 (F := F) (off := fun l : Fin 16 => k3_off8 i t (BitVec.ofNat 32 (40000 * l.val))) (inb := fun l => k3_off8_inb i t l) (fun l => start i + 40000 * l.val + 160 * t.val)
      (fun l => by rw [k3_off8_eq]; congr 1; unfold start; ring_nf) (lanes_apart _ _) (win Kf (start i) (160 * t.val)) (win If (start i) (160 * t.val))
      (fun l j hj => by unfold win; congr 1; omega) (fun l j hj => by unfold win; congr 1; omega)) $$ [Hv HO Hks His Hkb Hib]
  · isplitl [Hv]; · iexact Hv
    isplitl [HO]; · iexact HO
    isplitr; · iexact Hmw
    isplitl [Hks]; · iexact Hks
    isplitl [His]; · iexact His
    isplitl [Hkb]; · iexact Hkb
    iexact Hib
  iintro ⟨Hv, HO, Hks, His, Hkb, Hib⟩
  iapply (wp_placeNext (F := F) hsh) $$ [Hkb Hpb Hoff]
  · isplitl [Hkb]; · iexact Hkb
    isplitl [Hoff]; · iexact Hoff
    iexact Hpb
  iintro %_ ⟨Hkb, Hoff, Hpb⟩
  iapply hsnd $$ [Hv2 HO Hkb Hib Hpb HR]
  · isplitl [Hv2]; · iexact Hv2
    isplitl [HO]; · iexact HO
    isplitr; · iexact Hmw
    isplitl [Hkb]; · iexact Hkb
    isplitl [Hib]; · iexact Hib
    isplitl [Hpb]; · iexact Hpb
    iexact HR
  iintro ⟨Hv2, HO, Hkb, Hib, Hpb, HR⟩
  isplitr; · iexact Hmw
  isplitl [Hv]; · iexact Hv
  isplitl [Hv2]; · iexact Hv2
  isplitl [HO]; · iexact HO
  isplitl [Hks]; · iexact Hks
  isplitl [His]; · iexact His
  isplitl [Hkb]; · iexists _; iexact Hkb
  isplitl [Hib]; · iexists _; iexact Hib
  isplitl [Hpb]; · iexists _; iexact Hpb
  isplitl [Hoff]; · iexact Hoff
  iexact HR

/-- A later pass, whatever it sends: `R n` is what it has sent after `n` words of every lane. -/
theorem wp_later {sh : ℕ} (hsh : sh < 32) (hrow0 : 0 < row.view.dmaCredit) (hown0 : 0 < own.view.dmaCredit)
    {snd : Prog (TpuEff nD τ sig (Elt F) Λ₀ (.scVector ((i 0).castLE hcore3) ((i 1).castLE hsub3))) (BitVec 32)} {R : ℕ → sProp (MT nD τ sig (HIx 6) (Elt F) ℕ UU ℕ)}
    (hsnd : ∀ (n : ℕ) (_ : n + 160 ≤ 40000) {Q : BitVec 32 → sProp (MT nD τ sig (HIx 6) (Elt F) ℕ UU ℕ)},
      iprop(semVal (gt d i, .dma sem2.sem) 0 ∗ ow (gt d i) O W ∗ Transfers.MayWaits (gt d i) (default : HIx 6) O
        ∗ arr (gt d i) kbuf fullShare (win Kf (start i) n) ∗ arr (gt d i) ibuf fullShare (win If (start i) n)
        ∗ arr (gt d i) pbuf fullShare (win (place (kd sh Kf)) (start i) n) ∗ R n)
      ⊢ iprop((iprop(semVal (gt d i, .dma sem2.sem) 0 ∗ ow (gt d i) O W
          ∗ arr (gt d i) kbuf fullShare (win Kf (start i) n) ∗ arr (gt d i) ibuf fullShare (win If (start i) n)
          ∗ arr (gt d i) pbuf fullShare (win (place (kd sh Kf)) (start i) n) ∗ R (n + 160)) -∗ Q 0#32)
        -∗ wp frame (wpE defs₀ 𝒱₀ (gt d i) none) Set.univ snd Q)) :
    iprop((semVal (gt d i, .dma sem.sem) 0 ∗ semVal (gt d i, .dma sem2.sem) 0 ∗ semVal (gt d i, .dma r0.sem) 0 ∗ semVal (gt d i, .dma r1.sem) 0)
        ∗ ow (gt d i) O W ∗ Transfers.MayWaits (gt d i) (default : HIx 6) O
        ∗ arr (gt d i) keys q Kf ∗ arr (gt d i) idx q If ∗ counts d i hL hW (kd sh Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ R 0)
      ⊢ (wp frame (wpE defs₀ 𝒱₀ (gt d i) none) Set.univ (prepK i hL hW off own hown row hrow tot pref r0 r1 do
          let _ ← Scf.Loop.for k3_t7_loop k3_t7_ok 0#32 fun t _ => fetchBoth (i := i) t keys idx kbuf ibuf sem.sem (placeNext (wd sh) kbuf pbuf off >>= fun _ => snd)
          pure ⟨⟩) (fun _ =>
        iprop((semVal (gt d i, .dma sem.sem) 0 ∗ semVal (gt d i, .dma sem2.sem) 0 ∗ semVal (gt d i, .dma r0.sem) 0 ∗ semVal (gt d i, .dma r1.sem) 0)
        ∗ ow (gt d i) O W
        ∗ arr (gt d i) keys q Kf ∗ arr (gt d i) idx q If ∗ counts d i hL hW (kd sh Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ R 40000)) : sProp 𝕄) := by
  iintro ⟨⟨Hv, Hv2, Hv0, Hv1⟩, HO, #Hmw, Hks, His, HC, ⟨Hkb, Hib, Hpb, Hoff, Hown, Hrow, Htot, Hpref⟩, HR⟩
  unfold counts
  icases HC with ⟨HL, HW⟩
  iapply (wp_prepK (F := F) i hrow0 hown0) $$ [Hv0 Hv1 HO HL HW Hoff Hown Hrow Htot Hpref]
  · isplitl [Hv0]; · iexact Hv0
    isplitl [Hv1]; · iexact Hv1
    isplitl [HO]; · iexact HO
    isplitr; · iexact Hmw
    isplitl [HL]; · iexact HL
    isplitl [HW]; · iexact HW
    isplitl [Hoff]; · iexact Hoff
    isplitl [Hown]; · iexact Hown
    isplitl [Hrow]; · iexact Hrow
    isplitl [Htot]; · iexact Htot
    iexact Hpref
  iintro ⟨Hv0, Hv1, HO, HL, HW, Hoff, Hown, Hrow, Htot, Hpref⟩
  iapply (wp_loop (F := F) k3_t7_loop k3_t7_ok 250 rfl 0#32 _
    (fun t _ => iprop(Transfers.MayWaits (gt d i) (default : HIx 6) O ∗ semVal (gt d i, .dma sem.sem) 0 ∗ semVal (gt d i, .dma sem2.sem) 0 ∗ ow (gt d i) O W ∗ arr (gt d i) keys q Kf ∗ arr (gt d i) idx q If
      ∗ some1 (gt d i) kbuf ∗ some1 (gt d i) ibuf ∗ some1 (gt d i) pbuf ∗ arr (gt d i) off fullShare (lanePos (kd sh Kf) 20480000 (start i) (160 * t)) ∗ R (160 * t)))
    fun t ht acc => wp_window (F := F) i hsh t ht (acc := acc) (R := R (160 * t.val)) (R' := R (160 * (t.val + 1)))
      (by rw [show 160 * (t.val + 1) = 160 * t.val + 160 by ring]; exact hsnd (160 * t.val) (by omega))) $$ [Hv Hv2 HO Hks His Hkb Hib Hpb Hoff HR]
  · isplitr; · iexact Hmw
    isplitl [Hv]; · iexact Hv
    isplitl [Hv2]; · iexact Hv2
    isplitl [HO]; · iexact HO
    isplitl [Hks]; · iexact Hks
    isplitl [His]; · iexact His
    isplitl [Hkb]; · iexact Hkb
    isplitl [Hib]; · iexact Hib
    isplitl [Hpb]; · iexact Hpb
    isplitl [Hoff]; · iexact Hoff
    iexact HR
  iintro %_ ⟨-, Hv, Hv2, HO, Hks, His, Hkb, Hib, Hpb, Hoff, HR⟩
  iapply (wp_done (F := F))
  isplitl [Hv Hv2 Hv0 Hv1]
  · isplitl [Hv]; · iexact Hv
    isplitl [Hv2]; · iexact Hv2
    isplitl [Hv0]; · iexact Hv0
    iexact Hv1
  isplitl [HO]; · iexact HO
  isplitl [Hks]; · iexact Hks
  isplitl [His]; · iexact His
  isplitl [HL HW]
  · isplitl [HL]; · iexact HL
    iexact HW
  isplitl [Hkb Hib Hpb Hoff Hown Hrow Htot Hpref]
  · isplitl [Hkb]; · iexact Hkb
    isplitl [Hib]; · iexact Hib
    isplitl [Hpb]; · iexact Hpb
    isplitl [Hoff]; · iexists _; iexact Hoff
    isplitl [Hown]; · iexact Hown
    isplitl [Hrow]; · iexact Hrow
    isplitl [Htot]; · iexact Htot
    iexact Hpref
  iexact HR

/-- What one tile of the middle placing kernel does. -/
theorem wp_midK (hrow0 : 0 < row.view.dmaCredit) (hown0 : 0 < own.view.dmaCredit) (hc : kbuf.view.dmaCredit = 2560 * 32) (hc' : ibuf.view.dmaCredit = 2560 * 32) :
    iprop((semVal (gt d i, .dma sem.sem) 0 ∗ semVal (gt d i, .dma sem2.sem) 0 ∗ semVal (gt d i, .dma r0.sem) 0 ∗ semVal (gt d i, .dma r1.sem) 0)
        ∗ ow (gt d i) O W ∗ Transfers.MayWaits (gt d i) (default : HIx 6) O
        ∗ arr (gt d i) keys q Kf ∗ arr (gt d i) idx q If ∗ counts d i hL hW (kd 11 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ empty1 (gt d i) kout (kd 11 Kf) (start i) ∗ empty1 (gt d i) iout (kd 11 Kf) (start i))
      ⊢ (wp frame (wpE defs₀ 𝒱₀ (gt d i) none) Set.univ (midK i keys idx hL hW kout iout kbuf hk ibuf hi pbuf off own hown row hrow tot pref sem sem2 r0 r1) (fun _ =>
        iprop((semVal (gt d i, .dma sem.sem) 0 ∗ semVal (gt d i, .dma sem2.sem) 0 ∗ semVal (gt d i, .dma r0.sem) 0 ∗ semVal (gt d i, .dma r1.sem) 0)
        ∗ ow (gt d i) O W
        ∗ arr (gt d i) keys q Kf ∗ arr (gt d i) idx q If ∗ counts d i hL hW (kd 11 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ full1 (gt d i) kout (kd 11 Kf) (start i) (moved (kd 11 Kf) Kf) ∗ full1 (gt d i) iout (kd 11 Kf) (start i) (moved (kd 11 Kf) If))) : sProp 𝕄) := by
  have h := wp_later (F := F) (d := d) i (keys := keys) (idx := idx) (hL := hL) (hW := hW) (kbuf := kbuf) (ibuf := ibuf) (pbuf := pbuf) (off := off) (own := own) (hown := hown) (row := row) (hrow := hrow) (tot := tot) (pref := pref)
    (sem := sem) (sem2 := sem2) (r0 := r0) (r1 := r1) (O := O) (W := W) (q := q) (Kf := Kf) (If := If) (sh := 11) (by omega) hrow0 hown0
    (snd := send (hg := gathers_S20480000_S2560) rfl sem2.sem kbuf pbuf ibuf pbuf kout iout hk.wordExact hi.wordExact)
    (R := fun n => iprop(sent (gt d i) kout (kd 11 Kf) (start i) n (moved (kd 11 Kf) Kf) ∗ sent (gt d i) iout (kd 11 Kf) (start i) n (moved (kd 11 Kf) If)))
    (fun n hn Q => wp_sendBoth (F := F) (start_le i) hn hc hc')
  iintro ⟨Hv, HO, Hmw, Hks, His, HC, HB, HK, HI⟩
  iapply (wp_wand frame (wpE defs₀ 𝒱₀ (gt d i) none) Set.univ) $$ [Hv HO Hmw Hks His HC HB HK HI]
  · unfold midK
    iapply h
    isplitl [Hv]; · iexact Hv
    isplitl [HO]; · iexact HO
    isplitl [Hmw]; · iexact Hmw
    isplitl [Hks]; · iexact Hks
    isplitl [His]; · iexact His
    isplitl [HC]; · iexact HC
    isplitl [HB]; · iexact HB
    isplitl [HK]
    · iapply (sent_start (F := F)) $$ HK
    iapply (sent_start (F := F)) $$ HI
  iintro %_ ⟨Hv, HO, Hks, His, HC, HB, HK, HI⟩
  isplitl [Hv]; · iexact Hv
  isplitl [HO]; · iexact HO
  isplitl [Hks]; · iexact Hks
  isplitl [His]; · iexact His
  isplitl [HC]; · iexact HC
  isplitl [HB]; · iexact HB
  isplitl [HK]
  · iapply (sent_end (F := F)) $$ HK
  iapply (sent_end (F := F)) $$ HI

/-- What one tile of the last placing kernel does. -/
theorem wp_lastK (hrow0 : 0 < row.view.dmaCredit) (hown0 : 0 < own.view.dmaCredit) (hc : (half0 ibuf).view.dmaCredit = 1280 * 32) (hc' : (half1 ibuf).view.dmaCredit = 1280 * 32) :
    iprop((semVal (gt d i, .dma sem.sem) 0 ∗ semVal (gt d i, .dma sem2.sem) 0 ∗ semVal (gt d i, .dma r0.sem) 0 ∗ semVal (gt d i, .dma r1.sem) 0)
        ∗ ow (gt d i) O W ∗ Transfers.MayWaits (gt d i) (default : HIx 6) O
        ∗ arr (gt d i) keys q Kf ∗ arr (gt d i) idx q If ∗ counts d i hL hW (kd 22 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ empty1 (gt d i) iout (kd 22 Kf) (start i))
      ⊢ (wp frame (wpE defs₀ 𝒱₀ (gt d i) none) Set.univ (lastK i keys idx hL hW iout kbuf ibuf pbuf off own hown row hrow tot pref sem sem2 r0 r1) (fun _ =>
        iprop((semVal (gt d i, .dma sem.sem) 0 ∗ semVal (gt d i, .dma sem2.sem) 0 ∗ semVal (gt d i, .dma r0.sem) 0 ∗ semVal (gt d i, .dma r1.sem) 0)
        ∗ ow (gt d i) O W
        ∗ arr (gt d i) keys q Kf ∗ arr (gt d i) idx q If ∗ counts d i hL hW (kd 22 Kf) q
        ∗ (some1 (gt d i) kbuf ∗ some1 (gt d i) ibuf ∗ some1 (gt d i) pbuf ∗ some1 (gt d i) off ∗ some1 (gt d i) own ∗ some1 (gt d i) row ∗ some1 (gt d i) tot ∗ some1 (gt d i) pref)
        ∗ full1 (gt d i) iout (kd 22 Kf) (start i) (moved (kd 22 Kf) If))) : sProp 𝕄) := by
  have h := wp_later (F := F) (d := d) i (keys := keys) (idx := idx) (hL := hL) (hW := hW) (kbuf := kbuf) (ibuf := ibuf) (pbuf := pbuf) (off := off) (own := own) (hown := hown) (row := row) (hrow := hrow) (tot := tot) (pref := pref)
    (sem := sem) (sem2 := sem2) (r0 := r0) (r1 := r1) (O := O) (W := W) (q := q) (Kf := Kf) (If := If) (sh := 22) (by omega) hrow0 hown0
    (snd := send (hg := gathers_S20480000_S1280) rfl sem2.sem (half0 ibuf) (half0 pbuf) (half1 ibuf) (half1 pbuf) iout iout (View.wordExact_bits rfl) (View.wordExact_bits rfl))
    (R := fun n => sent (gt d i) iout (kd 22 Kf) (start i) n (moved (kd 22 Kf) If))
    (fun n hn Q => by
      iintro ⟨Hv, HO, Hmw, HA, HI, HP, HS⟩ Hk
      iapply (wp_sendHalves (F := F) (start_le i) hn hc hc') $$ [Hv HO Hmw HI HP HS]
      · isplitl [Hv]; · iexact Hv
        isplitl [HO]; · iexact HO
        isplitl [Hmw]; · iexact Hmw
        isplitl [HI]; · iexact HI
        isplitl [HP]; · iexact HP
        iexact HS
      iintro ⟨Hv, HO, HI, HP, HS⟩
      iapply Hk
      isplitl [Hv]; · iexact Hv
      isplitl [HO]; · iexact HO
      isplitl [HA]; · iexact HA
      isplitl [HI]; · iexact HI
      isplitl [HP]; · iexact HP
      iexact HS)
  iintro ⟨Hv, HO, Hmw, Hks, His, HC, HB, HI⟩
  iapply (wp_wand frame (wpE defs₀ 𝒱₀ (gt d i) none) Set.univ) $$ [Hv HO Hmw Hks His HC HB HI]
  · unfold lastK
    iapply h
    isplitl [Hv]; · iexact Hv
    isplitl [HO]; · iexact HO
    isplitl [Hmw]; · iexact Hmw
    isplitl [Hks]; · iexact Hks
    isplitl [His]; · iexact His
    isplitl [HC]; · iexact HC
    isplitl [HB]; · iexact HB
    iapply (sent_start (F := F)) $$ HI
  iintro %_ ⟨Hv, HO, Hks, His, HC, HB, HI⟩
  isplitl [Hv]; · iexact Hv
  isplitl [HO]; · iexact HO
  isplitl [Hks]; · iexact Hks
  isplitl [His]; · iexact His
  isplitl [HC]; · iexact HC
  isplitl [HB]; · iexact HB
  iapply (sent_end (F := F)) $$ HI

end Cert.Proof

end
-- ==== Proof.Deal.lean ====
/-
  How main memory is dealt to the tiles and gathered from them.
-/
module

public import proofs.«01_k».proof.Proof.Tiles
public import Idealize.ShloMosaic.Lib.MemrefSat
public import Idealize.ShloMosaic.Lib.StableHlo.CollectiveRules

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD}

/-- The coordinates of a tile. -/
def coords (c : Fin 2) (s : Fin 16) : grid0.Coords :=
  fun | 0 => c | 1 => s | ⟨_ + 2, h⟩ => absurd h (Nat.not_lt.2 (Nat.le_add_left _ _))

/-- Tile `j` of thirty-two. -/
def who (j : Fin 32) : grid0.Coords := coords ⟨j.val / 16, by omega⟩ ⟨j.val % 16, by omega⟩

theorem num_who (j : Fin 32) : 16 * (who j 0).val + (who j 1).val = j.val := by
  show 16 * (j.val / 16) + j.val % 16 = j.val
  omega

theorem start_who (j : Fin 32) : start (who j) = 640000 * j.val := congrArg (640000 * ·) (num_who j)

theorem who_coords (c : Fin 2) (s : Fin 16) : who (finProdFinEquiv (c, s)) = coords c s := by
  have h : (finProdFinEquiv (c, s)).val = s.val + 16 * c.val := rfl
  unfold who
  congr 1 <;> apply Fin.ext <;> show _ = _ <;> simp only [h] <;> omega

/-- The tiles one by one, and core by core. -/
theorem bigSep_tiles (Φ : grid0.Coords → sProp (MT nD τ sig (HIx 6) (Elt F) ℕ UU ℕ)) :
    (bigSep Finset.univ fun j : Fin 32 => Φ (who j)) = bigSep Finset.univ fun c : Fin 2 => bigSep Finset.univ fun s : Fin 16 => Φ (coords c s) := by
  rw [bigSep_univ_equiv (finProdFinEquiv : Fin 2 × Fin 16 ≃ Fin 32) (fun j : Fin 32 => Φ (who j)), bigSep_univ_prod]
  exact bigSep_congr fun c _ => bigSep_congr fun s _ => congrArg Φ (who_coords c s)

/-- Thirty-two read shares. -/
abbrev qs (j : Fin 32) : PosShare TreeShare := PosShare.pieces 32 fullShare j

section
variable {t : Thread nD τ} {sp : Space} {n : ℕ} {m : Memref sig t.2.kind sp ⟨1, ![n]⟩ .i32} {A : ℕ → BitVec 32}

theorem deal_arr : (arr t m fullShare A : sProp 𝕄) ⊢ bigSep Finset.univ fun j : Fin 32 => arr t m (qs j) A :=
  (ownsSat_pieces t m (fun X : (⟨1, ![n]⟩ : Shape).Idx → Elt F .i32 => X = fun x => A (x 0).val) 32 (by omega) fullShare).1

theorem gather_arr : (bigSep Finset.univ fun j : Fin 32 => arr t m (qs j) A) ⊢ (arr t m fullShare A : sProp 𝕄) :=
  (ownsSat_pieces t m (fun X : (⟨1, ![n]⟩ : Shape).Idx → Elt F .i32 => X = fun x => A (x 0).val) 32 (by omega) fullShare).2

variable {p : Fin 32 → ℕ → Prop}

theorem part_deal (S : Finset (Fin 32)) (hd : ∀ i, i < n → ∀ j j', p j i → p j' i → j = j') :
    (part t m (fun i => ∃ j ∈ S, p j i) A : sProp 𝕄) ⊢ bigSep S fun j => part t m (p j) A := by
  classical
  induction S using Finset.induction_on with
  | empty => rw [bigSep_empty]; iintro -; iempintro
  | insert j S hj ih =>
    rw [bigSep_insert hj]
    refine (part_split (q := p j) (r := fun i => ∃ j ∈ S, p j i) (fun i _ => by simp) (fun i hi h => ?_)).trans (sep_mono .rfl ih)
    rintro ⟨j', hj', h'⟩
    exact hj (hd i hi j j' h h' ▸ hj')

theorem part_gather (S : Finset (Fin 32)) (hS : S.Nonempty) (hd : ∀ i, i < n → ∀ j j', p j i → p j' i → j = j') :
    (bigSep S fun j => part t m (p j) A) ⊢ (part t m (fun i => ∃ j ∈ S, p j i) A : sProp 𝕄) := by
  classical
  induction hS using Finset.Nonempty.cons_induction with
  | singleton j => rw [bigSep_singleton]; exact part_congr (fun i _ => by simp) (fun _ _ _ => rfl)
  | cons j S hj hS ih =>
    rw [Finset.cons_eq_insert, bigSep_insert hj]
    refine (sep_mono .rfl ih).trans (part_join (q := p j) (r := fun i => ∃ j ∈ S, p j i) (fun i _ => by simp) (fun i hi h => ?_))
    rintro ⟨j', hj', h'⟩
    exact hj (hd i hi j j' h h' ▸ hj')
end

/-- The tiles' parts of a result do not meet. -/
theorem rngs_apart (D : ℕ → ℕ) (i : ℕ) (_ : i < 20480000) (j j' : Fin 32) (h : rng D (start (who j)) 0 40000 i) (h' : rng D (start (who j')) 0 40000 i) : j = j' := by
  obtain ⟨l, m, hl, _, hm, e⟩ := h
  obtain ⟨l', m', hl', _, hm', e'⟩ := h'
  rw [start_who] at e e'
  have := pos_inj (d := D) (N := 20480000) (by omega) (by omega) (e.trans e'.symm)
  apply Fin.ext; omega

/-- They cover it. -/
theorem rngs_cover (D : ℕ → ℕ) (i : ℕ) (hi : i < 20480000) : ∃ j ∈ (Finset.univ : Finset (Fin 32)), rng D (start (who j)) 0 40000 i := by
  obtain ⟨e, he, rfl⟩ := pos_surj (d := D) hi
  refine ⟨⟨e / 640000, by omega⟩, Finset.mem_univ _, e % 640000 / 40000, e % 40000, by omega, by omega, by omega, ?_⟩
  rw [start_who]
  congr 1
  show 640000 * (e / 640000) + _ + _ = e
  omega

section
variable {t : Thread nD τ} {m : Memref sig t.2.kind .hbm S20480000 .i32} {A : ℕ → BitVec 32} {D : ℕ → ℕ}

/-- A result not yet written, dealt to the tiles that will write it. -/
theorem deal_out : (arr t m fullShare A : sProp 𝕄) ⊢ bigSep Finset.univ fun j : Fin 32 => empty1 t m D (start (who j)) :=
  (all_part (p := fun i => ∃ j ∈ (Finset.univ : Finset (Fin 32)), rng D (start (who j)) 0 40000 i) (rngs_cover D)).trans
    ((part_deal Finset.univ (rngs_apart D)).trans (bigSep_mono fun j _ =>
      show (part t m (rng D (start (who j)) 0 40000) A : sProp 𝕄) ⊢ iprop(∃ B, part t m (rng D (start (who j)) 0 40000) B) by
        iintro H; iexists A; iexact H))

/-- A result the tiles have written. -/
theorem gather_out : (bigSep Finset.univ fun j : Fin 32 => full1 t m D (start (who j)) A) ⊢ (arr t m fullShare A : sProp 𝕄) :=
  (part_gather Finset.univ Finset.univ_nonempty (rngs_apart D)).trans (part_all (rngs_cover D))
end

theorem rowL_apart {n : ℕ} {j j' : Fin 32} {f f' : Fin 2 → ℕ} {inb inb'} (hf : f = ![j.val, 0]) (hf' : f' = ![j'.val, 0]) (h : j ≠ j') :
    Disjoint (Rect.unit (s := ⟨2, ![32, n]⟩) f ![1, n] inb).set (Rect.unit (s := ⟨2, ![32, n]⟩) f' ![1, n] inb').set := by
  subst hf hf'
  rw [Finset.disjoint_left]
  intro y hy hy'
  rw [Rect.mem_set_unit] at hy hy'
  have h1 := hy 0
  have h2 := hy' 0
  simp only [Matrix.cons_val_zero] at h1 h2
  exact h (Fin.ext (by omega))

theorem row_cover {n : ℕ} {f : Fin 32 → Fin 2 → ℕ} {inb : ∀ (j : Fin 32) a, f j a + (![1, n] : Fin 2 → ℕ) a ≤ (⟨2, ![32, n]⟩ : Shape).size a} (hf : ∀ j, f j = ![j.val, 0]) (y : (⟨2, ![32, n]⟩ : Shape).Idx) :
    ∃ j, y ∈ (Rect.unit (s := ⟨2, ![32, n]⟩) (f j) ![1, n] (inb j)).set := by
  refine ⟨⟨(y 0).val, (y 0).isLt⟩, ?_⟩
  rw [Rect.mem_set_unit]
  intro a
  rw [hf]
  match a with
  | 0 => simp
  | 1 =>
    have := (y 1).isLt
    simp
    exact this

theorem row_of {t : Thread nD τ} {n : ℕ} {m : Memref sig t.2.kind .hbm ⟨2, ![1, n]⟩ .i32} {h : (⟨2, ![1, n]⟩ : Shape).Squeezes ⟨1, ![n]⟩} {q : PosShare TreeShare} {X : (⟨2, ![1, n]⟩ : Shape).Idx → BitVec 32} :
    (owns t m q X : sProp 𝕄) ⊢ iprop(∃ B, arr t (m.squeeze ⟨1, ![n]⟩ h) q B) := by
  have hs : (m.squeeze ⟨1, ![n]⟩ h).view.set = m.view.set := View.set_reshape _ _
  unfold owns
  iintro ⟨%f, -, H⟩
  iapply (arr_intro (m := m.squeeze ⟨1, ![n]⟩ h) f)
  rw [hs]
  iexact H

section
variable {t : Thread nD τ} {f : Fin 32 → Fin 2 → ℕ} (hf : ∀ j, f j = ![j.val, 0])

/-- An array of thirty-two rows, dealt row by row. -/
theorem deal_rows {n : ℕ} {m : Memref sig t.2.kind .hbm ⟨2, ![32, n]⟩ .i32} {inb : ∀ (j : Fin 32) a, f j a + (![1, n] : Fin 2 → ℕ) a ≤ (⟨2, ![32, n]⟩ : Shape).size a} {h : (⟨2, ![1, n]⟩ : Shape).Squeezes ⟨1, ![n]⟩}
    (hf : ∀ j, f j = ![j.val, 0]) {X : (⟨2, ![32, n]⟩ : Shape).Idx → BitVec 32} :
    (owns t m fullShare X : sProp 𝕄) ⊢ bigSep Finset.univ fun j : Fin 32 => iprop(∃ B, arr t ((m.slice (Rect.unit (s := ⟨2, ![32, n]⟩) (f j) ![1, n] (inb j)) (fun _ => rfl)).squeeze ⟨1, ![n]⟩ h) fullShare B) :=
  (owns_rects t m fullShare (fun j : Fin 32 => Rect.unit (s := ⟨2, ![32, n]⟩) (f j) ![1, n] (inb j)) (fun _ _ => rfl)
    (fun j j' hj => rowL_apart (hf j) (hf j') hj)
    (Finset.eq_univ_iff_forall.mpr fun y => Finset.mem_biUnion.mpr ((row_cover hf y).imp fun j hj => ⟨Finset.mem_univ j, hj⟩)) X).trans
  (bigSep_mono fun j _ => row_of (F := F))
end

theorem off3_who (j : Fin 32) : k0_off3 (who j) = ![j.val, 0] := by rw [k0_off3_eq, num_who]
theorem off6_who (j : Fin 32) : k0_off6 (who j) = ![j.val, 0] := by rw [k0_off6_eq, num_who]
theorem off5_who (j : Fin 32) : k1_off5 (who j) = ![j.val, 0] := by rw [k1_off5_eq, num_who]

theorem unit_congr {sh : Shape} {f g size : Fin sh.rank → ℕ} {inb inb'} (h : f = g) : Rect.unit (s := sh) f size inb = Rect.unit (s := sh) g size inb' := by
  subst h; rfl

theorem rowL_rowP (m : Memref sig .scVector .hbm S32x32768 .i32) (i : grid0.Coords) : rowL m i = rowP m i := by
  have e := unit_congr (sh := S32x32768) (size := S1x32768.size) (inb := k0_off3_inb i) (inb' := k1_off5_inb i) (show k0_off3 i = k1_off5 i by rw [k0_off3_eq, k1_off5_eq])
  unfold rowL rowP
  congr 2

theorem trips32 : k1_t2_loop.trips = 32 := rfl

theorem rowW_rowT (m : Memref sig .scVector .hbm S32x2048 .i32) (j : Fin k1_t2_loop.trips) : rowW m (who (j.cast trips32)) = rowT m j := by
  have e := unit_congr (sh := S32x2048) (size := S1x2048.size) (inb := k0_off6_inb (who (j.cast trips32))) (inb' := k1_off2_inb j) (show k0_off6 (who (j.cast trips32)) = k1_off2 j by rw [off6_who, k1_off2_eq]; rfl)
  unfold rowW rowT
  congr 2

theorem bigSep_swap {α β : Type} [Fintype α] [Fintype β] (Φ : α → β → sProp (MT nD τ sig (HIx 6) (Elt F) ℕ UU ℕ)) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α) (fun x : α × β => Φ x.1 x.2), bigSep_univ_prod]
  rfl

section
variable {i₀ : grid0.Coords} {hL : Memref sig .scVector .hbm S32x32768 .i32} {hW : Memref sig .scVector .hbm S32x2048 .i32} {D : ℕ → ℕ}

/-- The counts the tiles made, dealt to the tiles that read them: to each its own lanes' counts, and a share of every row
    of the tiles' counts. -/
theorem deal_counts :
    iprop((bigSep Finset.univ fun j : Fin 32 => arr (gt d i₀) (rowL hL (who j)) fullShare (laneCnt D (start (who j)) 40000))
        ∗ bigSep Finset.univ fun j : Fin 32 => arr (gt d i₀) (rowW hW (who j)) fullShare (tileCnt D (start (who j))))
      ⊢ (bigSep Finset.univ fun j : Fin 32 => iprop(arr (gt d i₀) (rowP hL (who j)) fullShare (laneCnt D (start (who j)) 40000)
          ∗ bigSep Finset.univ fun t : Fin k1_t2_loop.trips => arr (gt d i₀) (rowT hW t) (qs j) (tileCnt D (640000 * t.val))) : sProp 𝕄) := by
  rw [bigSep_sep']
  refine BI.sep_mono (Entails.of_eq (bigSep_congr fun j _ => by rw [rowL_rowP])) ?_
  have e : (bigSep Finset.univ fun j : Fin 32 => bigSep Finset.univ fun k : Fin 32 => (arr (gt d i₀) (rowW hW (who j)) (qs k) (tileCnt D (start (who j))) : sProp 𝕄))
      = bigSep Finset.univ fun k : Fin 32 => bigSep Finset.univ fun t : Fin k1_t2_loop.trips => arr (gt d i₀) (rowT hW t) (qs k) (tileCnt D (640000 * t.val)) := by
    rw [bigSep_swap]
    refine bigSep_congr fun k _ => ?_
    rw [bigSep_univ_equiv (finCongr trips32) (fun j : Fin 32 => arr (gt d i₀) (rowW hW (who j)) (qs k) (tileCnt D (start (who j))))]
    refine bigSep_congr fun j _ => ?_
    rw [start_who]
    show arr (gt d i₀) (rowW hW (who (j.cast trips32))) _ _ = _
    rw [rowW_rowT]
    rfl
  rw [← e]
  exact bigSep_mono fun j _ => deal_arr (F := F)
end

/-- The contents of an array of words, as a function of the position. -/
def flat (f : S20480000.Idx → BitVec 32) (i : ℕ) : BitVec 32 := if h : i < 20480000 then f (fun _ => ⟨i, by simpa using h⟩) else 0

theorem flat_at (f : S20480000.Idx → BitVec 32) (x : S20480000.Idx) : flat f (x 0).val = f x := by
  have hx : (x 0).val < 20480000 := (x 0).isLt
  unfold flat
  rw [dif_pos hx]
  congr 1; funext a
  have : a = 0 := Subsingleton.elim _ _
  subst this; rfl

theorem owns_flat {t : Thread nD τ} {m : Memref sig t.2.kind .hbm S20480000 .i32} {q : PosShare TreeShare} (f : S20480000.Idx → BitVec 32) :
    (owns t m q f : sProp 𝕄) = arr t m q (flat f) := by
  unfold arr; congr 1; funext x; exact (flat_at f x).symm

theorem some1_eq {n : ℕ} {sp : Space} {t : Thread nD τ} {m : Memref sig t.2.kind sp ⟨1, ![n]⟩ .i32} (h : m.view.set = Finset.univ) :
    (iprop(∃ f, m.view.loc t ↦{fullShare} f) : sProp 𝕄) = some1 t m := by
  have h1 : iprop(∃ f, m.view.loc t ↦{fullShare} f) ⊢ (some1 t m : sProp 𝕄) := by
    iintro ⟨%f, H⟩
    iapply (arr_intro (m := m) f)
    rw [h]; iexact H
  have h2 : (some1 t m : sProp 𝕄) ⊢ iprop(∃ f, m.view.loc t ↦{fullShare} f) := by
    unfold some1 arr owns
    rw [h]
    iintro ⟨%B, %f, -, H⟩
    iexists f; iexact H
  exact BI.equiv_iff.mp ⟨h1, h2⟩

end Cert.Proof

end
-- ==== Proof.Own.lean ====
/-
  A tile's own buffers and semaphores, as its task names them.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F] {d : Dev nD} {c : Fin τ.nSC} {s : Fin τ.nSub}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A family of a set's members, and the rest of the set. -/
theorem bigSep_take {I : Type} [DecidableEq I] {k : ℕ} {S : Finset I} (e : Fin k ↪ I) (h : ∀ x, e x ∈ S) (Φ : I → sProp (MT nD τ sig (HIx 6) (Elt F) ℕ UU ℕ)) :
    bigSep S Φ = iprop((bigSep Finset.univ fun x => Φ (e x)) ∗ bigSep (S \ Finset.univ.map e) Φ) := by
  rw [bigSep_sdiff_split (t := Finset.univ.map e) (s := S) (by intro y hy; obtain ⟨x, -, rfl⟩ := Finset.mem_map.mp hy; exact h x), bigSep_map]
  rfl

/-- Scratch buffer `k` of a tile. -/
def vm (k : Fin 33) : Ref sig .scVector := ⟨.vmem, k, rfl⟩

/-- Consecutive scratch buffers of a tile. -/
def vms (d : Dev nD) (c : Fin τ.nSC) (s : Fin τ.nSub) (b n : ℕ) (h : b + n ≤ 33) : Fin n ↪ DevRef τ sig where
  toFun x := (Proc.scVector c s).devRef (vm ⟨b + x.val, by omega⟩)
  inj' x y e := by
    have e1 := Proc.devRef_injective _ e
    have e2 : (⟨b + x.val, by omega⟩ : Fin 33) = ⟨b + y.val, by omega⟩ := by
      injection e1
    have e3 := congrArg Fin.val e2
    exact Fin.ext (by simpa using e3)

/-- Completion semaphore `k`. -/
def sm (k : Fin 21) : SemLoc sig := .dma (show Fin sig.nDmaSem from k)

theorem sm_inj {k k' : Fin 21} (h : sm k = sm k') : k = k' := by
  unfold sm at h
  injection h

theorem sm_scoped : ∀ k : Fin 21, (sm k).isScoped .scVector = true := by decide

/-- Consecutive completion semaphores of a tile. -/
def dms (d : Dev nD) (c : Fin τ.nSC) (s : Fin τ.nSub) (b n : ℕ) (h : b + n ≤ 21) : Fin n ↪ GSem nD τ sig where
  toFun x := (tile d c s, sm ⟨b + x.val, by omega⟩)
  inj' x y e := by
    have e3 := congrArg Fin.val (sm_inj (Prod.mk.inj e).2)
    exact Fin.ext (by simpa using e3)

/-- A buffer at some contents. -/
def buf (d : Dev nD) (r : DevRef τ sig) : sProp 𝕄 := iprop(∃ f, ((d, r) : Loc nD τ sig) ↦{fullShare} f)

/-- A tile's buffers but for some. -/
def bufsRest (d : Dev nD) (c : Fin τ.nSC) (s : Fin τ.nSub) (b n : ℕ) (h : b + n ≤ 33) : sProp 𝕄 :=
  bigSep (ownRefs (τ := τ) (.scVector c s) \ Finset.univ.map (vms d c s b n h)) (buf d)

/-- A tile's semaphores but for some. -/
def semsRest (d : Dev nD) (c : Fin τ.nSC) (s : Fin τ.nSub) (b n : ℕ) (h : b + n ≤ 21) : sProp 𝕄 :=
  bigSep (ownCells (tile d c s) \ Finset.univ.map (dms d c s b n h)) fun g => semVal g 0

theorem ownBufs_take (b n : ℕ) (h : b + n ≤ 33) :
    (ownBufs (tile d c s) : sProp 𝕄) = iprop((bigSep Finset.univ fun x : Fin n => buf d (vms d c s b n h x)) ∗ bufsRest d c s b n h) :=
  bigSep_take (vms d c s b n h) (fun x => SparseCore.Cfg.mem_ownRefs_of_owner rfl) _

theorem ownSems0_take (b n : ℕ) (h : b + n ≤ 21) :
    (ownSems0 (tile d c s) : sProp 𝕄) = iprop((bigSep Finset.univ fun x : Fin n => (semVal (dms d c s b n h x) 0 : sProp 𝕄)) ∗ semsRest d c s b n h) :=
  bigSep_take (dms d c s b n h) (fun x => mem_ownCells.mpr ⟨rfl, sm_scoped _⟩) _

theorem bigSep_three (Φ : Fin 3 → sProp (MT nD τ sig (HIx 6) (Elt F) ℕ UU ℕ)) : bigSep Finset.univ Φ = iprop(Φ 0 ∗ Φ 1 ∗ Φ 2) := by
  rw [bigSep_succ, bigSep_succ, bigSep_one]; rfl

theorem bigSep_four (Φ : Fin 4 → sProp (MT nD τ sig (HIx 6) (Elt F) ℕ UU ℕ)) : bigSep Finset.univ Φ = iprop(Φ 0 ∗ Φ 1 ∗ Φ 2 ∗ Φ 3) := by
  rw [bigSep_succ, bigSep_three]; rfl

theorem bigSep_eight (Φ : Fin 8 → sProp (MT nD τ sig (HIx 6) (Elt F) ℕ UU ℕ)) : bigSep Finset.univ Φ = iprop(Φ 0 ∗ Φ 1 ∗ Φ 2 ∗ Φ 3 ∗ Φ 4 ∗ Φ 5 ∗ Φ 6 ∗ Φ 7) := by
  rw [bigSep_succ, bigSep_succ, bigSep_succ, bigSep_succ, bigSep_four]; rfl

theorem buf_some {n : ℕ} {t : Thread nD τ} {sp : Space} {m : Memref sig t.2.kind sp ⟨1, ![n]⟩ .i32} {r : DevRef τ sig} (h : m.view.set = Finset.univ) (e : m.view.loc t = (d, r)) :
    (buf d r : sProp 𝕄) = some1 t m := by
  rw [← some1_eq h]
  unfold buf
  rw [e]

/-- A counting task's buffers: `b` is the first. -/
theorem bufs3 {b : ℕ} {h : b + 3 ≤ 33} {m0 : Memref sig .scVector .vmem S2560 .i32} {m1 : Memref sig .scVector .vmem S32768 .i32} {m2 : Memref sig .scVector .vmem S2048 .i32}
    (h0 : (buf d (vms d c s b 3 h 0) : sProp 𝕄) = some1 (tile d c s) m0)
    (h1 : (buf d (vms d c s b 3 h 1) : sProp 𝕄) = some1 (tile d c s) m1)
    (h2 : (buf d (vms d c s b 3 h 2) : sProp 𝕄) = some1 (tile d c s) m2) :
    (ownBufs (tile d c s) : sProp 𝕄) = iprop((some1 (tile d c s) m0 ∗ some1 (tile d c s) m1 ∗ some1 (tile d c s) m2) ∗ bufsRest d c s b 3 h) := by
  rw [ownBufs_take b 3 h, bigSep_three, ← h0, ← h1, ← h2]

/-- A placing task's. -/
theorem bufs8 {b : ℕ} {h : b + 8 ≤ 33} {m0 m1 m2 : Memref sig .scVector .vmem S2560 .i32} {m3 m4 : Memref sig .scVector .vmem S32768 .i32} {m5 m6 m7 : Memref sig .scVector .vmem S2048 .i32}
    (h0 : (buf d (vms d c s b 8 h 0) : sProp 𝕄) = some1 (tile d c s) m0)
    (h1 : (buf d (vms d c s b 8 h 1) : sProp 𝕄) = some1 (tile d c s) m1)
    (h2 : (buf d (vms d c s b 8 h 2) : sProp 𝕄) = some1 (tile d c s) m2)
    (h3 : (buf d (vms d c s b 8 h 3) : sProp 𝕄) = some1 (tile d c s) m3)
    (h4 : (buf d (vms d c s b 8 h 4) : sProp 𝕄) = some1 (tile d c s) m4)
    (h5 : (buf d (vms d c s b 8 h 5) : sProp 𝕄) = some1 (tile d c s) m5)
    (h6 : (buf d (vms d c s b 8 h 6) : sProp 𝕄) = some1 (tile d c s) m6)
    (h7 : (buf d (vms d c s b 8 h 7) : sProp 𝕄) = some1 (tile d c s) m7) :
    (ownBufs (tile d c s) : sProp 𝕄) = iprop((some1 (tile d c s) m0 ∗ some1 (tile d c s) m1 ∗ some1 (tile d c s) m2 ∗ some1 (tile d c s) m3 ∗ some1 (tile d c s) m4 ∗ some1 (tile d c s) m5
        ∗ some1 (tile d c s) m6 ∗ some1 (tile d c s) m7) ∗ bufsRest d c s b 8 h) := by
  rw [ownBufs_take b 8 h, bigSep_eight, ← h0, ← h1, ← h2, ← h3, ← h4, ← h5, ← h6, ← h7]

end Cert.Proof

end
-- ==== Proof.Tasks.lean ====
/-
  What each kernel's task is handed and hands back, and its run.
-/
module

public import proofs.«01_k».proof.Proof.Own

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

variable [FloatOps F] {d : Dev nD}

/-- A task from a kernel's run: its buffers and semaphores are among the tile's own. -/
theorem task_wrap {i : grid0.Coords} {O : CellTallies nD τ sig (HIx 6)} {W : Waits sig (HIx 6)} (hO : ∀ g, O g none = 0)
    {SB RB SS RS R R' : sProp (MT nD τ sig (HIx 6) (Elt F) ℕ UU ℕ)} (hb : (ownBufs (gt d i) : sProp (MT nD τ sig (HIx 6) (Elt F) ℕ UU ℕ)) = iprop(SB ∗ RB))
    (hs : (ownSems0 (gt d i) : sProp (MT nD τ sig (HIx 6) (Elt F) ℕ UU ℕ)) = iprop(SS ∗ RS)) {prog : Prog (TpuEff nD τ sig (Elt F) Λ₀ (.scVector ((i 0).castLE hcore0) ((i 1).castLE hsub0))) PUnit}
    (h : iprop(SS ∗ ow (gt d i) O W ∗ Transfers.MayWaits (gt d i) (default : HIx 6) O ∗ R ∗ SB)
      ⊢ (wp frame (wpE defs₀ 𝒱₀ (gt d i) none) Set.univ prog (fun _ => iprop(SS ∗ ow (gt d i) O W ∗ R' ∗ SB)) : sProp (MT nD τ sig (HIx 6) (Elt F) ℕ UU ℕ))) :
    iprop(levAts (K (F := F)).L (K (F := F)).lev ∗ emp ∗ R ∗ scopedBufs (gt d i) ∗ scopedSems0 (gt d i) ∗ owes (gt d i) O W)
      ⊢ (wp frame (wpE defs₀ 𝒱₀ (gt d i) none) Set.univ prog (fun _ =>
        iprop(R' ∗ scopedBufs (gt d i) ∗ scopedSems0 (gt d i) ∗ ∃ W', ⌜∀ p ∈ W', p ∈ W ∨ p.2 = none⌝ ∗ owes (gt d i) O W')) : sProp 𝕄) := by
  rw [(K (F := F)).scopedBufs_V facts d ((i 0).castLE hcore0) ((i 1).castLE hsub0), SparseCore.Cfg.scopedSems0_V (Val := Elt F) d ((i 0).castLE hcore0) ((i 1).castLE hsub0)]
  rw [show (ownBufs (V d ((i 0).castLE hcore0) ((i 1).castLE hsub0)) : sProp 𝕄) = _ from hb, show (ownSems0 (V d ((i 0).castLE hcore0) ((i 1).castLE hsub0)) : sProp 𝕄) = _ from hs]
  iintro ⟨#Hlv, -, HR, ⟨HB, HRB⟩, ⟨HS, HRS⟩, HO⟩
  ihave Hmw := (show levAts (K (F := F)).L (K (F := F)).lev ⊢ Transfers.MayWaits (gt d i) (default : HIx 6) O from (K (F := F)).mayWaits_none (thr := gt d i) hO) $$ Hlv
  iapply (wp_wand frame (wpE defs₀ 𝒱₀ (gt d i) none) Set.univ) $$ [Hmw HR HB HS HO]
  · iapply h
    isplitl [HS]; · iexact HS
    isplitl [HO]
    · unfold ow
      iexists W
      isplitr; · ipureintro; exact fun p hp => .inl hp
      iexact HO
    isplitl [Hmw]; · iexact Hmw
    isplitl [HR]; · iexact HR
    iexact HB
  iintro %_ ⟨HS, HO, HR, HB⟩
  isplitl [HR]; · iexact HR
  isplitl [HB HRB]
  · isplitl [HB]; · iexact HB
    iexact HRB
  isplitl [HS HRS]
  · isplitl [HS]; · iexact HS
    iexact HRS
  unfold ow
  iexact HO

/-- The number of a tile. -/
def idx (i : grid0.Coords) : Fin 32 := ⟨16 * (i 0).val + (i 1).val, num_lt i⟩

theorem idx_who (j : Fin 32) : idx (who j) = j := Fin.ext (num_who j)

section
variable (d) (i : grid0.Coords) (keys ids kout iout : Memref sig .scVector .hbm S20480000 .i32) (hL : Memref sig .scVector .hbm S32x32768 .i32) (hW : Memref sig .scVector .hbm S32x2048 .i32)
  (Kf If : ℕ → BitVec 32) (D : ℕ → ℕ)

/-- A counting task takes its share of the keys and its rows of the counts, -/
def goCount : sProp 𝕄 := iprop(arr (gt d i) keys (qs (idx i)) Kf ∗ some1 (gt d i) (rowL hL i) ∗ some1 (gt d i) (rowW hW i))
/-- and brings the rows back filled. -/
def tdCount : sProp 𝕄 := iprop(arr (gt d i) keys (qs (idx i)) Kf ∗ arr (gt d i) (rowL hL i) fullShare (laneCnt D (start i) 40000) ∗ arr (gt d i) (rowW hW i) fullShare (tileCnt D (start i)))

/-- The first placing task takes its share of the keys and of the counts, and its part of the two results, -/
def goFirst : sProp 𝕄 := iprop(arr (gt d i) keys (qs (idx i)) Kf ∗ counts d i hL hW D (qs (idx i)) ∗ empty1 (gt d i) kout D (start i) ∗ empty1 (gt d i) iout D (start i))
/-- and brings the results back written. -/
def tdFirst : sProp 𝕄 := iprop(arr (gt d i) keys (qs (idx i)) Kf ∗ full1 (gt d i) kout D (start i) (moved D Kf) ∗ full1 (gt d i) iout D (start i) (moved D wd))

/-- The middle placing task takes a share of the keys' indices too, -/
def goMid : sProp 𝕄 := iprop(arr (gt d i) keys (qs (idx i)) Kf ∗ arr (gt d i) ids (qs (idx i)) If ∗ counts d i hL hW D (qs (idx i)) ∗ empty1 (gt d i) kout D (start i) ∗ empty1 (gt d i) iout D (start i))
/-- and brings both results back. -/
def tdMid : sProp 𝕄 := iprop(full1 (gt d i) kout D (start i) (moved D Kf) ∗ full1 (gt d i) iout D (start i) (moved D If))

/-- The last writes the indices alone, -/
def goLast : sProp 𝕄 := iprop(arr (gt d i) keys (qs (idx i)) Kf ∗ arr (gt d i) ids (qs (idx i)) If ∗ counts d i hL hW D (qs (idx i)) ∗ empty1 (gt d i) iout D (start i))
/-- which it brings back. -/
def tdLast : sProp 𝕄 := full1 (gt d i) iout D (start i) (moved D If)

instance goCount_storable : BI.Storable (upEmb : UEmb _ 𝕄) (goCount (F := F) d i keys hL hW Kf) := by unfold goCount some1 arr; infer_instance
instance tdCount_storable : BI.Storable (upEmb : UEmb _ 𝕄) (tdCount (F := F) d i keys hL hW Kf D) := by unfold tdCount arr; infer_instance
instance goFirst_storable : BI.Storable (upEmb : UEmb _ 𝕄) (goFirst (F := F) d i keys kout iout hL hW Kf D) := by unfold goFirst counts empty1 arr; infer_instance
instance tdFirst_storable : BI.Storable (upEmb : UEmb _ 𝕄) (tdFirst (F := F) d i keys kout iout Kf D) := by unfold tdFirst full1 arr; infer_instance
instance goMid_storable : BI.Storable (upEmb : UEmb _ 𝕄) (goMid (F := F) d i keys ids kout iout hL hW Kf If D) := by unfold goMid counts empty1 arr; infer_instance
instance tdMid_storable : BI.Storable (upEmb : UEmb _ 𝕄) (tdMid (F := F) d i kout iout Kf If D) := by unfold tdMid full1; infer_instance
instance goLast_storable : BI.Storable (upEmb : UEmb _ 𝕄) (goLast (F := F) d i keys ids iout hL hW Kf If D) := by unfold goLast counts empty1 arr; infer_instance
instance tdLast_storable : BI.Storable (upEmb : UEmb _ 𝕄) (tdLast (F := F) d i iout If D) := by unfold tdLast full1; infer_instance
end

section
variable {i : grid0.Coords} {keys ids kout iout : Memref sig .scVector .hbm S20480000 .i32} {hL : Memref sig .scVector .hbm S32x32768 .i32} {hW : Memref sig .scVector .hbm S32x2048 .i32}
  {kbuf ibuf pbuf : Memref sig .scVector .vmem S2560 .i32} {hk : kbuf.IsWhole} {hi : ibuf.IsWhole} {off own : Memref sig .scVector .vmem S32768 .i32} {hown : own.IsWhole}
  {row : Memref sig .scVector .vmem S2048 .i32} {hrow : row.IsWhole} {tot pref : Memref sig .scVector .vmem S2048 .i32} {sem sem2 r0 r1 : DmaSems sig S_}
  {O : CellTallies nD τ sig (HIx 6)} {W : Waits sig (HIx 6)} {Kf If : ℕ → BitVec 32} {RB RS : sProp (MT nD τ sig (HIx 6) (Elt F) ℕ UU ℕ)}
  (hO : ∀ g, O g none = 0)

include hO in
theorem task_count {sh : ℕ} (hsh : sh < 32) {hoff : off.IsWhole} (hL0 : 0 < (rowL hL i).view.dmaCredit) (hW0 : 0 < (rowW hW i).view.dmaCredit)
    (hb : (ownBufs (gt d i) : sProp 𝕄) = iprop((some1 (gt d i) kbuf ∗ some1 (gt d i) off ∗ some1 (gt d i) row) ∗ RB))
    (hs : (ownSems0 (gt d i) : sProp 𝕄) = iprop((semVal (gt d i, .dma sem.sem) 0 ∗ semVal (gt d i, .dma r0.sem) 0 ∗ semVal (gt d i, .dma r1.sem) 0) ∗ RS)) :
    iprop(levAts (K (F := F)).L (K (F := F)).lev ∗ emp ∗ goCount d i keys hL hW Kf ∗ scopedBufs (gt d i) ∗ scopedSems0 (gt d i) ∗ owes (gt d i) O W)
      ⊢ (wp frame (wpE defs₀ 𝒱₀ (gt d i) none) Set.univ (histK (wd sh) i keys hL hW kbuf off hoff row hrow sem r0 r1) (fun _ =>
        iprop(tdCount d i keys hL hW Kf (kd sh Kf) ∗ scopedBufs (gt d i) ∗ scopedSems0 (gt d i) ∗ ∃ W', ⌜∀ p ∈ W', p ∈ W ∨ p.2 = none⌝ ∗ owes (gt d i) O W')) : sProp 𝕄) := by
  refine task_wrap hO hb hs ?_
  unfold goCount tdCount
  iintro ⟨⟨Hv, Hv0, Hv1⟩, HO, Hmw, ⟨Hks, HL, HW⟩, ⟨Hkb, Hoff, Hrow⟩⟩
  iapply (wp_wand frame (wpE defs₀ 𝒱₀ (gt d i) none) Set.univ) $$ [Hv Hv0 Hv1 HO Hmw Hks HL HW Hkb Hoff Hrow]
  · iapply (wp_histK (F := F) hsh i hL0 hW0)
    isplitl [Hv]; · iexact Hv
    isplitl [Hv0]; · iexact Hv0
    isplitl [Hv1]; · iexact Hv1
    isplitl [HO]; · iexact HO
    isplitl [Hmw]; · iexact Hmw
    isplitl [Hks]; · iexact Hks
    isplitl [Hkb]; · iexact Hkb
    isplitl [Hoff]; · iexact Hoff
    isplitl [Hrow]; · iexact Hrow
    isplitl [HL]; · iexact HL
    iexact HW
  iintro %_ ⟨Hv, Hv0, Hv1, HO, Hks, Hkb, Hoff, Hrow, HL, HW⟩
  isplitl [Hv Hv0 Hv1]
  · isplitl [Hv]; · iexact Hv
    isplitl [Hv0]; · iexact Hv0
    iexact Hv1
  isplitl [HO]; · iexact HO
  isplitl [Hks HL HW]
  · isplitl [Hks]; · iexact Hks
    isplitl [HL]; · iexact HL
    iexact HW
  isplitl [Hkb]; · iexact Hkb
  isplitl [Hoff]; · iexact Hoff
  iexact Hrow

variable (hrow0 : 0 < row.view.dmaCredit) (hown0 : 0 < own.view.dmaCredit)
    (hb : (ownBufs (gt d i) : sProp (MT nD τ sig (HIx 6) (Elt F) ℕ UU ℕ)) = iprop((some1 (gt d i) kbuf ∗ some1 (gt d i) ibuf ∗ some1 (gt d i) pbuf ∗ some1 (gt d i) off ∗ some1 (gt d i) own ∗ some1 (gt d i) row
      ∗ some1 (gt d i) tot ∗ some1 (gt d i) pref) ∗ RB))
    (hs : (ownSems0 (gt d i) : sProp (MT nD τ sig (HIx 6) (Elt F) ℕ UU ℕ)) = iprop((semVal (gt d i, .dma sem.sem) 0 ∗ semVal (gt d i, .dma sem2.sem) 0 ∗ semVal (gt d i, .dma r0.sem) 0 ∗ semVal (gt d i, .dma r1.sem) 0) ∗ RS))
include hO hrow0 hown0 hb hs

theorem task_first (hc : kbuf.view.dmaCredit = 2560 * 32) (hc' : ibuf.view.dmaCredit = 2560 * 32) :
    iprop(levAts (K (F := F)).L (K (F := F)).lev ∗ emp ∗ goFirst d i keys kout iout hL hW Kf (kd 0 Kf) ∗ scopedBufs (gt d i) ∗ scopedSems0 (gt d i) ∗ owes (gt d i) O W)
      ⊢ (wp frame (wpE defs₀ 𝒱₀ (gt d i) none) Set.univ (firstK i keys hL hW kout iout kbuf hk ibuf hi pbuf off own hown row hrow tot pref sem sem2 r0 r1) (fun _ =>
        iprop(tdFirst d i keys kout iout Kf (kd 0 Kf) ∗ scopedBufs (gt d i) ∗ scopedSems0 (gt d i) ∗ ∃ W', ⌜∀ p ∈ W', p ∈ W ∨ p.2 = none⌝ ∗ owes (gt d i) O W')) : sProp 𝕄) := by
  refine task_wrap hO hb hs ?_
  unfold goFirst tdFirst
  iintro ⟨Hv, HO, Hmw, ⟨Hks, HC, HK, HI⟩, HB⟩
  iapply (wp_wand frame (wpE defs₀ 𝒱₀ (gt d i) none) Set.univ) $$ [Hv HO Hmw Hks HC HK HI HB]
  · iapply (wp_firstK (F := F) i hrow0 hown0 hc hc')
    isplitl [Hv]; · iexact Hv
    isplitl [HO]; · iexact HO
    isplitl [Hmw]; · iexact Hmw
    isplitl [Hks]; · iexact Hks
    isplitl [HC]; · iexact HC
    isplitl [HB]; · iexact HB
    isplitl [HK]; · iexact HK
    iexact HI
  iintro %_ ⟨Hv, HO, Hks, -, HB, HK, HI⟩
  isplitl [Hv]; · iexact Hv
  isplitl [HO]; · iexact HO
  isplitr [HB]
  · isplitl [Hks]; · iexact Hks
    isplitl [HK]; · iexact HK
    iexact HI
  iexact HB

theorem task_mid (hc : kbuf.view.dmaCredit = 2560 * 32) (hc' : ibuf.view.dmaCredit = 2560 * 32) :
    iprop(levAts (K (F := F)).L (K (F := F)).lev ∗ emp ∗ goMid d i keys ids kout iout hL hW Kf If (kd 11 Kf) ∗ scopedBufs (gt d i) ∗ scopedSems0 (gt d i) ∗ owes (gt d i) O W)
      ⊢ (wp frame (wpE defs₀ 𝒱₀ (gt d i) none) Set.univ (midK i keys ids hL hW kout iout kbuf hk ibuf hi pbuf off own hown row hrow tot pref sem sem2 r0 r1) (fun _ =>
        iprop(tdMid d i kout iout Kf If (kd 11 Kf) ∗ scopedBufs (gt d i) ∗ scopedSems0 (gt d i) ∗ ∃ W', ⌜∀ p ∈ W', p ∈ W ∨ p.2 = none⌝ ∗ owes (gt d i) O W')) : sProp 𝕄) := by
  refine task_wrap hO hb hs ?_
  unfold goMid tdMid
  iintro ⟨Hv, HO, Hmw, ⟨Hks, His, HC, HK, HI⟩, HB⟩
  iapply (wp_wand frame (wpE defs₀ 𝒱₀ (gt d i) none) Set.univ) $$ [Hv HO Hmw Hks His HC HK HI HB]
  · iapply (wp_midK (F := F) i hrow0 hown0 hc hc')
    isplitl [Hv]; · iexact Hv
    isplitl [HO]; · iexact HO
    isplitl [Hmw]; · iexact Hmw
    isplitl [Hks]; · iexact Hks
    isplitl [His]; · iexact His
    isplitl [HC]; · iexact HC
    isplitl [HB]; · iexact HB
    isplitl [HK]; · iexact HK
    iexact HI
  iintro %_ ⟨Hv, HO, -, -, -, HB, HK, HI⟩
  isplitl [Hv]; · iexact Hv
  isplitl [HO]; · iexact HO
  isplitr [HB]
  · isplitl [HK]; · iexact HK
    iexact HI
  iexact HB

theorem task_last (hc : (half0 ibuf).view.dmaCredit = 1280 * 32) (hc' : (half1 ibuf).view.dmaCredit = 1280 * 32) :
    iprop(levAts (K (F := F)).L (K (F := F)).lev ∗ emp ∗ goLast d i keys ids iout hL hW Kf If (kd 22 Kf) ∗ scopedBufs (gt d i) ∗ scopedSems0 (gt d i) ∗ owes (gt d i) O W)
      ⊢ (wp frame (wpE defs₀ 𝒱₀ (gt d i) none) Set.univ (lastK i keys ids hL hW iout kbuf ibuf pbuf off own hown row hrow tot pref sem sem2 r0 r1) (fun _ =>
        iprop(tdLast d i iout If (kd 22 Kf) ∗ scopedBufs (gt d i) ∗ scopedSems0 (gt d i) ∗ ∃ W', ⌜∀ p ∈ W', p ∈ W ∨ p.2 = none⌝ ∗ owes (gt d i) O W')) : sProp 𝕄) := by
  refine task_wrap hO hb hs ?_
  unfold goLast tdLast
  iintro ⟨Hv, HO, Hmw, ⟨Hks, His, HC, HI⟩, HB⟩
  iapply (wp_wand frame (wpE defs₀ 𝒱₀ (gt d i) none) Set.univ) $$ [Hv HO Hmw Hks His HC HI HB]
  · iapply (wp_lastK (F := F) i hrow0 hown0 hc hc')
    isplitl [Hv]; · iexact Hv
    isplitl [HO]; · iexact HO
    isplitl [Hmw]; · iexact Hmw
    isplitl [Hks]; · iexact Hks
    isplitl [His]; · iexact His
    isplitl [HC]; · iexact HC
    isplitl [HB]; · iexact HB
    iexact HI
  iintro %_ ⟨Hv, HO, -, -, -, HB, HI⟩
  isplitl [Hv]; · iexact Hv
  isplitl [HO]; · iexact HO
  isplitl [HI]; · iexact HI
  iexact HB
end

end Cert.Proof

end
-- ==== Proof.Obl.lean ====
/-
  What the calls carry, and each call's tasks.
-/
module

public import proofs.«01_k».proof.Proof.Tasks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] (m : (ℓ : Loc nD τ sig) → Buf (Elt F) ℓ)

/-- The keys, as the launch memory holds them. -/
def key0 (d : Dev nD) : ℕ → BitVec 32 := flat (m ((d.tc : Thread nD τ).loc main_arg0))
/-- The first pass's digit, keys and indices. -/
abbrev dig1 (d : Dev nD) : ℕ → ℕ := kd 0 (key0 m d)
def key1 (d : Dev nD) : ℕ → BitVec 32 := moved (dig1 m d) (key0 m d)
def ids1 (d : Dev nD) : ℕ → BitVec 32 := moved (dig1 m d) wd
/-- The second pass's. -/
abbrev dig2 (d : Dev nD) : ℕ → ℕ := kd 11 (key1 m d)
def key2 (d : Dev nD) : ℕ → BitVec 32 := moved (dig2 m d) (key1 m d)
def ids2 (d : Dev nD) : ℕ → BitVec 32 := moved (dig2 m d) (ids1 m d)
/-- The third pass's. -/
abbrev dig3 (d : Dev nD) : ℕ → ℕ := kd 22 (key2 m d)
def ids3 (d : Dev nD) : ℕ → BitVec 32 := moved (dig3 m d) (ids2 m d)

/-- What a tile's task is handed at each call, -/
def goAt (q : Fin 6) (d : Dev nD) (i : grid0.Coords) : sProp 𝕄 :=
  match q with
  | 0 => goCount d i (Memref.whole main_arg0_scv) (Memref.whole main_v0_0_scv) (Memref.whole main_v0_1_scv) (key0 m d)
  | 1 => goFirst d i (Memref.whole main_arg0_scv) (Memref.whole main_v1_0_scv) (Memref.whole main_v1_1_scv) (Memref.whole main_v0_0_scv) (Memref.whole main_v0_1_scv) (key0 m d) (dig1 m d)
  | 2 => goCount d i (Memref.whole main_v1_0_scv) (Memref.whole main_v2_0_scv) (Memref.whole main_v2_1_scv) (key1 m d)
  | 3 => goMid d i (Memref.whole main_v1_0_scv) (Memref.whole main_v1_1_scv) (Memref.whole main_v3_0_scv) (Memref.whole main_v3_1_scv) (Memref.whole main_v2_0_scv) (Memref.whole main_v2_1_scv) (key1 m d) (ids1 m d) (dig2 m d)
  | 4 => goCount d i (Memref.whole main_v3_0_scv) (Memref.whole main_v4_0_scv) (Memref.whole main_v4_1_scv) (key2 m d)
  | 5 => goLast d i (Memref.whole main_v3_0_scv) (Memref.whole main_v3_1_scv) (Memref.whole main_v5_scv) (Memref.whole main_v4_0_scv) (Memref.whole main_v4_1_scv) (key2 m d) (ids2 m d) (dig3 m d)

/-- and what it hands back. -/
def tdAt (q : Fin 6) (d : Dev nD) (i : grid0.Coords) : sProp 𝕄 :=
  match q with
  | 0 => tdCount d i (Memref.whole main_arg0_scv) (Memref.whole main_v0_0_scv) (Memref.whole main_v0_1_scv) (key0 m d) (dig1 m d)
  | 1 => tdFirst d i (Memref.whole main_arg0_scv) (Memref.whole main_v1_0_scv) (Memref.whole main_v1_1_scv) (key0 m d) (dig1 m d)
  | 2 => tdCount d i (Memref.whole main_v1_0_scv) (Memref.whole main_v2_0_scv) (Memref.whole main_v2_1_scv) (key1 m d) (dig2 m d)
  | 3 => tdMid d i (Memref.whole main_v3_0_scv) (Memref.whole main_v3_1_scv) (key1 m d) (ids1 m d) (dig2 m d)
  | 4 => tdCount d i (Memref.whole main_v3_0_scv) (Memref.whole main_v4_0_scv) (Memref.whole main_v4_1_scv) (key2 m d) (dig3 m d)
  | 5 => tdLast d i (Memref.whole main_v5_scv) (ids2 m d) (dig3 m d)

instance goAt_storable (q : Fin 6) (d : Dev nD) (i : grid0.Coords) : BI.Storable (upEmb : UEmb _ 𝕄) (goAt (F := F) m q d i) := by
  unfold goAt
  fin_cases q <;> infer_instance

instance tdAt_storable (q : Fin 6) (d : Dev nD) (i : grid0.Coords) : BI.Storable (upEmb : UEmb _ 𝕄) (tdAt (F := F) m q d i) := by
  unfold tdAt
  fin_cases q <;> infer_instance

theorem nCore_le (q : Fin 6) : (K (F := F)).nCore q = 2 := by fin_cases q <;> rfl
theorem nSub_le (q : Fin 6) : (K (F := F)).nSub q = 16 := by fin_cases q <;> rfl

/-- The tile of a call's core `c` and subcore `s`. -/
abbrev at' (q : Fin 6) (c : Fin ((K (F := F)).nCore q)) (s : Fin ((K (F := F)).nSub q)) : grid0.Coords := coords (c.cast (nCore_le q)) (s.cast (nSub_le q))

/-- What the calls carry: a core takes what its tasks take. -/
def P : (K (F := F)).Pay (nD := nD) (Val := Elt F) (Name := ℕ) (U := UU) where
  st := fun q d c => bigSep Finset.univ fun s => goAt m q d (at' (F := F) q c s)
  dn := fun q d c => bigSep Finset.univ fun s => tdAt m q d (at' (F := F) q c s)
  go := fun q d c s => goAt m q d (at' (F := F) q c s)
  td := fun q d c s => tdAt m q d (at' (F := F) q c s)
  x := fun _ _ => iprop(emp)

instance P_storable : (P (F := F) m).IsStorable where
  st q d c := (inferInstance : BI.Storable (upEmb : UEmb _ 𝕄) (bigSep Finset.univ fun s => goAt m q d (at' (F := F) q c s)))
  dn q d c := (inferInstance : BI.Storable (upEmb : UEmb _ 𝕄) (bigSep Finset.univ fun s => tdAt m q d (at' (F := F) q c s)))
  go q d c s := (inferInstance : BI.Storable (upEmb : UEmb _ 𝕄) (goAt m q d (at' (F := F) q c s)))
  td q d c s := (inferInstance : BI.Storable (upEmb : UEmb _ 𝕄) (tdAt m q d (at' (F := F) q c s)))

theorem vecSplit (q : Fin 6) : (K (F := F)).VecSplit' (P m) q := by
  intro d c
  show (bigSep Finset.univ fun s => goAt m q d (at' (F := F) q c s)) ⊢ |={Set.univ}=> iprop((bigSep Finset.univ fun s => goAt m q d (at' (F := F) q c s))
      ∗ ((bigSep Finset.univ fun s => tdAt m q d (at' (F := F) q c s)) -∗ bigSep Finset.univ fun s => tdAt m q d (at' (F := F) q c s)))
  iintro H; imodintro
  isplitl [H]; · iexact H
  iintro H; iexact H

theorem obl_post {thr : Thread nD τ} {A B C : sProp (MT nD τ sig (HIx 6) (Elt F) ℕ UU ℕ)} {O : CellTallies nD τ sig (HIx 6)} {W : Waits sig (HIx 6)} {p : HIx 6 → Prop} :
    iprop(A ∗ B ∗ C ∗ ∃ W', ⌜∀ p ∈ W', p ∈ W ∨ p.2 = none⌝ ∗ owes thr O W')
      ⊢ (iprop(A ∗ B ∗ C ∗ ∃ W', ⌜∀ x ∈ W', x ∈ W ∨ x.2 = none ∨ p x.2⌝ ∗ owes thr O W') : sProp 𝕄) := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem hb0 (d : Dev nD) (i : grid0.Coords) : (ownBufs (gt d i) : sProp 𝕄) = iprop((some1 (gt d i) (Memref.whole cc0_scratch0) ∗ some1 (gt d i) (Memref.whole cc0_scratch1) ∗ some1 (gt d i) (Memref.whole cc0_scratch2))
    ∗ bufsRest d ((i 0).castLE hcore0) ((i 1).castLE hsub0) 0 3 (by omega)) :=
  bufs3 (buf_some (View.set_whole _) rfl) (buf_some (View.set_whole _) rfl) (buf_some (View.set_whole _) rfl)
theorem hs0 (d : Dev nD) (i : grid0.Coords) : (ownSems0 (gt d i) : sProp 𝕄) = iprop((semVal (gt d i, .dma cc0_scratch3.sem) 0 ∗ semVal (gt d i, .dma cc0_scoped0.sem) 0 ∗ semVal (gt d i, .dma cc0_scoped1.sem) 0)
    ∗ semsRest d ((i 0).castLE hcore0) ((i 1).castLE hsub0) 0 3 (by omega)) := by
  rw [ownSems0_take 0 3 (by omega), bigSep_three]; rfl

theorem hb1 (d : Dev nD) (i : grid0.Coords) : (ownBufs (gt d i) : sProp 𝕄) = iprop((some1 (gt d i) (Memref.whole cc1_scratch0) ∗ some1 (gt d i) (Memref.whole cc1_scratch1) ∗ some1 (gt d i) (Memref.whole cc1_scratch2) ∗ some1 (gt d i) (Memref.whole cc1_scratch3) ∗ some1 (gt d i) (Memref.whole cc1_scratch4) ∗ some1 (gt d i) (Memref.whole cc1_scratch5) ∗ some1 (gt d i) (Memref.whole cc1_scratch6) ∗ some1 (gt d i) (Memref.whole cc1_scratch7))
    ∗ bufsRest d ((i 0).castLE hcore0) ((i 1).castLE hsub0) 3 8 (by omega)) :=
  bufs8 (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl)
theorem hs1 (d : Dev nD) (i : grid0.Coords) : (ownSems0 (gt d i) : sProp 𝕄) = iprop((semVal (gt d i, .dma cc1_scratch8.sem) 0 ∗ semVal (gt d i, .dma cc1_scratch9.sem) 0 ∗ semVal (gt d i, .dma cc1_scoped0.sem) 0 ∗ semVal (gt d i, .dma cc1_scoped1.sem) 0)
    ∗ semsRest d ((i 0).castLE hcore0) ((i 1).castLE hsub0) 3 4 (by omega)) := by
  rw [ownSems0_take 3 4 (by omega), bigSep_four]; rfl

theorem hb2 (d : Dev nD) (i : grid0.Coords) : (ownBufs (gt d i) : sProp 𝕄) = iprop((some1 (gt d i) (Memref.whole cc2_scratch0) ∗ some1 (gt d i) (Memref.whole cc2_scratch1) ∗ some1 (gt d i) (Memref.whole cc2_scratch2))
    ∗ bufsRest d ((i 0).castLE hcore0) ((i 1).castLE hsub0) 11 3 (by omega)) :=
  bufs3 (buf_some (View.set_whole _) rfl) (buf_some (View.set_whole _) rfl) (buf_some (View.set_whole _) rfl)
theorem hs2 (d : Dev nD) (i : grid0.Coords) : (ownSems0 (gt d i) : sProp 𝕄) = iprop((semVal (gt d i, .dma cc2_scratch3.sem) 0 ∗ semVal (gt d i, .dma cc2_scoped0.sem) 0 ∗ semVal (gt d i, .dma cc2_scoped1.sem) 0)
    ∗ semsRest d ((i 0).castLE hcore0) ((i 1).castLE hsub0) 7 3 (by omega)) := by
  rw [ownSems0_take 7 3 (by omega), bigSep_three]; rfl

theorem hb3 (d : Dev nD) (i : grid0.Coords) : (ownBufs (gt d i) : sProp 𝕄) = iprop((some1 (gt d i) (Memref.whole cc3_scratch0) ∗ some1 (gt d i) (Memref.whole cc3_scratch1) ∗ some1 (gt d i) (Memref.whole cc3_scratch2) ∗ some1 (gt d i) (Memref.whole cc3_scratch3) ∗ some1 (gt d i) (Memref.whole cc3_scratch4) ∗ some1 (gt d i) (Memref.whole cc3_scratch5) ∗ some1 (gt d i) (Memref.whole cc3_scratch6) ∗ some1 (gt d i) (Memref.whole cc3_scratch7))
    ∗ bufsRest d ((i 0).castLE hcore0) ((i 1).castLE hsub0) 14 8 (by omega)) :=
  bufs8 (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl)
theorem hs3 (d : Dev nD) (i : grid0.Coords) : (ownSems0 (gt d i) : sProp 𝕄) = iprop((semVal (gt d i, .dma cc3_scratch8.sem) 0 ∗ semVal (gt d i, .dma cc3_scratch9.sem) 0 ∗ semVal (gt d i, .dma cc3_scoped0.sem) 0 ∗ semVal (gt d i, .dma cc3_scoped1.sem) 0)
    ∗ semsRest d ((i 0).castLE hcore0) ((i 1).castLE hsub0) 10 4 (by omega)) := by
  rw [ownSems0_take 10 4 (by omega), bigSep_four]; rfl

theorem hb4 (d : Dev nD) (i : grid0.Coords) : (ownBufs (gt d i) : sProp 𝕄) = iprop((some1 (gt d i) (Memref.whole cc4_scratch0) ∗ some1 (gt d i) (Memref.whole cc4_scratch1) ∗ some1 (gt d i) (Memref.whole cc4_scratch2))
    ∗ bufsRest d ((i 0).castLE hcore0) ((i 1).castLE hsub0) 22 3 (by omega)) :=
  bufs3 (buf_some (View.set_whole _) rfl) (buf_some (View.set_whole _) rfl) (buf_some (View.set_whole _) rfl)
theorem hs4 (d : Dev nD) (i : grid0.Coords) : (ownSems0 (gt d i) : sProp 𝕄) = iprop((semVal (gt d i, .dma cc4_scratch3.sem) 0 ∗ semVal (gt d i, .dma cc4_scoped0.sem) 0 ∗ semVal (gt d i, .dma cc4_scoped1.sem) 0)
    ∗ semsRest d ((i 0).castLE hcore0) ((i 1).castLE hsub0) 14 3 (by omega)) := by
  rw [ownSems0_take 14 3 (by omega), bigSep_three]; rfl

theorem hb5 (d : Dev nD) (i : grid0.Coords) : (ownBufs (gt d i) : sProp 𝕄) = iprop((some1 (gt d i) (Memref.whole cc5_scratch0) ∗ some1 (gt d i) (Memref.whole cc5_scratch1) ∗ some1 (gt d i) (Memref.whole cc5_scratch2) ∗ some1 (gt d i) (Memref.whole cc5_scratch3) ∗ some1 (gt d i) (Memref.whole cc5_scratch4) ∗ some1 (gt d i) (Memref.whole cc5_scratch5) ∗ some1 (gt d i) (Memref.whole cc5_scratch6) ∗ some1 (gt d i) (Memref.whole cc5_scratch7))
    ∗ bufsRest d ((i 0).castLE hcore0) ((i 1).castLE hsub0) 25 8 (by omega)) :=
  bufs8 (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl) (buf_some (View.set_whole _) rfl)
theorem hs5 (d : Dev nD) (i : grid0.Coords) : (ownSems0 (gt d i) : sProp 𝕄) = iprop((semVal (gt d i, .dma cc5_scratch8.sem) 0 ∗ semVal (gt d i, .dma cc5_scratch9.sem) 0 ∗ semVal (gt d i, .dma cc5_scoped0.sem) 0 ∗ semVal (gt d i, .dma cc5_scoped1.sem) 0)
    ∗ semsRest d ((i 0).castLE hcore0) ((i 1).castLE hsub0) 17 4 (by omega)) := by
  rw [ownSems0_take 17 4 (by omega), bigSep_four]; rfl

theorem obl0 : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hci : ((K (F := F)).core 0 c).val < grid0.bound 0 ∧ ((K (F := F)).sub 0 i).val < grid0.bound 1 := ⟨c.isLt, i.isLt⟩
  simp only [defs₀, SparseCore.onTile, hci, and_self, ↓reduceDIte]
  rw [cc0_eq]
  exact (task_count (F := F) (i := coords ⟨c.val, hci.1⟩ ⟨i.val, hci.2⟩) hO (sh := 0) (by omega) (show 0 < 32768 * 32 by omega) (show 0 < 2048 * 32 by omega) (hb0 d _) (hs0 d _)).trans (wp_mono frame _ _ fun _ => obl_post)

theorem obl1 : (K (F := F)).TileObl (D (F := F)) 𝒱 (P m) v₀ 1 := by
  intro d c i O W hO _ _
  simp only [show (P (F := F) m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hci : ((K (F := F)).core 1 c).val < grid0.bound 0 ∧ ((K (F := F)).sub 1 i).val < grid0.bound 1 := ⟨c.isLt, i.isLt⟩
  simp only [defs₀, SparseCore.onTile, hci, and_self, ↓reduceDIte]
  rw [cc1_eq]
  exact (task_first (F := F) (i := coords ⟨c.val, hci.1⟩ ⟨i.val, hci.2⟩) hO (show 0 < 2048 * 32 by omega) (show 0 < 32768 * 32 by omega) (hb1 d _) (hs1 d _) rfl rfl).trans (wp_mono frame _ _ fun _ => obl_post)

theorem obl2 : (K (F := F)).TileObl (D (F := F)) 𝒱 (P m) v₀ 2 := by
  intro d c i O W hO _ _
  simp only [show (P (F := F) m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hci : ((K (F := F)).core 2 c).val < grid0.bound 0 ∧ ((K (F := F)).sub 2 i).val < grid0.bound 1 := ⟨c.isLt, i.isLt⟩
  simp only [defs₀, SparseCore.onTile, hci, and_self, ↓reduceDIte]
  rw [cc2_eq]
  exact (task_count (F := F) (i := coords ⟨c.val, hci.1⟩ ⟨i.val, hci.2⟩) hO (sh := 11) (by omega) (show 0 < 32768 * 32 by omega) (show 0 < 2048 * 32 by omega) (hb2 d _) (hs2 d _)).trans (wp_mono frame _ _ fun _ => obl_post)

theorem obl3 : (K (F := F)).TileObl (D (F := F)) 𝒱 (P m) v₀ 3 := by
  intro d c i O W hO _ _
  simp only [show (P (F := F) m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hci : ((K (F := F)).core 3 c).val < grid0.bound 0 ∧ ((K (F := F)).sub 3 i).val < grid0.bound 1 := ⟨c.isLt, i.isLt⟩
  simp only [defs₀, SparseCore.onTile, hci, and_self, ↓reduceDIte]
  rw [cc3_eq]
  exact (task_mid (F := F) (i := coords ⟨c.val, hci.1⟩ ⟨i.val, hci.2⟩) hO (show 0 < 2048 * 32 by omega) (show 0 < 32768 * 32 by omega) (hb3 d _) (hs3 d _) rfl rfl).trans (wp_mono frame _ _ fun _ => obl_post)

theorem obl4 : (K (F := F)).TileObl (D (F := F)) 𝒱 (P m) v₀ 4 := by
  intro d c i O W hO _ _
  simp only [show (P (F := F) m).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hci : ((K (F := F)).core 4 c).val < grid0.bound 0 ∧ ((K (F := F)).sub 4 i).val < grid0.bound 1 := ⟨c.isLt, i.isLt⟩
  simp only [defs₀, SparseCore.onTile, hci, and_self, ↓reduceDIte]
  rw [cc4_eq]
  exact (task_count (F := F) (i := coords ⟨c.val, hci.1⟩ ⟨i.val, hci.2⟩) hO (sh := 22) (by omega) (show 0 < 32768 * 32 by omega) (show 0 < 2048 * 32 by omega) (hb4 d _) (hs4 d _)).trans (wp_mono frame _ _ fun _ => obl_post)

theorem obl5 : (K (F := F)).TileObl (D (F := F)) 𝒱 (P m) v₀ 5 := by
  intro d c i O W hO _ _
  simp only [show (P (F := F) m).ox = fun _ _ => 0 from rfl, add_zero]
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  have hci : ((K (F := F)).core 5 c).val < grid0.bound 0 ∧ ((K (F := F)).sub 5 i).val < grid0.bound 1 := ⟨c.isLt, i.isLt⟩
  simp only [defs₀, SparseCore.onTile, hci, and_self, ↓reduceDIte]
  rw [cc5_eq]
  exact (task_last (F := F) (i := coords ⟨c.val, hci.1⟩ ⟨i.val, hci.2⟩) hO (show 0 < 2048 * 32 by omega) (show 0 < 32768 * 32 by omega) (hb5 d _) (hs5 d _) rfl rfl).trans (wp_mono frame _ _ fun _ => obl_post)

end Cert.Proof

end
-- ==== Proof.Share.lean ====
/-
  Dealing a call's operands to its thirty-two tasks, and gathering what they bring back.
-/
module

public import proofs.«01_k».proof.Proof.Obl

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] {d : Dev nD}

/-- A memref every tile of a device reads as the same array. -/
abbrev Same (F : FTy → Type) (d : Dev nD) {n : ℕ} (m : Memref sig .scVector .hbm ⟨1, ![n]⟩ .i32) : Prop :=
  ∀ (i i' : grid0.Coords) (q : PosShare TreeShare) (A : ℕ → BitVec 32), (arr (F := F) (gt d i) m q A : sProp (MT nD τ sig (HIx 6) (Elt F) ℕ UU ℕ)) = arr (gt d i') m q A

/-- The same of a part of it. -/
abbrev SameP (F : FTy → Type) (d : Dev nD) (m : Memref sig .scVector .hbm S20480000 .i32) : Prop :=
  ∀ (i i' : grid0.Coords) (p : ℕ → Prop) (A : ℕ → BitVec 32), (part (F := F) (gt d i) m p A : sProp (MT nD τ sig (HIx 6) (Elt F) ℕ UU ℕ)) = part (gt d i') m p A

/-- The tile the arrays between calls are held at. -/
abbrev g0 (d : Dev nD) : Thread nD τ := gt d (who 0)

variable {keys ids kout iout : Memref sig .scVector .hbm S20480000 .i32} {hL : Memref sig .scVector .hbm S32x32768 .i32} {hW : Memref sig .scVector .hbm S32x2048 .i32}
  {Kf If : ℕ → BitVec 32} {D : ℕ → ℕ}

theorem deal_keys (h : Same F d keys) : (arr (g0 d) keys fullShare Kf : sProp 𝕄) ⊢ bigSep Finset.univ fun j : Fin 32 => arr (gt d (who j)) keys (qs (idx (who j))) Kf := by
  rw [show (bigSep Finset.univ fun j : Fin 32 => (arr (gt d (who j)) keys (qs (idx (who j))) Kf : sProp 𝕄)) = bigSep Finset.univ fun j : Fin 32 => arr (g0 d) keys (qs j) Kf from
    bigSep_congr fun j _ => by rw [idx_who]; exact h _ _ _ _]
  exact deal_arr

theorem gather_keys (h : Same F d keys) : (bigSep Finset.univ fun j : Fin 32 => (arr (gt d (who j)) keys (qs (idx (who j))) Kf : sProp 𝕄)) ⊢ arr (g0 d) keys fullShare Kf := by
  rw [show (bigSep Finset.univ fun j : Fin 32 => (arr (gt d (who j)) keys (qs (idx (who j))) Kf : sProp 𝕄)) = bigSep Finset.univ fun j : Fin 32 => arr (g0 d) keys (qs j) Kf from
    bigSep_congr fun j _ => by rw [idx_who]; exact h _ _ _ _]
  exact gather_arr

theorem deal_outs (h : SameP F d kout) : (arr (g0 d) kout fullShare Kf : sProp 𝕄) ⊢ bigSep Finset.univ fun j : Fin 32 => empty1 (gt d (who j)) kout D (start (who j)) := by
  rw [show (bigSep Finset.univ fun j : Fin 32 => (empty1 (gt d (who j)) kout D (start (who j)) : sProp 𝕄)) = bigSep Finset.univ fun j : Fin 32 => empty1 (g0 d) kout D (start (who j)) from
    bigSep_congr fun j _ => by unfold empty1; congr 1]
  exact deal_out

theorem gather_outs (h : SameP F d kout) : (bigSep Finset.univ fun j : Fin 32 => (full1 (gt d (who j)) kout D (start (who j)) Kf : sProp 𝕄)) ⊢ arr (g0 d) kout fullShare Kf := by
  rw [show (bigSep Finset.univ fun j : Fin 32 => (full1 (gt d (who j)) kout D (start (who j)) Kf : sProp 𝕄)) = bigSep Finset.univ fun j : Fin 32 => full1 (g0 d) kout D (start (who j)) Kf from
    bigSep_congr fun j _ => by unfold full1; exact h _ _ _ _]
  exact gather_out

/-- Before a counting call. -/
theorem deal_count (hk : Same F d keys) (hl : ∀ j, Same F d (rowL hL j)) (hw : ∀ j, Same F d (rowW hW j)) {X : S32x32768.Idx → BitVec 32} {Y : S32x2048.Idx → BitVec 32} :
    iprop(arr (g0 d) keys fullShare Kf ∗ owns (g0 d) hL fullShare X ∗ owns (g0 d) hW fullShare Y) ⊢ (bigSep Finset.univ fun j : Fin 32 => goCount d (who j) keys hL hW Kf : sProp 𝕄) := by
  have e : (bigSep Finset.univ fun j : Fin 32 => (goCount d (who j) keys hL hW Kf : sProp 𝕄))
      = iprop((bigSep Finset.univ fun j : Fin 32 => arr (gt d (who j)) keys (qs (idx (who j))) Kf) ∗ (bigSep Finset.univ fun j : Fin 32 => some1 (g0 d) (rowL hL (who j)))
        ∗ bigSep Finset.univ fun j : Fin 32 => some1 (g0 d) (rowW hW (who j))) := by
    rw [← bigSep_sep', ← bigSep_sep']
    refine bigSep_congr fun j _ => ?_
    unfold goCount some1
    congr 1
  rw [e]
  iintro ⟨HK, HL, HW⟩
  isplitl [HK]
  · iapply (deal_keys hk); iexact HK
  isplitl [HL]
  · iapply (deal_rows (t := g0 d) (m := hL) (f := fun j => k0_off3 (who j)) off3_who); iexact HL
  · iapply (deal_rows (t := g0 d) (m := hW) (f := fun j => k0_off6 (who j)) off6_who); iexact HW

/-- After it. -/
theorem gather_count (hk : Same F d keys) (hl : ∀ j, Same F d (rowL hL j)) (hw : ∀ j, Same F d (rowW hW j)) (hp : ∀ j, Same F d (rowP hL j)) (ht : ∀ t, Same F d (rowT hW t)) :
    (bigSep Finset.univ fun j : Fin 32 => (tdCount d (who j) keys hL hW Kf D : sProp 𝕄))
      ⊢ iprop(arr (g0 d) keys fullShare Kf ∗ bigSep Finset.univ fun j : Fin 32 => counts d (who j) hL hW D (qs (idx (who j)))) := by
  have e : (bigSep Finset.univ fun j : Fin 32 => (tdCount d (who j) keys hL hW Kf D : sProp 𝕄))
      = iprop((bigSep Finset.univ fun j : Fin 32 => arr (gt d (who j)) keys (qs (idx (who j))) Kf) ∗ (bigSep Finset.univ fun j : Fin 32 => arr (g0 d) (rowL hL (who j)) fullShare (laneCnt D (start (who j)) 40000))
        ∗ bigSep Finset.univ fun j : Fin 32 => arr (g0 d) (rowW hW (who j)) fullShare (tileCnt D (start (who j)))) := by
    rw [← bigSep_sep', ← bigSep_sep']
    refine bigSep_congr fun j _ => ?_
    unfold tdCount
    rw [hl _ (who j) (who 0), hw _ (who j) (who 0)]
  have e' : (bigSep Finset.univ fun j : Fin 32 => (counts d (who j) hL hW D (qs (idx (who j))) : sProp 𝕄))
      = bigSep Finset.univ fun j : Fin 32 => iprop(arr (g0 d) (rowP hL (who j)) fullShare (laneCnt D (start (who j)) 40000)
          ∗ bigSep Finset.univ fun t : Fin k1_t2_loop.trips => arr (g0 d) (rowT hW t) (qs j) (tileCnt D (640000 * t.val))) := by
    refine bigSep_congr fun j _ => ?_
    unfold counts
    rw [idx_who, hp _ (who j) (who 0)]
    congr 1
  rw [e, e']
  iintro ⟨HK, H⟩
  isplitl [HK]
  · iapply (gather_keys hk); iexact HK
  iapply (deal_counts (i₀ := who 0)); iexact H

/-- Before and after the first placing call. -/
theorem deal_first (hk : Same F d keys) (ho : SameP F d kout) (ho' : SameP F d iout) {A B : ℕ → BitVec 32} :
    iprop(arr (g0 d) keys fullShare Kf ∗ (bigSep Finset.univ fun j : Fin 32 => counts d (who j) hL hW D (qs (idx (who j)))) ∗ arr (g0 d) kout fullShare A ∗ arr (g0 d) iout fullShare B)
      ⊢ (bigSep Finset.univ fun j : Fin 32 => goFirst d (who j) keys kout iout hL hW Kf D : sProp 𝕄) := by
  unfold goFirst
  rw [bigSep_sep', bigSep_sep', bigSep_sep']
  exact BI.sep_mono (deal_keys hk) (BI.sep_mono (BI.Entails.refl _) (BI.sep_mono (deal_outs ho) (deal_outs ho')))

theorem gather_first (hk : Same F d keys) (ho : SameP F d kout) (ho' : SameP F d iout) :
    (bigSep Finset.univ fun j : Fin 32 => (tdFirst d (who j) keys kout iout Kf D : sProp 𝕄))
      ⊢ iprop(arr (g0 d) keys fullShare Kf ∗ arr (g0 d) kout fullShare (moved D Kf) ∗ arr (g0 d) iout fullShare (moved D wd)) := by
  unfold tdFirst
  rw [bigSep_sep', bigSep_sep']
  exact BI.sep_mono (gather_keys hk) (BI.sep_mono (gather_outs ho) (gather_outs ho'))

/-- The middle one. -/
theorem deal_mid (hk : Same F d keys) (hi : Same F d ids) (ho : SameP F d kout) (ho' : SameP F d iout) {A B : ℕ → BitVec 32} :
    iprop(arr (g0 d) keys fullShare Kf ∗ arr (g0 d) ids fullShare If ∗ (bigSep Finset.univ fun j : Fin 32 => counts d (who j) hL hW D (qs (idx (who j)))) ∗ arr (g0 d) kout fullShare A ∗ arr (g0 d) iout fullShare B)
      ⊢ (bigSep Finset.univ fun j : Fin 32 => goMid d (who j) keys ids kout iout hL hW Kf If D : sProp 𝕄) := by
  unfold goMid
  rw [bigSep_sep', bigSep_sep', bigSep_sep', bigSep_sep']
  exact BI.sep_mono (deal_keys hk) (BI.sep_mono (deal_keys hi) (BI.sep_mono (BI.Entails.refl _) (BI.sep_mono (deal_outs ho) (deal_outs ho'))))

theorem gather_mid (ho : SameP F d kout) (ho' : SameP F d iout) :
    (bigSep Finset.univ fun j : Fin 32 => (tdMid d (who j) kout iout Kf If D : sProp 𝕄)) ⊢ iprop(arr (g0 d) kout fullShare (moved D Kf) ∗ arr (g0 d) iout fullShare (moved D If)) := by
  unfold tdMid
  rw [bigSep_sep']
  exact BI.sep_mono (gather_outs ho) (gather_outs ho')

/-- The last. -/
theorem deal_last (hk : Same F d keys) (hi : Same F d ids) (ho' : SameP F d iout) {B : ℕ → BitVec 32} :
    iprop(arr (g0 d) keys fullShare Kf ∗ arr (g0 d) ids fullShare If ∗ (bigSep Finset.univ fun j : Fin 32 => counts d (who j) hL hW D (qs (idx (who j)))) ∗ arr (g0 d) iout fullShare B)
      ⊢ (bigSep Finset.univ fun j : Fin 32 => goLast d (who j) keys ids iout hL hW Kf If D : sProp 𝕄) := by
  unfold goLast
  rw [bigSep_sep', bigSep_sep', bigSep_sep']
  exact BI.sep_mono (deal_keys hk) (BI.sep_mono (deal_keys hi) (BI.sep_mono (BI.Entails.refl _) (deal_outs ho')))

theorem gather_last (ho' : SameP F d iout) :
    (bigSep Finset.univ fun j : Fin 32 => (tdLast d (who j) iout If D : sProp 𝕄)) ⊢ arr (g0 d) iout fullShare (moved D If) := by
  unfold tdLast
  exact gather_outs ho'

end Cert.Proof

end
-- ==== Proof.Launch.lean ====
/-
  The program's run.
-/
module

public import proofs.«01_k».proof.Proof.Share

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] (m : (ℓ : Loc nD τ sig) → Buf (Elt F) ℓ)

/-- A device's array, as `main` names it. -/
abbrev lc (d : Dev nD) (b : Ref sig .tc) : Loc nD τ sig := (d.tc : Thread nD τ).loc b

def u₀ : UU := (initOf (K (F := F)).hsCells (K (F := F)).hsToks, 1)

theorem bigSep_cast {n k : ℕ} (h : n = k) (Φ : Fin k → sProp (MT nD τ sig (HIx 6) (Elt F) ℕ UU ℕ)) :
    (bigSep Finset.univ fun c : Fin n => Φ (c.cast h)) = bigSep Finset.univ Φ := by
  subst h; rfl

/-- A call's cores and their tasks are the thirty-two tiles. -/
theorem tiles_eq (q : Fin 6) (Φ : grid0.Coords → sProp (MT nD τ sig (HIx 6) (Elt F) ℕ UU ℕ)) :
    (bigSep Finset.univ fun c : Fin ((K (F := F)).nCore q) => bigSep Finset.univ fun s => Φ (at' (F := F) q c s)) = bigSep Finset.univ fun j : Fin 32 => Φ (who j) := by
  rw [bigSep_tiles]
  exact (bigSep_congr fun c _ => bigSep_cast (nSub_le q) (fun s => Φ (coords (c.cast (nCore_le q)) s))).trans
    (bigSep_cast (nCore_le q) (fun c => bigSep Finset.univ fun s => Φ (coords c s)))

theorem st_eq (q : Fin 6) (d : Dev nD) : (bigSep Finset.univ fun c : Fin ((K (F := F)).nCore q) => (P m).st q d c) = bigSep Finset.univ fun j : Fin 32 => goAt m q d (who j) :=
  tiles_eq q (goAt m q d)

theorem dn_eq (q : Fin 6) (d : Dev nD) : (bigSep Finset.univ fun c : Fin ((K (F := F)).nCore q) => (P m).dn q d c) = bigSep Finset.univ fun j : Fin 32 => tdAt m q d (who j) :=
  tiles_eq q (tdAt m q d)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 6 => (P (F := F) m).x q thr) := by
  have e : (bigSep Finset.univ fun thr : Thread nD τ => bigSep Finset.univ fun q : Fin 6 => (P (F := F) m).x q thr) = iprop(emp) :=
    (bigSep_congr fun _ _ => bigSep_emp_const _).trans (bigSep_emp_const _)
  have e' : (bigSep Finset.univ fun _ : Dev nD => (iprop(emp) : sProp 𝕄)) = iprop(emp) := bigSep_emp_const _
  rw [e, e']
  unfold u₀
  iintro Hu
  ihave H := (ownU_pair (initOf (K (F := F)).hsCells (K (F := F)).hsToks) (1 : Counters)) $$ Hu
  icases H with ⟨HH, -⟩
  imodintro
  isplitl [HH]; · iexact HH
  isplitl <;> iempintro

/-- The program's arrays. -/
theorem unscopedBufs_eq (d : Dev nD) (W : (b : Ref sig .tc) → Buf (Elt F) ((d.tc : Thread nD τ).loc b)) :
    (unscopedBufs d W : sProp 𝕄) = iprop((lc d main_arg0 ↦{fullShare} W main_arg0) ∗ (lc d main_v0_0 ↦{fullShare} W main_v0_0) ∗ (lc d main_v0_1 ↦{fullShare} W main_v0_1)
      ∗ (lc d main_v1_0 ↦{fullShare} W main_v1_0) ∗ (lc d main_v1_1 ↦{fullShare} W main_v1_1) ∗ (lc d main_v2_0 ↦{fullShare} W main_v2_0) ∗ (lc d main_v2_1 ↦{fullShare} W main_v2_1)
      ∗ (lc d main_v3_0 ↦{fullShare} W main_v3_0) ∗ (lc d main_v3_1 ↦{fullShare} W main_v3_1) ∗ (lc d main_v4_0 ↦{fullShare} W main_v4_0) ∗ (lc d main_v4_1 ↦{fullShare} W main_v4_1)
      ∗ lc d main_v5 ↦{fullShare} W main_v5) := by
  unfold unscopedBufs
  rw [show (Finset.univ.filter fun b : Ref sig .tc => ¬ b.isScoped) = {main_arg0, main_v0_0, main_v0_1, main_v1_0, main_v1_1, main_v2_0, main_v2_1, main_v3_0, main_v3_1, main_v4_0, main_v4_1, main_v5} by decide]
  repeat rw [SparseCore.bigSep_insert' (by decide)]
  rw [bigSep_singleton]

/-- The words `main` returns. -/
def result (d : Dev nD) : Buf (Elt F) (lc d main_v5) := fun x : S20480000.Idx => ids3 m d (x 0).val

abbrev FIN (d : Dev nD) : sProp 𝕄 := iprop((lc d main_arg0 ↦{fullShare} m (lc d main_arg0)) ∗ lc d main_v5 ↦{fullShare} result m d)

section Hold
variable (d : Dev nD)

/-- The keys as the tiles hold them. -/
theorem hold_keys : ((lc d main_arg0 ↦{fullShare} m (lc d main_arg0)) : sProp 𝕄) = arr (g0 d) (Memref.whole main_arg0_scv) fullShare (key0 m d) :=
  (owns_whole (g0 d) main_arg0_scv fullShare (m (lc d main_arg0))).symm.trans (owns_flat (m (lc d main_arg0)))

/-- And the result. -/
theorem hold_result : ((lc d main_v5 ↦{fullShare} result m d) : sProp 𝕄) = arr (g0 d) (Memref.whole main_v5_scv) fullShare (ids3 m d) :=
  (owns_whole (g0 d) main_v5_scv fullShare (result m d)).symm
end Hold

end Cert.Proof

end
-- ==== Proof.Main.lean ====
/-
  The program on a device's main core.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] (m : (ℓ : Loc nD τ sig) → Buf (Elt F) ℓ) (ρ : Dev nD → PrngReg) (d : Dev nD)

set_option maxHeartbeats 1000000

/-- A call's counts, at every task. -/
def counted (hL : Memref sig .scVector .hbm S32x32768 .i32) (hW : Memref sig .scVector .hbm S32x2048 .i32) (D : ℕ → ℕ) : sProp 𝕄 :=
  bigSep Finset.univ fun j : Fin 32 => counts d (who j) hL hW D (qs (idx (who j)))

theorem before0 : iprop(arr (g0 d) (Memref.whole main_arg0_scv) fullShare (key0 m d) ∗ (lc d main_v0_0 ↦{fullShare} m (lc d main_v0_0)) ∗ (lc d main_v0_1 ↦{fullShare} m (lc d main_v0_1)))
    ⊢ (bigSep Finset.univ fun c : Fin ((K (F := F)).nCore 0) => (P m).st 0 d c : sProp 𝕄) := by
  rw [st_eq]
  have h := deal_count (F := F) (d := d) (keys := (Memref.whole main_arg0_scv)) (hL := (Memref.whole main_v0_0_scv)) (hW := (Memref.whole main_v0_1_scv)) (Kf := (key0 m d)) (fun _ _ _ _ => rfl) (fun _ _ _ _ _ => rfl) (fun _ _ _ _ _ => rfl) (X := m (lc d main_v0_0)) (Y := m (lc d main_v0_1))
  rw [owns_whole, owns_whole] at h
  exact h

theorem after0 : (bigSep Finset.univ fun c : Fin ((K (F := F)).nCore 0) => (P m).dn 0 d c)
    ⊢ (iprop(arr (g0 d) (Memref.whole main_arg0_scv) fullShare (key0 m d) ∗ counted d (Memref.whole main_v0_0_scv) (Memref.whole main_v0_1_scv) (dig1 m d)) : sProp 𝕄) := by
  rw [dn_eq]
  exact gather_count (F := F) (fun _ _ _ _ => rfl) (fun _ _ _ _ _ => rfl) (fun _ _ _ _ _ => rfl) (fun _ _ _ _ _ => rfl) (fun _ _ _ _ _ => rfl)

theorem before1 : iprop(arr (g0 d) (Memref.whole main_arg0_scv) fullShare (key0 m d) ∗ counted d (Memref.whole main_v0_0_scv) (Memref.whole main_v0_1_scv) (dig1 m d) ∗ (lc d main_v1_0 ↦{fullShare} m (lc d main_v1_0)) ∗ (lc d main_v1_1 ↦{fullShare} m (lc d main_v1_1)))
    ⊢ (bigSep Finset.univ fun c : Fin ((K (F := F)).nCore 1) => (P m).st 1 d c : sProp 𝕄) := by
  rw [st_eq]
  have h := deal_first (F := F) (d := d) (keys := (Memref.whole main_arg0_scv)) (kout := (Memref.whole main_v1_0_scv)) (iout := (Memref.whole main_v1_1_scv)) (hL := (Memref.whole main_v0_0_scv)) (hW := (Memref.whole main_v0_1_scv)) (Kf := (key0 m d)) (D := (dig1 m d)) (A := flat (m (lc d main_v1_0))) (B := flat (m (lc d main_v1_1))) (fun _ _ _ _ => rfl) (fun _ _ _ _ => rfl) (fun _ _ _ _ => rfl)
  rw [← owns_flat, ← owns_flat, owns_whole, owns_whole] at h
  exact h

theorem after1 : (bigSep Finset.univ fun c : Fin ((K (F := F)).nCore 1) => (P m).dn 1 d c)
    ⊢ (iprop(arr (g0 d) (Memref.whole main_arg0_scv) fullShare (key0 m d) ∗ arr (g0 d) (Memref.whole main_v1_0_scv) fullShare (key1 m d) ∗ arr (g0 d) (Memref.whole main_v1_1_scv) fullShare (ids1 m d)) : sProp 𝕄) := by
  rw [dn_eq]
  exact gather_first (F := F) (fun _ _ _ _ => rfl) (fun _ _ _ _ => rfl) (fun _ _ _ _ => rfl)

theorem before2 : iprop(arr (g0 d) (Memref.whole main_v1_0_scv) fullShare (key1 m d) ∗ (lc d main_v2_0 ↦{fullShare} m (lc d main_v2_0)) ∗ (lc d main_v2_1 ↦{fullShare} m (lc d main_v2_1)))
    ⊢ (bigSep Finset.univ fun c : Fin ((K (F := F)).nCore 2) => (P m).st 2 d c : sProp 𝕄) := by
  rw [st_eq]
  have h := deal_count (F := F) (d := d) (keys := (Memref.whole main_v1_0_scv)) (hL := (Memref.whole main_v2_0_scv)) (hW := (Memref.whole main_v2_1_scv)) (Kf := (key1 m d)) (fun _ _ _ _ => rfl) (fun _ _ _ _ _ => rfl) (fun _ _ _ _ _ => rfl) (X := m (lc d main_v2_0)) (Y := m (lc d main_v2_1))
  rw [owns_whole, owns_whole] at h
  exact h

theorem after2 : (bigSep Finset.univ fun c : Fin ((K (F := F)).nCore 2) => (P m).dn 2 d c)
    ⊢ (iprop(arr (g0 d) (Memref.whole main_v1_0_scv) fullShare (key1 m d) ∗ counted d (Memref.whole main_v2_0_scv) (Memref.whole main_v2_1_scv) (dig2 m d)) : sProp 𝕄) := by
  rw [dn_eq]
  exact gather_count (F := F) (fun _ _ _ _ => rfl) (fun _ _ _ _ _ => rfl) (fun _ _ _ _ _ => rfl) (fun _ _ _ _ _ => rfl) (fun _ _ _ _ _ => rfl)

theorem before3 : iprop(arr (g0 d) (Memref.whole main_v1_0_scv) fullShare (key1 m d) ∗ arr (g0 d) (Memref.whole main_v1_1_scv) fullShare (ids1 m d) ∗ counted d (Memref.whole main_v2_0_scv) (Memref.whole main_v2_1_scv) (dig2 m d) ∗ (lc d main_v3_0 ↦{fullShare} m (lc d main_v3_0)) ∗ (lc d main_v3_1 ↦{fullShare} m (lc d main_v3_1)))
    ⊢ (bigSep Finset.univ fun c : Fin ((K (F := F)).nCore 3) => (P m).st 3 d c : sProp 𝕄) := by
  rw [st_eq]
  have h := deal_mid (F := F) (d := d) (keys := (Memref.whole main_v1_0_scv)) (ids := (Memref.whole main_v1_1_scv)) (kout := (Memref.whole main_v3_0_scv)) (iout := (Memref.whole main_v3_1_scv)) (hL := (Memref.whole main_v2_0_scv)) (hW := (Memref.whole main_v2_1_scv)) (Kf := (key1 m d)) (If := (ids1 m d)) (D := (dig2 m d)) (A := flat (m (lc d main_v3_0))) (B := flat (m (lc d main_v3_1))) (fun _ _ _ _ => rfl) (fun _ _ _ _ => rfl) (fun _ _ _ _ => rfl) (fun _ _ _ _ => rfl)
  rw [← owns_flat, ← owns_flat, owns_whole, owns_whole] at h
  exact h

theorem after3 : (bigSep Finset.univ fun c : Fin ((K (F := F)).nCore 3) => (P m).dn 3 d c)
    ⊢ (iprop(arr (g0 d) (Memref.whole main_v3_0_scv) fullShare (key2 m d) ∗ arr (g0 d) (Memref.whole main_v3_1_scv) fullShare (ids2 m d)) : sProp 𝕄) := by
  rw [dn_eq]
  exact gather_mid (F := F) (fun _ _ _ _ => rfl) (fun _ _ _ _ => rfl)

theorem before4 : iprop(arr (g0 d) (Memref.whole main_v3_0_scv) fullShare (key2 m d) ∗ (lc d main_v4_0 ↦{fullShare} m (lc d main_v4_0)) ∗ (lc d main_v4_1 ↦{fullShare} m (lc d main_v4_1)))
    ⊢ (bigSep Finset.univ fun c : Fin ((K (F := F)).nCore 4) => (P m).st 4 d c : sProp 𝕄) := by
  rw [st_eq]
  have h := deal_count (F := F) (d := d) (keys := (Memref.whole main_v3_0_scv)) (hL := (Memref.whole main_v4_0_scv)) (hW := (Memref.whole main_v4_1_scv)) (Kf := (key2 m d)) (fun _ _ _ _ => rfl) (fun _ _ _ _ _ => rfl) (fun _ _ _ _ _ => rfl) (X := m (lc d main_v4_0)) (Y := m (lc d main_v4_1))
  rw [owns_whole, owns_whole] at h
  exact h

theorem after4 : (bigSep Finset.univ fun c : Fin ((K (F := F)).nCore 4) => (P m).dn 4 d c)
    ⊢ (iprop(arr (g0 d) (Memref.whole main_v3_0_scv) fullShare (key2 m d) ∗ counted d (Memref.whole main_v4_0_scv) (Memref.whole main_v4_1_scv) (dig3 m d)) : sProp 𝕄) := by
  rw [dn_eq]
  exact gather_count (F := F) (fun _ _ _ _ => rfl) (fun _ _ _ _ _ => rfl) (fun _ _ _ _ _ => rfl) (fun _ _ _ _ _ => rfl) (fun _ _ _ _ _ => rfl)

theorem before5 : iprop(arr (g0 d) (Memref.whole main_v3_0_scv) fullShare (key2 m d) ∗ arr (g0 d) (Memref.whole main_v3_1_scv) fullShare (ids2 m d) ∗ counted d (Memref.whole main_v4_0_scv) (Memref.whole main_v4_1_scv) (dig3 m d) ∗ (lc d main_v5 ↦{fullShare} m (lc d main_v5)))
    ⊢ (bigSep Finset.univ fun c : Fin ((K (F := F)).nCore 5) => (P m).st 5 d c : sProp 𝕄) := by
  rw [st_eq]
  have h := deal_last (F := F) (d := d) (keys := (Memref.whole main_v3_0_scv)) (ids := (Memref.whole main_v3_1_scv)) (iout := (Memref.whole main_v5_scv)) (hL := (Memref.whole main_v4_0_scv)) (hW := (Memref.whole main_v4_1_scv)) (Kf := (key2 m d)) (If := (ids2 m d)) (D := (dig3 m d)) (B := flat (m (lc d main_v5))) (fun _ _ _ _ => rfl) (fun _ _ _ _ => rfl) (fun _ _ _ _ => rfl)
  rw [← owns_flat, owns_whole] at h
  exact h

theorem after5 : (bigSep Finset.univ fun c : Fin ((K (F := F)).nCore 5) => (P m).dn 5 d c)
    ⊢ (iprop(arr (g0 d) (Memref.whole main_v5_scv) fullShare (ids3 m d)) : sProp 𝕄) := by
  rw [dn_eq]
  exact gather_last (F := F) (fun _ _ _ _ => rfl)

theorem fin_of : iprop(arr (g0 d) (Memref.whole main_arg0_scv) fullShare (key0 m d) ∗ arr (g0 d) (Memref.whole main_v5_scv) fullShare (ids3 m d)) ⊢ (FIN m d : sProp 𝕄) := by
  unfold FIN
  rw [hold_keys, hold_result]

/-- `main`: each call takes the arrays it reads and writes, and brings them back. -/
theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 6 ∗ FIN m d ∗ (K (F := F)).tcEnd d) := by
  unfold SparseCore.Cfg.tcRes SparseCore.Cfg.tcEnd
  rw [unscopedBufs_eq, hold_keys]
  simp only [main, wp_bind, wp_pure]
  iintro ⟨#Hctx, Hst, ⟨Hb, ⟨Ha, Hl0, Hw0, Hk1, Hi1, Hl2, Hw2, Hk3, Hi3, Hl4, Hw4, Hi5⟩, Hts, -⟩, -⟩
  iapply ((K (F := F)).wp_run (D (F := F)) 𝒱 (EH := EH) (P := P m) κ d 0) $$ [Hst Ha Hl0 Hw0 Hk1 Hi1 Hl2 Hw2 Hk3 Hi3 Hl4 Hw4 Hi5 Hb Hts]
  isplitr; · iexact Hctx
  isplitl [Hst]; · iexact Hst
  isplitl [Ha Hl0 Hw0]
  · iapply (before0 m d)
    isplitl [Ha]; · iexact Ha
    isplitl [Hl0]; · iexact Hl0
    iexact Hw0
  iintro ⟨Hst, Hdn⟩
  ihave H := (after0 m d) $$ Hdn
  icases H with ⟨Ha, Hc⟩
  iapply ((K (F := F)).wp_run (D (F := F)) 𝒱 (EH := EH) (P := P m) κ d 1) $$ [Hst Ha Hc Hk1 Hi1 Hl2 Hw2 Hk3 Hi3 Hl4 Hw4 Hi5 Hb Hts]
  isplitr; · iexact Hctx
  isplitl [Hst]; · iexact Hst
  isplitl [Ha Hc Hk1 Hi1]
  · iapply (before1 m d)
    isplitl [Ha]; · iexact Ha
    isplitl [Hc]; · iexact Hc
    isplitl [Hk1]; · iexact Hk1
    iexact Hi1
  iintro ⟨Hst, Hdn⟩
  ihave H := (after1 m d) $$ Hdn
  icases H with ⟨Ha, Hk, Hi⟩
  iapply ((K (F := F)).wp_run (D (F := F)) 𝒱 (EH := EH) (P := P m) κ d 2) $$ [Hst Ha Hk Hi Hl2 Hw2 Hk3 Hi3 Hl4 Hw4 Hi5 Hb Hts]
  isplitr; · iexact Hctx
  isplitl [Hst]; · iexact Hst
  isplitl [Hk Hl2 Hw2]
  · iapply (before2 m d)
    isplitl [Hk]; · iexact Hk
    isplitl [Hl2]; · iexact Hl2
    iexact Hw2
  iintro ⟨Hst, Hdn⟩
  ihave H := (after2 m d) $$ Hdn
  icases H with ⟨Hk, Hc⟩
  iapply ((K (F := F)).wp_run (D (F := F)) 𝒱 (EH := EH) (P := P m) κ d 3) $$ [Hst Hk Hc Ha Hi Hk3 Hi3 Hl4 Hw4 Hi5 Hb Hts]
  isplitr; · iexact Hctx
  isplitl [Hst]; · iexact Hst
  isplitl [Hk Hi Hc Hk3 Hi3]
  · iapply (before3 m d)
    isplitl [Hk]; · iexact Hk
    isplitl [Hi]; · iexact Hi
    isplitl [Hc]; · iexact Hc
    isplitl [Hk3]; · iexact Hk3
    iexact Hi3
  iintro ⟨Hst, Hdn⟩
  ihave H := (after3 m d) $$ Hdn
  icases H with ⟨Hk, Hi⟩
  iapply ((K (F := F)).wp_run (D (F := F)) 𝒱 (EH := EH) (P := P m) κ d 4) $$ [Hst Hk Hi Ha Hl4 Hw4 Hi5 Hb Hts]
  isplitr; · iexact Hctx
  isplitl [Hst]; · iexact Hst
  isplitl [Hk Hl4 Hw4]
  · iapply (before4 m d)
    isplitl [Hk]; · iexact Hk
    isplitl [Hl4]; · iexact Hl4
    iexact Hw4
  iintro ⟨Hst, Hdn⟩
  ihave H := (after4 m d) $$ Hdn
  icases H with ⟨Hk, Hc⟩
  iapply ((K (F := F)).wp_run (D (F := F)) 𝒱 (EH := EH) (P := P m) κ d 5) $$ [Hst Hk Hc Hi Ha Hi5 Hb Hts]
  isplitr; · iexact Hctx
  isplitl [Hst]; · iexact Hst
  isplitl [Hk Hi Hc Hi5]
  · iapply (before5 m d)
    isplitl [Hk]; · iexact Hk
    isplitl [Hi]; · iexact Hi
    isplitl [Hc]; · iexact Hc
    iexact Hi5
  iintro ⟨Hst, Hdn⟩
  ihave Hr := (after5 m d) $$ Hdn
  imodintro
  isplitl [Hst]; · iexact Hst
  isplitl [Ha Hr]
  · iapply (fin_of m d)
    isplitl [Ha]; · iexact Ha
    iexact Hr
  isplitl [Hb] <;> iassumption

end Cert.Proof

end
-- ==== Proof.Run.lean ====
/-
  The program's run, and the frames.
-/
module

public import proofs.«01_k».proof.Proof.Main
public import proofs.«01_k».proof.Proof.Gen.Kernel

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] (m : (ℓ : Loc nD τ sig) → Buf (Elt F) ℓ) (ρ : Dev nD → PrngReg)

def fq (d : Dev nD) (s' : Phys nD τ sig (Elt F)) : Prop := s'.mem.mem (lc d main_arg0) = m (lc d main_arg0) ∧ s'.mem.mem (lc d main_v5) = result m d

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := lc d main_arg0) (I := Finset.univ) (q := fullShare) (f := m (lc d main_arg0)))) $$ [HSI Ha]
  · isplitl [HSI] <;> iassumption
  icases H with ⟨%h1, HSI, -⟩
  ihave H := (SI_pointsTo_agree (st := s') (ℓ := lc d main_v5) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

def QC : PUnit × MemSt nD τ sig (Elt F) → Prop := fun r =>
  (∀ c : Dev nD, r.2.mem (lc c main_arg0) = m (lc c main_arg0) ∧ r.2.mem (lc c main_v5) = result m c) ∧ r.2.sem = fun _ => 0

/-- The program's run: the keys kept, the result the indices in the keys' order, every semaphore back at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq | 4 => nomatch hq | 5 => nomatch hq)
    (fun q _ => match q with | 0 => obl0 m | 1 => obl1 m | 2 => obl2 m | 3 => obl3 m | 4 => obl4 m | 5 => obl5 m)
    (fun q _ => SparseCore.Cfg.VecSplit.of_plain (vecSplit m q))
    m ρ main (fun _ => iprop(emp)) (FIN m) (u₀ (F := F)) (sep_elim_left.trans (hu₀ m)) (fun κ d => hmain m ρ d κ) (fq m) (hfin m) (QC m) (fun _ h hz => ⟨h, hz⟩)

theorem frame_ideal : Cert.quiescent_KernelIdeal := fun m ρ _ =>
  (θ_run Cert.KernelIdeal.defs _ _).mono (fun _ h => ⟨fun c => (h.1 c).1, h.2⟩) (run_main m ρ)

theorem frame_kernel : Cert.quiescent_Kernel := fun m ρ _ =>
  (θ_run Cert.KernelIdeal.defs _ _).mono (fun _ h => ⟨fun c => (h.1 c).1, h.2⟩) (run_main (F := Bits) m ρ)

end Cert.Proof

end
-- ==== Proof.Order.lean ====
/-
  A stable sort's positions are the one arrangement of the indices that is in the order of the keys, equal keys in
  index order.
-/
module

public import proofs.«01_k».proof.Proof.Math
public import Idealize.ShloMosaic.Lib.SortFacts

@[expose] public section

namespace Cert.Proof.Count

open Idealize.ShloMosaic

variable {n : ℕ} (K : Fin n → ℕ)

/-- `a` comes before `b`. -/
def Before (a b : Fin n) : Prop := K a < K b ∨ (K a = K b ∧ a < b)

theorem insert_ordered (a : Fin n) (l : List (Fin n)) (ha : ∀ b ∈ l, a < b) (hl : l.Pairwise (Before K)) :
    (insertBefore (fun b c => decide (K b < K c)) a l).Pairwise (Before K) := by
  induction l with
  | nil => exact List.pairwise_singleton _ _
  | cons b l ih =>
    obtain ⟨h1, h2⟩ := List.pairwise_cons.mp hl
    have hab := ha b List.mem_cons_self
    unfold insertBefore
    split
    · rename_i h
      refine List.pairwise_cons.mpr ⟨fun c hc => ?_, ih (fun c hc => ha c (List.mem_cons_of_mem _ hc)) h2⟩
      rcases List.mem_cons.mp ((perm_insertBefore _ a l).mem_iff.mp hc) with rfl | hc
      · exact Or.inl (of_decide_eq_true h)
      · exact h1 c hc
    · rename_i h
      have hle : K a ≤ K b := not_lt.mp (fun h' => h (decide_eq_true h'))
      refine List.pairwise_cons.mpr ⟨fun c hc => ?_, hl⟩
      have hbc : K b ≤ K c := by
        rcases List.mem_cons.mp hc with rfl | hc
        · exact le_rfl
        · rcases h1 c hc with h | ⟨h, -⟩ <;> omega
      rcases Nat.lt_or_eq_of_le (hle.trans hbc) with h | h
      · exact Or.inl h
      · exact Or.inr ⟨h, ha c hc⟩

theorem sort_ordered (l : List (Fin n)) (hl : l.Pairwise (· < ·)) : (stableSort (fun b c => decide (K b < K c)) l).Pairwise (Before K) := by
  induction l with
  | nil => exact List.Pairwise.nil
  | cons a l ih =>
    obtain ⟨h1, h2⟩ := List.pairwise_cons.mp hl
    exact insert_ordered K a _ (fun b hb => h1 b ((perm_stableSort _ l).mem_iff.mp hb)) (ih h2)

/-- Indices in order are the sort's. -/
theorem sorted_eq {s : ℕ → ℕ} (hs : ∀ p, p < n → s p < n) (ho : ∀ p q (hpq : p < q) (hq : q < n), Before K ⟨s p, hs p (hpq.trans hq)⟩ ⟨s q, hs q hq⟩) (k : Fin n) :
    (sortedFrom (fun b c => decide (K b < K c)) k).val = s k := by
  let f : Fin n → Fin n := fun p => ⟨s p, hs p p.2⟩
  have irr : ∀ a, ¬ Before K a a := fun a h => by rcases h with h | ⟨-, h⟩ <;> exact lt_irrefl _ h
  have hf : Function.Injective f := by
    intro p q e
    rcases lt_trichotomy p q with h | h | h
    · have := ho p q h q.2
      exact absurd (show Before K (f p) (f q) from this) (by rw [e]; exact irr _)
    · exact h
    · have := ho q p h p.2
      exact absurd (show Before K (f q) (f p) from this) (by rw [e]; exact irr _)
  have hsurj := Finite.injective_iff_surjective.mp hf
  have hp : (sortPositions n fun b c => decide (K b < K c)).Perm (List.ofFn f) := by
    refine (perm_sortPositions n _).trans ((List.perm_ext_iff_of_nodup (List.nodup_finRange n) (List.nodup_ofFn.mpr hf)).mpr fun a => ?_)
    obtain ⟨p, hp⟩ := hsurj a
    simp only [List.mem_finRange, true_iff, List.mem_ofFn]
    exact ⟨p, hp⟩
  have h1 := sort_ordered K (List.finRange n) (List.pairwise_lt_finRange n)
  have h2 : (List.ofFn f).Pairwise (Before K) := List.pairwise_ofFn.mpr fun {p q} hpq => ho p q hpq q.2
  have e : (sortPositions n fun b c => decide (K b < K c)) = List.ofFn f := by
    refine hp.eq_of_pairwise (fun a b _ _ hab hba => ?_) h1 h2
    rcases hab with h | ⟨h, h'⟩ <;> rcases hba with g | ⟨g, g'⟩
    · omega
    · omega
    · omega
    · exact absurd (h'.trans g') (lt_irrefl _)
  unfold sortedFrom
  rw [List.get_of_eq e]
  simp [f]

/-- The same of keys given at every index. -/
theorem sorted_eq_nat {Kn s : ℕ → ℕ} (hK : ∀ k : Fin n, K k = Kn k) (hs : ∀ p, p < n → s p < n)
    (ho : ∀ p q, p < q → q < n → Kn (s p) < Kn (s q) ∨ (Kn (s p) = Kn (s q) ∧ s p < s q)) (k : Fin n) :
    (sortedFrom (fun b c => decide (K b < K c)) k).val = s k :=
  sorted_eq K hs (fun p q hpq hq => by
    unfold Before
    rw [hK, hK]
    exact ho p q hpq hq) k

/-- Three passes put indices below `2 ^ 32` in order. -/
theorem three_ordered (K : ℕ → ℕ) (N : ℕ) (hK : ∀ e, K e < 2 ^ 32) {s1 s2 s3 : ℕ → ℕ} (h1 : ∀ p, s1 p = inv (dig K 1) N p)
    (h2 : ∀ p, s2 p = s1 (inv (dig (fun e => K (s1 e)) (2 ^ 11)) N p)) (h3 : ∀ p, s3 p = s2 (inv (dig (fun e => K (s2 e)) (2 ^ 22)) N p)) :
    (∀ p, p < N → s3 p < N) ∧ ∀ p q, p < q → q < N → K (s3 p) < K (s3 q) ∨ (K (s3 p) = K (s3 q) ∧ s3 p < s3 q) := by
  obtain rfl := funext h1
  obtain rfl := funext h2
  obtain rfl := funext h3
  refine ⟨fun p hp => (inv_spec (inv_spec (inv_spec hp).1).1).1, fun p q hpq hq => ?_⟩
  have o1 := (ordered_id (N := N) K).step (by norm_num)
  have o2 := o1.step (by norm_num)
  have o3 := o2.step (by norm_num)
  have h := o3 p q hpq hq
  rw [Nat.mod_eq_of_lt ((hK _).trans (by norm_num)), Nat.mod_eq_of_lt ((hK _).trans (by norm_num))] at h
  exact h

end Cert.Proof.Count

end
-- ==== Proof.Value.lean ====
/-
  The result is the reference's: the indices a stable sort of the keys gives.
-/
module

public import proofs.«01_k».proof.Proof.Run
public import proofs.«01_k».proof.Proof.Order

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

open Count

variable [FloatOps F] (m : (ℓ : Loc nD τ sig) → Buf (Elt F) ℓ)

/-- What the reference computes of the keys. -/
def argsort (f : S20480000.Idx → BitVec 32) : S20480000.Idx → BitVec 32 :=
  (Host.sort2 S20480000 0 (fun l r : BitVec 32 × BitVec 32 => IntOp.cmpi .ult l.1 r.1) f (iotaInDim S20480000 32 0)).2

theorem cmp_eq (a b : BitVec 32) : (IntOp.cmpi .ult a b == 1#1) = decide (a.toNat < b.toNat) := by
  rw [beq_eq_decide]
  refine decide_eq_decide.mpr ?_
  show BitVec.ofBool (BitVec.ult a b) = 1#1 ↔ _
  rw [BitVec.ult_eq_decide]
  by_cases h : a.toNat < b.toNat <;> simp [h]

theorem sort_at {n : ℕ} (f : (⟨1, ![n]⟩ : Shape).Idx → BitVec 32) (x : (⟨1, ![n]⟩ : Shape).Idx) :
    (Host.sort2 ⟨1, ![n]⟩ 0 (fun l r : BitVec 32 × BitVec 32 => IntOp.cmpi .ult l.1 r.1) f (iotaInDim ⟨1, ![n]⟩ 32 0)).2 x
      = wd (sortedFrom (n := n) (fun b c => decide ((f (.ofFin b)).toNat < (f (.ofFin c)).toNat)) (x 0)).val := by
  have hd : 0 < (⟨1, ![n]⟩ : Shape).rank := Nat.zero_lt_one
  have e : ∀ c : Fin n, x.along (⟨0, hd⟩ : Fin (⟨1, ![n]⟩ : Shape).rank) c = .ofFin c := fun c => Shape.Idx.along_rank1 x c
  have hs : sortedFrom (n := n) (fun a b => IntOp.cmpi .ult (f (x.along ⟨0, hd⟩ a)) (f (x.along ⟨0, hd⟩ b)) == 1#1) (x 0)
      = sortedFrom (n := n) (fun b c => decide ((f (.ofFin b)).toNat < (f (.ofFin c)).toNat)) (x 0) := by
    congr 1; funext a b
    rw [cmp_eq, e a, e b]
  unfold Host.sort2
  rw [dif_pos hd]
  exact (congrArg (fun c : Fin n => iotaInDim ⟨1, ![n]⟩ 32 0 (x.along ⟨0, hd⟩ c)) hs).trans (by rw [e]; rfl)

theorem argsort_at (f : S20480000.Idx → BitVec 32) (x : S20480000.Idx) :
    argsort f x = wd (sortedFrom (n := 20480000) (fun b c => decide ((f (.ofFin b)).toNat < (f (.ofFin c)).toNat)) (x 0)).val := sort_at f x

/-- The program's result is it. -/
theorem result_eq (d : Dev nD) : result m d = argsort (m (lc d main_arg0)) := by
  funext x
  rw [argsort_at]
  have hx : ∀ k : Fin 20480000, (m (lc d main_arg0) (Shape.Idx.ofFin k : S20480000.Idx)).toNat = (key0 m d k.val).toNat := fun k =>
    congrArg BitVec.toNat (flat_at (m (lc d main_arg0)) (Shape.Idx.ofFin k)).symm
  have h := three_ordered (fun e => (key0 m d e).toNat) 20480000 (fun e => (key0 m d e).isLt)
    (s1 := fun p => inv (dig1 m d) 20480000 p) (s2 := fun p => inv (dig1 m d) 20480000 (inv (dig2 m d) 20480000 p))
    (s3 := fun p => inv (dig1 m d) 20480000 (inv (dig2 m d) 20480000 (inv (dig3 m d) 20480000 p))) (fun _ => rfl) (fun _ => rfl) (fun _ => rfl)
  have h2 := sorted_eq_nat (n := 20480000) (Kn := fun e => (key0 m d e).toNat) (s := fun p => inv (dig1 m d) 20480000 (inv (dig2 m d) 20480000 (inv (dig3 m d) 20480000 p)))
    (fun k => (m (lc d main_arg0) (Shape.Idx.ofFin k : S20480000.Idx)).toNat) hx h.1 h.2 (x 0)
  exact (congrArg wd h2).symm

end Cert.Proof

end
-- ==== Proof.VRun.lean ====
/-
  The run of the two masking calls: what the result holds at the end.
-/
module

public import proofs.«01_k».proof.Proof.Gen.ValidIdeal.Frame

@[expose] public section

noncomputable section

namespace Cert.Proof.Mask

open Cert.ValidIdeal Cert.ValidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every run ends with each array at what the second call leaves, and every counter at zero. -/
theorem run : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v8 (by decide))).trans (W3_arr m ρ c 4),
       (h c _ (mem_uc main_arg0 (by decide))).trans (W3_main_arg0 m ρ c),
       (h c _ (mem_uc main_arg1 (by decide))).trans (W3_main_arg1 m ρ c)⟩)

end Cert.Proof.Mask

end
-- ==== Proof.VPay.lean ====
/-
  What the bodies of the two masking calls compute, entry by entry, and what the reference does.
-/
module

public import proofs.«01_k».proof.Proof.Gen.ValidIdeal.Skeleton
public import proofs.«01_k».proof.Proof.Gen.MaskedIdeal.Run
public import Idealize.ShloMosaic.Lib.Pointwise

@[expose] public section

noncomputable section

namespace Cert.Proof.Mask

open Idealize.ShloMosaic Idealize.ShloMosaic.TcCoe Cert.ValidIdeal Cert.ValidIdeal.Gen

/-- The word of infinity is the top value. -/
theorem ofBits_inf : Ideal.ofBits .f32 2139095040#32 = ⊤ := by simp [Ideal.ofBits, Ideal.ieee]

/-- The word of minus infinity is the bottom value. -/
theorem ofBits_ninf : Ideal.ofBits .f32 4286578688#32 = ⊥ := by simp [Ideal.ofBits, Ideal.ieee]

/-- A fold of `min` from infinity is the infimum. -/
theorem fold_min {ι : Type} [Fintype ι] (f : ι → EReal) :
    Finset.univ.fold min (Ideal.ofBits .f32 2139095040#32) f = ⨅ x, f x := by
  rw [ofBits_inf]; exact Finset.inf_univ_eq_iInf f

/-- One entry of the masked gradients: the gradient less the least one, and one less the incidence where the
    vertex's degree is at most one or the hyperedge's at most two. -/
def entry (g mn rs cs h : EReal) : EReal :=
  (g - mn) * (1 - Scalar.select (IntOp.ori (BitVec.ofBool (decide (rs ≤ 1)))
    (BitVec.ofBool (decide (cs ≤ Ideal.ofBits .f32 1073741824#32)))) h 0)

/-- The partial column sums gain the sum of every eighth row of the block. -/
theorem pay3_apply (h : Vec Ideal S200x2048 .f32) (a : Vec Ideal S8x2048 .f32) (s : Fin 8) (l : Fin 2048) :
    k0_pay3 (F := Ideal) h a (ix2 s l) = a (ix2 s l) + ∑ k : Fin 25, h (ix2 ⟨k.val * 8 + s.val, by omega⟩ l) := by
  pointwise [k0_pay3]

/-- The running minimum meets the least entry of the block. -/
theorem pay4_apply (g : Vec Ideal S200x2048 .f32) (a : Vec Ideal S8x128 .f32) (s : Fin 8) (l : Fin 128) :
    k0_pay4 (F := Ideal) g a (ix2 s l) = min (a (ix2 s l)) (⨅ x : Fin 200 × Fin 2048, g (ix2 x.1 x.2)) := by
  pointwise [k0_pay4]
  simp only [ne_eq, not_true_eq_false, if_false]
  rw [fold_min]

theorem pay1_apply (s : Fin 8) (l : Fin 2048) : k0_pay1 (F := Ideal) (ix2 s l) = 0 := by pointwise [k0_pay1]

theorem pay2_apply (s : Fin 8) (l : Fin 128) : k0_pay2 (F := Ideal) (ix2 s l) = ⊤ := by
  pointwise [k0_pay2]; exact ofBits_inf

/-- The second call's block. -/
theorem mask_apply (h g : Vec Ideal S200x2048 .f32) (d : Vec Ideal S1x1 .f32) (e : Vec Ideal S1x2048 .f32) (r : Fin 200) (l : Fin 2048) :
    k1_pay1 (F := Ideal) h g d e (ix2 r l)
      = entry (g (ix2 r l)) (d (ix2 0 0)) (∑ x : Fin 2048, h (ix2 r x)) (e (ix2 0 l)) (h (ix2 r l)) := by
  pointwise [k1_pay1, entry]
  simp only [ne_eq, not_true_eq_false, if_false]

/-- A bit read as a number keeps a factor or clears it. -/
theorem bit_mul (b : BitVec 1) (h : EReal) : (FloatOps.uitofp (F := Ideal) .f32 b : EReal) * h = Scalar.select b h 0 := by
  rcases BitVec.eq_zero_or_eq_one b with rfl | rfl
  · show (((0 : ℕ) : ℝ) : EReal) * h = 0
    simp
  · show (((1 : ℕ) : ℝ) : EReal) * h = h
    simp

/-- The reference's result, at gradients that are finite. -/
theorem ref_apply (m : (ℓ : Loc Cert.MaskedIdeal.nD Cert.MaskedIdeal.τ Cert.MaskedIdeal.sig) → Buf (Elt Ideal) ℓ) (c : Dev Cert.MaskedIdeal.nD)
    (H G : Vec Ideal S10000x2048 .f32)
    (hH : H = m ((c.tc : Thread Cert.MaskedIdeal.nD Cert.MaskedIdeal.τ).loc Cert.MaskedIdeal.main_arg0))
    (hG : G = m ((c.tc : Thread Cert.MaskedIdeal.nD Cert.MaskedIdeal.τ).loc Cert.MaskedIdeal.main_arg1))
    (hf : ∀ r l, G (ix2 r l) ≠ ⊤ ∧ G (ix2 r l) ≠ ⊥) (r : Fin 10000) (l : Fin 2048) :
    (Cert.MaskedIdeal.Value.res_main_v20 m c : Vec Ideal S10000x2048 .f32) (ix2 r l)
      = entry (G (ix2 r l)) (⨅ x : Fin 10000 × Fin 2048, G (ix2 x.1 x.2)) (∑ x : Fin 2048, H (ix2 r x))
          (∑ x : Fin 10000, H (ix2 x l)) (H (ix2 r l)) := by
  unfold Cert.MaskedIdeal.Value.res_main_v20
  rw [← hH, ← hG]
  have hx : ∀ x : S10000x2048.Idx, G x ≠ ⊤ ∧ G x ≠ ⊥ := fun x => by rw [eq_ix2 x]; exact hf _ _
  have hinf : (⨅ x : S10000x2048.Idx, G x) = ⨅ x : Fin 10000 × Fin 2048, G (ix2 x.1 x.2) :=
    le_antisymm (le_iInf fun x => iInf_le G _) (le_iInf fun x => by
      rw [eq_ix2 x]; exact iInf_le (fun y : Fin 10000 × Fin 2048 => G (ix2 y.1 y.2)) (x 0, x 1))
  pointwise [entry]
  simp only [ne_eq, not_true_eq_false, if_false, ofBits_inf, ofBits_ninf, hx]
  rw [Finset.filter_true_of_mem fun i _ => funext fun a => a.elim0, ← ofBits_inf, fold_min, bit_mul]
  exact congrArg (fun z => (G (ix2 r l) - z) * _) hinf

end Cert.Proof.Mask

end
-- ==== Proof.VVal.lean ====
/-
  The statistics call: the partial column sums and the running minimum after each step.
-/
module

public import proofs.«01_k».proof.Proof.VRun
public import proofs.«01_k».proof.Proof.VPay
public import Idealize.ShloMosaic.Lib.Pipeline.Value

@[expose] public section

noncomputable section

namespace Cert.Proof.Mask

open Cert.ValidIdeal Cert.ValidIdeal.Gen
open Idealize.ShloMosaic Idealize.ShloMosaic.TcCoe Idealize.ShloMosaic.Tactic

/-- Offsets that are all zero. -/
theorem off_zero : (![0, 0] : Fin 2 → Nat) = fun _ => 0 := by decide

section Steps

variable {F : FTy → Type} [FloatOps F]

/-- At the first step the sums start from zero. -/
theorem sums_first (c : Dev nD) (i : grid0.Coords) (a1 : Memref sig .tc .vmem S200x2048 .f32) (h1 : a1.IsWhole)
    (a2 : Memref sig .tc .vmem S200x2048 .f32) (h2 : a2.IsWhole) (a3 : Memref sig .tc .vmem S8x2048 .f32) (h3 : a3.IsWhole)
    (a4 : Memref sig .tc .vmem S8x128 .f32) (h4 : a4.IsWhole) (hc : cond0_0 i) (x g : Vec F S200x2048 .f32) :
    out0_A_2 c i a1 h1 a2 h2 a3 h3 a4 h4 hc x g = k0_pay3 x k0_pay1 := by
  unfold out0_A_2
  rw [View.read_writes_eq_canon _ _ _ (cover0_A_2 c i a1 h1 a2 h2 a3 h3 a4 h4 hc x g)]
  unfold kernelRun0_A
  dsimp only
  sl_unfold_words
  rw [View.canon_cons_unit_zero (S := S8x2048) off_zero, View.readCov_unit_zero (S := S8x2048) _ off_zero]
  simp only [View.readAt_eq_ld, h1.read_unread, View.ld_unit_zero (S := S200x2048) off_zero]

/-- At the first step the minimum starts from infinity. -/
theorem least_first (c : Dev nD) (i : grid0.Coords) (a1 : Memref sig .tc .vmem S200x2048 .f32) (h1 : a1.IsWhole)
    (a2 : Memref sig .tc .vmem S200x2048 .f32) (h2 : a2.IsWhole) (a3 : Memref sig .tc .vmem S8x2048 .f32) (h3 : a3.IsWhole)
    (a4 : Memref sig .tc .vmem S8x128 .f32) (h4 : a4.IsWhole) (hc : cond0_0 i) (x g : Vec F S200x2048 .f32) :
    out0_A_3 c i a1 h1 a2 h2 a3 h3 a4 h4 hc x g = k0_pay4 g k0_pay2 := by
  unfold out0_A_3
  rw [View.read_writes_eq_canon _ _ _ (cover0_A_3 c i a1 h1 a2 h2 a3 h3 a4 h4 hc x g)]
  unfold kernelRun0_A
  dsimp only
  sl_unfold_words
  rw [View.canon_cons_unit_zero (S := S8x128) off_zero, View.readCov_unit_zero (S := S8x128) _ off_zero]
  simp only [View.readAt_eq_ld, h2.read_unread, View.ld_unit_zero (S := S200x2048) off_zero]

/-- At a later step the sums go on from what they were. -/
theorem sums_next (c : Dev nD) (i : grid0.Coords) (a1 : Memref sig .tc .vmem S200x2048 .f32) (h1 : a1.IsWhole)
    (a2 : Memref sig .tc .vmem S200x2048 .f32) (h2 : a2.IsWhole) (a3 : Memref sig .tc .vmem S8x2048 .f32) (h3 : a3.IsWhole)
    (a4 : Memref sig .tc .vmem S8x128 .f32) (h4 : a4.IsWhole) (hc : ¬cond0_0 i) (x g : Vec F S200x2048 .f32)
    (u : Vec F S8x2048 .f32) (v : Vec F S8x128 .f32) :
    out0_B_2 c i a1 h1 a2 h2 a3 h3 a4 h4 hc x g u v = k0_pay3 x u := by
  unfold out0_B_2
  rw [View.read_writes_eq_canon _ _ _ (cover0_B_2 c i a1 h1 a2 h2 a3 h3 a4 h4 hc x g u v)]
  unfold kernelRun0_B
  dsimp only
  sl_unfold_words
  rw [View.canon_cons_unit_zero (S := S8x2048) off_zero]
  simp only [View.readAt_eq_ld, h1.read_unread, h3.read_unread, View.ld_unit_zero (S := S200x2048) off_zero,
    View.ld_unit_zero (S := S8x2048) off_zero]

/-- At a later step the minimum goes on from what it was. -/
theorem least_next (c : Dev nD) (i : grid0.Coords) (a1 : Memref sig .tc .vmem S200x2048 .f32) (h1 : a1.IsWhole)
    (a2 : Memref sig .tc .vmem S200x2048 .f32) (h2 : a2.IsWhole) (a3 : Memref sig .tc .vmem S8x2048 .f32) (h3 : a3.IsWhole)
    (a4 : Memref sig .tc .vmem S8x128 .f32) (h4 : a4.IsWhole) (hc : ¬cond0_0 i) (x g : Vec F S200x2048 .f32)
    (u : Vec F S8x2048 .f32) (v : Vec F S8x128 .f32) :
    out0_B_3 c i a1 h1 a2 h2 a3 h3 a4 h4 hc x g u v = k0_pay4 g v := by
  unfold out0_B_3
  rw [View.read_writes_eq_canon _ _ _ (cover0_B_3 c i a1 h1 a2 h2 a3 h3 a4 h4 hc x g u v)]
  unfold kernelRun0_B
  dsimp only
  sl_unfold_words
  rw [View.canon_cons_unit_zero (S := S8x128) off_zero]
  simp only [View.readAt_eq_ld, h2.read_unread, h4.read_unread, View.ld_unit_zero (S := S200x2048) off_zero,
    View.ld_unit_zero (S := S8x128) off_zero]

end Steps

variable (V : (c : Dev nD) → (b : Ref sig .tc) → Buf (Elt Ideal) ((c : Thread nD τ).loc b)) (c : Dev nD)

theorem row_lt (t : Fin 50) (r : Fin 200) : t.val * 200 + r.val < 10000 := by omega

theorem at_0_0 : ∀ t : Fin cfg0.N, win0_0.index t 0 = t.val ∧ win0_0.index t 1 = 0 := by decide +kernel
theorem at_0_1 : ∀ t : Fin cfg0.N, win0_1.index t 0 = t.val ∧ win0_1.index t 1 = 0 := by decide +kernel

/-- A step's block of the incidence matrix is 200 rows of it. -/
theorem block_H (t : Fin cfg0.N) (r : Fin 200) (l : Fin 2048) :
    (iblk0 V c 0 t : Vec Ideal S200x2048 .f32) (ix2 r l) = (V c main_arg0 : Vec Ideal S10000x2048 .f32) (ix2 ⟨t.val * 200 + r.val, row_lt t r⟩ l) := by
  unfold iblk0
  rw [View.read_apply]
  refine congrArg (V c main_arg0 : Vec Ideal S10000x2048 .f32) (funext fun a => Fin.ext ?_)
  match a with
  | ⟨0, _⟩ => show win0_0.index t 0 * 200 + 1 * r.val = t.val * 200 + r.val; rw [(at_0_0 t).1]; omega
  | ⟨1, _⟩ => show win0_0.index t 1 * 2048 + 1 * l.val = l.val; rw [(at_0_0 t).2]; omega

/-- A step's block of the gradients is 200 rows of them. -/
theorem block_G (t : Fin cfg0.N) (r : Fin 200) (l : Fin 2048) :
    (iblk0 V c 1 t : Vec Ideal S200x2048 .f32) (ix2 r l) = (V c main_arg1 : Vec Ideal S10000x2048 .f32) (ix2 ⟨t.val * 200 + r.val, row_lt t r⟩ l) := by
  unfold iblk0
  rw [View.read_apply]
  refine congrArg (V c main_arg1 : Vec Ideal S10000x2048 .f32) (funext fun a => Fin.ext ?_)
  match a with
  | ⟨0, _⟩ => show win0_1.index t 0 * 200 + 1 * r.val = t.val * 200 + r.val; rw [(at_0_1 t).1]; omega
  | ⟨1, _⟩ => show win0_1.index t 1 * 2048 + 1 * l.val = l.val; rw [(at_0_1 t).2]; omega

/-- The sum of every eighth row of one block, at column `l`. -/
def part (H : Vec Ideal S10000x2048 .f32) (s : Fin 8) (l : Fin 2048) (t : Fin 50) : EReal :=
  ∑ k : Fin 25, H (ix2 ⟨t.val * 200 + (k.val * 8 + s.val), by omega⟩ l)

/-- One block's own sum, at the step's block. -/
theorem part_eq (t : Fin cfg0.N) (s : Fin 8) (l : Fin 2048) (x : Vec Ideal S200x2048 .f32) (hx : x = iblk0 V c 0 t) :
    ∑ k : Fin 25, (x (ix2 ⟨k.val * 8 + s.val, by omega⟩ l) : EReal) = part (V c main_arg0) s l t :=
  Finset.sum_congr rfl fun k _ => by rw [hx]; exact block_H V c t _ l

/-- The sums after step `n`: the blocks up to it. -/
theorem sums_eq : ∀ (n : ℕ) (h : n < cfg0.N) (s : Fin 8) (l : Fin 2048),
    ((outsAt0 V c n h).1 (ix2 s l) : EReal) = ∑ t ∈ Finset.univ.filter (fun t : Fin 50 => t.val ≤ n), part (V c main_arg0) s l t
  | 0, h, s, l => by
    refine (congrFun (congrArg Prod.fst (outsAt0_A V c ⟨0, h⟩ rfl)) (ix2 s l)).trans ?_
    dsimp only
    refine (congrFun (sums_first ..) (ix2 s l)).trans ((pay3_apply _ _ s l).trans ?_)
    rw [pay1_apply, zero_add, part_eq V c ⟨0, h⟩ s l _ rfl]
    have e : (Finset.univ.filter fun t : Fin 50 => t.val ≤ 0) = {(0 : Fin 50)} := by decide
    rw [e, Finset.sum_singleton]
    rfl
  | n + 1, h, s, l => by
    have hN : cfg0.N = 50 := N_0
    have hB : ¬(⟨n + 1, h⟩ : Fin cfg0.N).val % 50 = 0 := by dsimp only; omega
    refine (congrFun (congrArg Prod.fst (outsAt0_B V c ⟨n + 1, h⟩ hB)) (ix2 s l)).trans ?_
    dsimp only
    refine (congrFun (sums_next ..) (ix2 s l)).trans ((pay3_apply _ _ s l).trans ?_)
    rw [part_eq V c ⟨n + 1, h⟩ s l _ rfl]
    have e : (Finset.univ.filter fun t : Fin 50 => t.val ≤ n + 1)
        = insert (⟨n + 1, h⟩ : Fin 50) (Finset.univ.filter fun t : Fin 50 => t.val ≤ n) := by
      ext t
      simp only [Finset.mem_filter, Finset.mem_univ, true_and, Finset.mem_insert, Fin.ext_iff]
      omega
    rw [e, Finset.sum_insert (by simp), add_comm]
    exact congrArg (part (V c main_arg0) s l ⟨n + 1, h⟩ + ·) (sums_eq n (Nat.lt_of_succ_lt h) s l)

/-- What lies below one step's minimum. -/
theorem below_iff (t : Fin cfg0.N) (x : Vec Ideal S200x2048 .f32) (hx : x = iblk0 V c 1 t) (a : Vec Ideal S8x128 .f32)
    (s : Fin 8) (l : Fin 128) (z : EReal) :
    z ≤ k0_pay4 (F := Ideal) x a (ix2 s l) ↔ z ≤ a (ix2 s l) ∧ ∀ (r : Fin 200) (j : Fin 2048),
      z ≤ (V c main_arg1 : Vec Ideal S10000x2048 .f32) (ix2 ⟨t.val * 200 + r.val, row_lt t r⟩ j) := by
  have e : ∀ r j, (x (ix2 r j) : EReal) = (V c main_arg1 : Vec Ideal S10000x2048 .f32) (ix2 ⟨t.val * 200 + r.val, row_lt t r⟩ j) :=
    fun r j => by rw [hx]; exact block_G V c t r j
  rw [pay4_apply, le_min_iff, le_iInf_iff]
  exact and_congr_right fun _ => ⟨fun h r j => (h (r, j)).trans_eq (e r j), fun h y => (h y.1 y.2).trans_eq (e y.1 y.2).symm⟩

/-- What lies below the minimum after step `n`: what lies below every entry of the blocks up to it. -/
theorem least_iff : ∀ (n : ℕ) (h : n < cfg0.N) (s : Fin 8) (l : Fin 128) (z : EReal),
    z ≤ ((outsAt0 V c n h).2 (ix2 s l) : EReal) ↔ ∀ (t : Fin 50), t.val ≤ n → ∀ (r : Fin 200) (j : Fin 2048),
      z ≤ (V c main_arg1 : Vec Ideal S10000x2048 .f32) (ix2 ⟨t.val * 200 + r.val, row_lt t r⟩ j)
  | 0, h, s, l, z => by
    have e : ((outsAt0 V c 0 h).2 (ix2 s l) : EReal) = k0_pay4 (F := Ideal) (iblk0 V c 1 ⟨0, h⟩) (k0_pay2 (F := Ideal)) (ix2 s l) := by
      refine (congrFun (congrArg Prod.snd (outsAt0_A V c ⟨0, h⟩ rfl)) (ix2 s l)).trans ?_
      dsimp only
      exact congrFun (least_first ..) (ix2 s l)
    rw [e, below_iff V c ⟨0, h⟩ _ rfl, pay2_apply]
    refine ⟨fun g t ht => ?_, fun g => ⟨le_top, g ⟨0, h⟩ (Nat.le_refl 0)⟩⟩
    obtain rfl : t = ⟨0, h⟩ := Fin.ext (Nat.le_zero.mp ht)
    exact g.2
  | n + 1, h, s, l, z => by
    have hN : cfg0.N = 50 := N_0
    have hB : ¬(⟨n + 1, h⟩ : Fin cfg0.N).val % 50 = 0 := by dsimp only; omega
    have e : ((outsAt0 V c (n + 1) h).2 (ix2 s l) : EReal)
        = k0_pay4 (F := Ideal) (iblk0 V c 1 ⟨n + 1, h⟩) (outsAt0 V c n (Nat.lt_of_succ_lt h)).2 (ix2 s l) := by
      refine (congrFun (congrArg Prod.snd (outsAt0_B V c ⟨n + 1, h⟩ hB)) (ix2 s l)).trans ?_
      dsimp only
      exact congrFun (least_next ..) (ix2 s l)
    rw [e, below_iff V c ⟨n + 1, h⟩ _ rfl]
    refine Iff.trans (and_congr_left' (least_iff n (Nat.lt_of_succ_lt h) s l z)) ⟨fun g t ht => ?_, fun g =>
      ⟨fun t ht => g t (Nat.le_succ_of_le ht), g ⟨n + 1, h⟩ (Nat.le_refl _)⟩⟩
    rcases Nat.lt_or_ge n t.val with hn | hn
    · obtain rfl : t = ⟨n + 1, h⟩ := Fin.ext (Nat.le_antisymm ht hn)
      exact g.2
    · exact g.1 t hn

/-- The last step. -/
abbrev last : Fin cfg0.N := ⟨49, by decide⟩

theorem at_0_2 : ∀ t : Fin cfg0.N, (fun a => win0_2.index t a * main_v0_0.ty.shape.size a) = fun _ => 0 := by
  intro t; funext a; fin_cases a <;> rfl
theorem at_0_3 : ∀ t : Fin cfg0.N, (fun a => win0_3.index t a * main_v0_1.ty.shape.size a) = fun _ => 0 := by
  intro t; funext a; fin_cases a <;> rfl

/-- The array of partial sums at the end of the call. -/
theorem sums_final : (dat0 V c).arrAt 2 cfg0.N = (outsAt0 V c 49 last.isLt).1 :=
  (dat0 V c).arrAt_eq_of_cover 2 (outsAt0 V c 49 last.isLt).1 (fun t hf => by
    have hN : cfg0.N = 50 := N_0
    have ht : t.val = 49 := by have := (flush0_2 t).mp hf; have := t.isLt; omega
    obtain rfl : t = last := Fin.ext ht
    show (cfg0.win 2).cut (grid0.coords last) ((dat0 V c).after 2 last) = _
    rw [after0_2]
    exact (Memref.read_access_unit_zero (Elt Ideal) main_v0_0 (at_0_2 last) (fun a => by rw [congrFun (at_0_2 last) a]; simp) _).symm) fun i =>
    ⟨last, (flush0_2 last).mpr rfl, by
      have h0 : (i 0 : Nat) < 8 := (i 0).isLt
      have h1 : (i 1 : Nat) < 2048 := (i 1).isLt
      show i ∈ ((View.whole main_v0_0).slice (win0_2.rect last)).set
      rw [View.set_slice_whole, Rect.mem_set_unit]
      intro a
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 8 from by decide +kernel]
        omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 2048 from by decide +kernel]
        omega⟩

/-- The array of minima at the end of the call. -/
theorem least_final : (dat0 V c).arrAt 3 cfg0.N = (outsAt0 V c 49 last.isLt).2 :=
  (dat0 V c).arrAt_eq_of_cover 3 (outsAt0 V c 49 last.isLt).2 (fun t hf => by
    have hN : cfg0.N = 50 := N_0
    have ht : t.val = 49 := by have := (flush0_3 t).mp hf; have := t.isLt; omega
    obtain rfl : t = last := Fin.ext ht
    show (cfg0.win 3).cut (grid0.coords last) ((dat0 V c).after 3 last) = _
    rw [after0_3]
    exact (Memref.read_access_unit_zero (Elt Ideal) main_v0_1 (at_0_3 last) (fun a => by rw [congrFun (at_0_3 last) a]; simp) _).symm) fun i =>
    ⟨last, (flush0_3 last).mpr rfl, by
      have h0 : (i 0 : Nat) < 8 := (i 0).isLt
      have h1 : (i 1 : Nat) < 128 := (i 1).isLt
      show i ∈ ((View.whole main_v0_1).slice (win0_3.rect last)).set
      rw [View.set_slice_whole, Rect.mem_set_unit]
      intro a
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 8 from by decide +kernel]
        omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 128 from by decide +kernel]
        omega⟩

end Cert.Proof.Mask

end
-- ==== Proof.VHost.lean ====
/-
  Between the two masking calls: the column sums and the minimum that the second call is given.
-/
module

public import proofs.«01_k».proof.Proof.VVal

@[expose] public section

noncomputable section

namespace Cert.Proof.Mask

open Cert.ValidIdeal Cert.ValidIdeal.Gen
open Idealize.ShloMosaic Idealize.ShloMosaic.TcCoe Idealize.ShloMosaic.Tactic

/-- The column sums from the partial ones. -/
abbrev degrees (x : Vec Ideal S8x2048 .f32) : Vec Ideal S1x2048 .f32 :=
  broadcastInDim S1x2048 ![1] bcast_S2048_S1x2048_1
    (Host.reduceAdd x (constant (F := Ideal) S_ .f32 0x00000000#32) reducesTo_S8x2048_S2048_d0 h_S_)

/-- The least entry, along a row. -/
abbrev leastRow (x : Vec Ideal S8x128 .f32) : Vec Ideal S1x128 .f32 :=
  mulf (broadcastInDim S1x128 ![0, 1] bcast_S1x1_S1x128_0_1 (broadcastInDim S1x1 ![] bcast_S_S1x1
      (Host.reduce FloatOps.minimumf x (constant (F := Ideal) S_ .f32 0x7F800000#32) reducesTo_S8x128_S_d0_1 h_S_)))
    (broadcastInDim S1x128 ![] bcast_S_S1x128 (constant (F := Ideal) S_ .f32 0x3F800000#32))

theorem degrees_apply (x : Vec Ideal S8x2048 .f32) (l : Fin 2048) :
    (degrees x (ix2 0 l) : EReal) = ∑ s : Fin 8, (x (ix2 s l) : EReal) := by
  pointwise [degrees]

theorem leastRow_apply (x : Vec Ideal S8x128 .f32) (z : EReal) :
    z ≤ (leastRow x (ix2 0 0) : EReal) ↔ ∀ s l, z ≤ (x (ix2 s l) : EReal) := by
  have e : leastRow x (ix2 0 0) = ⨅ y : Fin 8 × Fin 128, x (ix2 y.1 y.2) := by
    pointwise [leastRow]
    exact fold_min _
  rw [e, le_iInf_iff]
  exact ⟨fun h s l => h (s, l), fun h y => h y.1 y.2⟩

section Read

variable (W : Valuation τ sig (Elt Ideal))

theorem read_degrees : StableHlo.after (hostOps1 (F := Ideal)) W (Proc.devRef .tc main_v2) = degrees (W (Proc.devRef .tc main_v0_0)) := by
  after_results_simp

theorem read_least : StableHlo.after (hostOps1 (F := Ideal)) W (Proc.devRef .tc main_v7) = leastRow (W (Proc.devRef .tc main_v0_1)) := by
  after_results_simp

end Read

/-- The rows, dealt out by block, by row in eight and by eight rows. -/
def deal : Fin 8 × Fin 50 × Fin 25 ≃ Fin 10000 where
  toFun x := ⟨x.2.1.val * 200 + (x.2.2.val * 8 + x.1.val), by omega⟩
  invFun r := (⟨r.val % 8, by omega⟩, ⟨r.val / 200, by omega⟩, ⟨r.val % 200 / 8, by omega⟩)
  left_inv x := by
    obtain ⟨s, t, k⟩ := x
    simp only [Prod.mk.injEq, Fin.ext_iff]
    omega
  right_inv r := by
    simp only [Fin.ext_iff]
    omega

/-- The partial sums of all the blocks make the column's sum. -/
theorem parts_sum (H : Vec Ideal S10000x2048 .f32) (l : Fin 2048) :
    ∑ s : Fin 8, ∑ t : Fin 50, part H s l t = ∑ r : Fin 10000, (H (ix2 r l) : EReal) := by
  rw [← Fintype.sum_equiv deal (fun x => (H (ix2 (deal x) l) : EReal)) _ fun _ => rfl, Fintype.sum_prod_type]
  exact Finset.sum_congr rfl fun s _ => by rw [Fintype.sum_prod_type]; rfl

variable (m : (ℓ : Loc nD τ sig) → Buf (Elt Ideal) ℓ) (ρ : Dev nD → PrngReg) (c : Dev nD)

/-- The incidence matrix and the gradients of a memory. -/
abbrev inc : Vec Ideal S10000x2048 .f32 := m ((c : Thread nD τ).loc main_arg0)
abbrev grad : Vec Ideal S10000x2048 .f32 := m ((c : Thread nD τ).loc main_arg1)

/-- The second call is given the degrees of the hyperedges. -/
theorem given_degrees (l : Fin 2048) :
    ((V2 m ρ c main_v2 : Vec Ideal S1x2048 .f32) (ix2 0 l) : EReal) = ∑ r : Fin 10000, (inc m c (ix2 r l) : EReal) := by
  have e : (V2 m ρ c main_v2 : Vec Ideal S1x2048 .f32) = degrees (outsAt0 (V0 m ρ) c 49 last.isLt).1 :=
    (read_degrees (W1 m ρ c)).trans (congrArg degrees ((W1_arr m ρ c 2).trans (sums_final (V0 m ρ) c)))
  refine (congrFun e (ix2 0 l)).trans ((degrees_apply _ l).trans ((?_ : _ = _).trans (parts_sum (inc m c) l)))
  refine Finset.sum_congr rfl fun s _ => (sums_eq (V0 m ρ) c 49 last.isLt s l).trans ?_
  rw [Finset.filter_true_of_mem fun t _ => Nat.le_of_lt_succ t.isLt]

/-- The second call is given the least gradient. -/
theorem given_least :
    ((V2 m ρ c main_v7 : Vec Ideal S1x128 .f32) (ix2 0 0) : EReal) = ⨅ x : Fin 10000 × Fin 2048, (grad m c (ix2 x.1 x.2) : EReal) := by
  have e : (V2 m ρ c main_v7 : Vec Ideal S1x128 .f32) = leastRow (outsAt0 (V0 m ρ) c 49 last.isLt).2 :=
    (read_least (W1 m ρ c)).trans (congrArg leastRow ((W1_arr m ρ c 3).trans (least_final (V0 m ρ) c)))
  refine (congrFun e (ix2 0 0)).trans ?_
  refine eq_of_forall_le_iff (α := EReal) fun z => ?_
  rw [leastRow_apply, le_iInf_iff]
  refine ⟨fun h x => ?_, fun h s l => (least_iff (V0 m ρ) c 49 last.isLt s l z).mpr fun t _ r j => h (_, j)⟩
  have hx := x.1.isLt
  have := (least_iff (V0 m ρ) c 49 last.isLt 0 0 z).mp (h 0 0) ⟨x.1.val / 200, by omega⟩ (by dsimp only; omega)
    ⟨x.1.val % 200, by omega⟩ x.2
  refine this.trans_eq (congrArg (fun r => (grad m c (ix2 r x.2) : EReal)) (Fin.ext ?_))
  dsimp only
  omega

end Cert.Proof.Mask

end
-- ==== Proof.VMask.lean ====
/-
  The second masking call: the masked gradients, and that they are the reference's.
-/
module

public import proofs.«01_k».proof.Proof.VHost
public import proofs.«01_k».proof.Pre_finite
public import Idealize.ShloMosaic.Lib.ReduceAll

@[expose] public section

noncomputable section

namespace Cert.Proof.Mask

open Cert.ValidIdeal Cert.ValidIdeal.Gen
open Idealize.ShloMosaic Idealize.ShloMosaic.TcCoe Idealize.ShloMosaic.Tactic

section Blocks

variable (V : (c : Dev nD) → (b : Ref sig .tc) → Buf (Elt Ideal) ((c : Thread nD τ).loc b)) (c : Dev nD)

theorem at_1_0 : ∀ t : Fin cfg1.N, win1_0.index t 0 = t.val ∧ win1_0.index t 1 = 0 := by decide +kernel
theorem at_1_1 : ∀ t : Fin cfg1.N, win1_1.index t 0 = t.val ∧ win1_1.index t 1 = 0 := by decide +kernel
theorem at_1_2 : ∀ t : Fin cfg1.N, win1_2.index t 0 = 0 ∧ win1_2.index t 1 = 0 := by decide +kernel
theorem at_1_3 : ∀ t : Fin cfg1.N, win1_3.index t 0 = 0 ∧ win1_3.index t 1 = 0 := by decide +kernel
theorem at_1_4 : ∀ t : Fin cfg1.N, win1_4.index t 0 = t.val ∧ win1_4.index t 1 = 0 := by decide +kernel

/-- A step's block of the incidence matrix is 200 rows of it. -/
theorem rows_H (t : Fin cfg1.N) (r : Fin 200) (l : Fin 2048) :
    (iblk1 V c 0 t : Vec Ideal S200x2048 .f32) (ix2 r l) = (V c main_arg0 : Vec Ideal S10000x2048 .f32) (ix2 ⟨t.val * 200 + r.val, row_lt t r⟩ l) := by
  unfold iblk1
  rw [View.read_apply]
  refine congrArg (V c main_arg0 : Vec Ideal S10000x2048 .f32) (funext fun a => Fin.ext ?_)
  match a with
  | ⟨0, _⟩ => show win1_0.index t 0 * 200 + 1 * r.val = t.val * 200 + r.val; rw [(at_1_0 t).1]; omega
  | ⟨1, _⟩ => show win1_0.index t 1 * 2048 + 1 * l.val = l.val; rw [(at_1_0 t).2]; omega

/-- A step's block of the gradients is 200 rows of them. -/
theorem rows_G (t : Fin cfg1.N) (r : Fin 200) (l : Fin 2048) :
    (iblk1 V c 1 t : Vec Ideal S200x2048 .f32) (ix2 r l) = (V c main_arg1 : Vec Ideal S10000x2048 .f32) (ix2 ⟨t.val * 200 + r.val, row_lt t r⟩ l) := by
  unfold iblk1
  rw [View.read_apply]
  refine congrArg (V c main_arg1 : Vec Ideal S10000x2048 .f32) (funext fun a => Fin.ext ?_)
  match a with
  | ⟨0, _⟩ => show win1_1.index t 0 * 200 + 1 * r.val = t.val * 200 + r.val; rw [(at_1_1 t).1]; omega
  | ⟨1, _⟩ => show win1_1.index t 1 * 2048 + 1 * l.val = l.val; rw [(at_1_1 t).2]; omega

/-- Every step sees all the degrees. -/
theorem all_degrees (t : Fin cfg1.N) (l : Fin 2048) :
    (iblk1 V c 2 t : Vec Ideal S1x2048 .f32) (ix2 0 l) = (V c main_v2 : Vec Ideal S1x2048 .f32) (ix2 0 l) := by
  unfold iblk1
  rw [View.read_apply]
  refine congrArg (V c main_v2 : Vec Ideal S1x2048 .f32) (funext fun a => Fin.ext ?_)
  match a with
  | ⟨0, _⟩ => show win1_2.index t 0 * 1 + 1 * 0 = 0; rw [(at_1_2 t).1]
  | ⟨1, _⟩ => show win1_2.index t 1 * 2048 + 1 * l.val = l.val; rw [(at_1_2 t).2]; omega

/-- Every step sees the minimum. -/
theorem all_least (t : Fin cfg1.N) (l : Fin 128) :
    (iblk1 V c 3 t : Vec Ideal S1x128 .f32) (ix2 0 l) = (V c main_v7 : Vec Ideal S1x128 .f32) (ix2 0 l) := by
  unfold iblk1
  rw [View.read_apply]
  refine congrArg (V c main_v7 : Vec Ideal S1x128 .f32) (funext fun a => Fin.ext ?_)
  match a with
  | ⟨0, _⟩ => show win1_3.index t 0 * 1 + 1 * 0 = 0; rw [(at_1_3 t).1]
  | ⟨1, _⟩ => show win1_3.index t 1 * 128 + 1 * l.val = l.val; rw [(at_1_3 t).2]; omega

/-- What one step writes, from its blocks. -/
theorem out_apply (h g : Vec Ideal S200x2048 .f32) (e : Vec Ideal S1x2048 .f32) (d : Vec Ideal S1x128 .f32) (r : Fin 200) (l : Fin 2048) :
    (out1_4 h g e d (ix2 r l) : EReal)
      = entry (g (ix2 r l)) (d (ix2 0 0)) (∑ x : Fin 2048, (h (ix2 r x) : EReal)) (e (ix2 0 l)) (h (ix2 r l)) := by
  unfold out1_4
  rw [View.canon_cons_unit_zero (S := S200x2048) off_zero]
  simp only [View.ld_unit_zero (S := S200x2048) off_zero, View.ld_unit_zero (S := S1x2048) off_zero]
  refine (mask_apply h g (View.ld d r1_1) e r l).trans ?_
  have hd : (View.ld d r1_1 (ix2 0 0) : EReal) = d (ix2 0 0) :=
    congrArg d (funext fun a => Fin.ext (by match a with | ⟨0, _⟩ => rfl | ⟨1, _⟩ => rfl))
  rw [hd]

end Blocks

variable (m : (ℓ : Loc nD τ sig) → Buf (Elt Ideal) ℓ) (ρ : Dev nD → PrngReg) (c : Dev nD)

/-- The masked gradients of a memory. -/
def masked : Vec Ideal S10000x2048 .f32 := fun i =>
  entry (grad m c i) (⨅ x : Fin 10000 × Fin 2048, (grad m c (ix2 x.1 x.2) : EReal)) (∑ x : Fin 2048, (inc m c (ix2 (i 0) x) : EReal))
    (∑ x : Fin 10000, (inc m c (ix2 x (i 1)) : EReal)) (inc m c i)

/-- What one step writes, from blocks that hold row `n` at their row `r`. -/
theorem out_masked (h g : Vec Ideal S200x2048 .f32) (e : Vec Ideal S1x2048 .f32) (d : Vec Ideal S1x128 .f32) (r : Fin 200) (l : Fin 2048)
    (n : Fin 10000) (hh : ∀ x, h (ix2 r x) = inc m c (ix2 n x)) (hg : g (ix2 r l) = grad m c (ix2 n l))
    (he : (e (ix2 0 l) : EReal) = ∑ x : Fin 10000, (inc m c (ix2 x l) : EReal))
    (hd : (d (ix2 0 0) : EReal) = ⨅ x : Fin 10000 × Fin 2048, (grad m c (ix2 x.1 x.2) : EReal)) :
    out1_4 h g e d (ix2 r l) = masked m c (ix2 n l) := by
  rw [out_apply, hg, hd, he]
  simp only [hh]
  rfl

/-- One step's block is 200 rows of the masked gradients. -/
theorem block_masked (t : Fin cfg1.N) (r : Fin 200) (l : Fin 2048) :
    ((dat1 (V2 m ρ) c).after 4 t : Vec Ideal S200x2048 .f32) (ix2 r l) = masked m c (ix2 ⟨t.val * 200 + r.val, row_lt t r⟩ l) := by
  have eH : V2 m ρ c main_arg0 = inc m c := W2_args m ρ c main_arg0 (by decide)
  have eG : V2 m ρ c main_arg1 = grad m c := W2_args m ρ c main_arg1 (by decide)
  rw [after1_4]
  exact out_masked m c (iblk1 (V2 m ρ) c 0 t) (iblk1 (V2 m ρ) c 1 t) (iblk1 (V2 m ρ) c 2 t) (iblk1 (V2 m ρ) c 3 t) r l _
    (fun x => (rows_H (V2 m ρ) c t r x).trans (congrFun eH _)) ((rows_G (V2 m ρ) c t r l).trans (congrFun eG _))
    ((all_degrees (V2 m ρ) c t l).trans (given_degrees m ρ c l)) ((all_least (V2 m ρ) c t 0).trans (given_least m ρ c))

/-- The result at the end of the run. -/
theorem masked_final : (dat1 (V2 m ρ) c).arrAt 4 cfg1.N = masked m c :=
  (dat1 (V2 m ρ) c).arrAt_eq_of_cover 4 (masked m c) (fun t _ => by
    refine funext fun (y : S200x2048.Idx) => ?_
    rw [View.read_apply]
    rw [eq_ix2 y]
    refine (block_masked m ρ c t (y 0) (y 1)).trans (congrArg (masked m c) (funext fun a => Fin.ext ?_))
    match a with
    | ⟨0, _⟩ => show t.val * 200 + (y 0).val = win1_4.index t 0 * 200 + 1 * (y 0).val; rw [(at_1_4 t).1]; omega
    | ⟨1, _⟩ => show (y 1).val = win1_4.index t 1 * 2048 + 1 * (y 1).val; rw [(at_1_4 t).2]; omega) fun i => by
    have h0 : (i 0 : Nat) < 10000 := (i 0).isLt
    have h1 : (i 1 : Nat) < 2048 := (i 1).isLt
    have hN : cfg1.N = 50 := N_1
    refine ⟨⟨(i 0 : Nat) / 200, by omega⟩, flush1_4 _, ?_⟩
    generalize ht : (⟨(i 0 : Nat) / 200, by omega⟩ : Fin cfg1.N) = t
    have hv : t.val = (i 0 : Nat) / 200 := by rw [← ht]
    show i ∈ ((View.whole main_v8).slice (win1_4.rect t)).set
    rw [View.set_slice_whole, Rect.mem_set_unit]
    intro a
    match a with
    | ⟨0, _⟩ =>
      show win1_4.index t 0 * 200 ≤ (i 0 : Nat) ∧ (i 0 : Nat) < win1_4.index t 0 * 200 + 200
      rw [(at_1_4 t).1]; omega
    | ⟨1, _⟩ =>
      show win1_4.index t 1 * 2048 ≤ (i 1 : Nat) ∧ (i 1 : Nat) < win1_4.index t 1 * 2048 + 2048
      rw [(at_1_4 t).2]; omega

/-- The shapes of the precondition fit. -/
theorem pre_facts : Cert.Pre_finite.Facts := ⟨by decide, by decide, by decide⟩

local instance : Cert.Pre_finite.Facts := pre_facts

/-- The precondition says that every gradient is finite. -/
theorem finite_of_pre (H G : Vec Ideal S10000x2048 .f32) (h : Cert.Pre_finite.fn (F := Ideal) H G = fun _ => 1#1)
    (r : Fin 10000) (l : Fin 2048) : (G (ix2 r l) : EReal) ≠ ⊤ ∧ (G (ix2 r l) : EReal) ≠ ⊥ := by
  have h0 := congrFun h ix0
  unfold Cert.Pre_finite.fn at h0
  dsimp only at h0
  have h1 := Host.reduce_andi_all _ _ _ _ _ h0 (ix2 r l)
  revert h1
  pointwise []
  intro h1
  have h2 : (FloatOps.absf (F := Ideal) (φ := .f32) (G (ix2 r l)) : EReal) < ⊤ := by
    rw [← ofBits_inf]
    by_contra hn
    rw [decide_eq_false hn] at h1
    exact absurd h1 (by decide)
  have h3 : max (G (ix2 r l) : EReal) (-(G (ix2 r l) : EReal)) < ⊤ := h2
  refine ⟨fun hx => ?_, fun hx => ?_⟩ <;> rw [hx] at h3 <;> simp at h3

/-- The reference's result is the masked gradients. -/
theorem masked_eq (m' : (ℓ : Loc Cert.MaskedIdeal.nD Cert.MaskedIdeal.τ Cert.MaskedIdeal.sig) → Buf (Elt Ideal) ℓ)
    (hH : inc m c = m' ((c.tc : Thread Cert.MaskedIdeal.nD Cert.MaskedIdeal.τ).loc Cert.MaskedIdeal.main_arg0))
    (hG : grad m c = m' ((c.tc : Thread Cert.MaskedIdeal.nD Cert.MaskedIdeal.τ).loc Cert.MaskedIdeal.main_arg1))
    (h : Cert.Pre_finite.fn (F := Ideal) (inc m c) (grad m c) = fun _ => 1#1) :
    (Cert.MaskedIdeal.Value.res_main_v20 m' c : Vec Ideal S10000x2048 .f32) = masked m c := funext fun i => by
  rw [eq_ix2 i]
  exact ref_apply m' c (inc m c) (grad m c) hH hG (finite_of_pre (inc m c) (grad m c) h) (i 0) (i 1)

end Cert.Proof.Mask

end
-- ==== Proof.VTwin.lean ====
/-
  The printed program and its reading at the ideal instance are one text, so one run serves both.
-/
module

public import proofs.«01_k».proof.Defs
public import proofs.«01_k».proof.Proof.Gen.Valid
public import proofs.«01_k».proof.Proof.Gen.ValidIdeal.Frame

@[expose] public section

noncomputable section

namespace Cert.Proof.Mask

open Idealize.ShloMosaic Idealize.SL.Sem

variable {F : FTy → Type} [FloatOps F]

theorem bodies_eq : Cert.Valid.defs₀ (F := F) = Cert.ValidIdeal.defs₀ (F := F) := by
  unfold Cert.Valid.defs₀ Cert.ValidIdeal.defs₀
  refine congrArg Defs.onTc (funext fun p => funext fun x => ?_)
  match p, x with
  | ⟨0, _⟩, (t, s) => rfl
  | ⟨1, _⟩, (t, s) => rfl

theorem table_eq : Cert.Valid.defs (F := F) = Cert.ValidIdeal.defs (F := F) :=
  congrArg (Pipeline.defs (Cert.ValidIdeal.pcfgs (F := F))) bodies_eq

theorem frame_valid : Cert.quiescent_Valid := fun m ρ _ =>
  table_eq (F := Bits) ▸ Cert.ValidIdeal.Gen.frame (F := Bits) m ρ

end Cert.Proof.Mask

end
-- ==== Proof.lean ====
/-
  The claims: the programs and the references run, and each program's result is its reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Value
public import proofs.«01_k».proof.Proof.VMask
public import proofs.«01_k».proof.Proof.VTwin
public import proofs.«01_k».proof.Proof.Gen.Valid
public import proofs.«01_k».proof.Proof.Gen.ValidIdeal
public import proofs.«01_k».proof.Proof.Gen.MaskedIdeal
public import Idealize.ShloMosaic.Adequacy
public import Idealize.ShloMosaic.Init

@[expose] public section

noncomputable section

namespace Cert.Proof

open Idealize.ShloMosaic Idealize.SL.Sem

theorem frame_reference_ideal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

theorem frame_reference : Cert.quiescent_Reference := fun m ρ _ =>
  (θ_run Cert.Reference.defs _ _).mono (fun r h => ⟨fun c => (h c).2, Idealize.ShloMosaic.sem_eq_zero_of_no_sems (by decide) r.2⟩) (Cert.Reference.Value.run m ρ)

theorem algebraic : Cert.algebraic_KernelIdeal_ReferenceIdeal := fun m ρ m' ρ' _ h =>
  ⟨result m, (θ_run Cert.KernelIdeal.defs _ _).mono (fun _ h c => ⟨(h.1 c).2, (h.1 c).1⟩) (run_main m ρ),
    (θ_run Cert.ReferenceIdeal.defs _ _).mono (fun _ g c => ⟨(g c).1.trans ((congrArg argsort (h c)).trans (result_eq m c).symm), (g c).2⟩) (Cert.ReferenceIdeal.Value.run m' ρ')⟩

theorem bitexact : Cert.bitexact_Kernel_Reference := fun m ρ m' ρ' _ h =>
  ⟨result (F := Bits) m, (θ_run Cert.KernelIdeal.defs _ _).mono (fun _ h c => ⟨(h.1 c).2, (h.1 c).1⟩) (run_main (F := Bits) m ρ),
    (θ_run Cert.Reference.defs _ _).mono (fun _ g c => ⟨(g c).1.trans ((congrArg argsort (h c)).trans (result_eq (F := Bits) m c).symm), (g c).2⟩) (Cert.Reference.Value.run m' ρ')⟩

theorem frame_valid_ideal : Cert.quiescent_ValidIdeal := fun m ρ _ => Cert.ValidIdeal.Gen.frame m ρ

theorem frame_masked : Cert.quiescent_MaskedIdeal := fun m ρ _ =>
  (θ_run Cert.MaskedIdeal.defs _ _).mono (fun r h => ⟨fun c => (h c).2, Idealize.ShloMosaic.sem_eq_zero_of_no_sems (by decide) r.2⟩) (Cert.MaskedIdeal.Value.run m ρ)

/-- The masked gradients are the reference's, at gradients that are finite. -/
theorem algebraic_valid : Cert.algebraic_ValidIdeal_MaskedIdeal_pre_finite (hPre_finite := Mask.pre_facts) := fun m ρ m' ρ' hp h =>
  ⟨Mask.masked m, (θ_run Cert.ValidIdeal.defs _ _).mono (fun _ g c => ⟨(g c).1.trans (Mask.masked_final m ρ c), (g c).2⟩) (Mask.run m ρ),
    (θ_run Cert.MaskedIdeal.defs _ _).mono (fun _ g c =>
      ⟨(g c).1.trans (Mask.masked_eq m c m' (h c).1.symm (h c).2.symm (hp c)), (g c).2⟩) (Cert.MaskedIdeal.Value.run m' ρ')⟩

theorem claim : Cert.Claim := ⟨Cert.Kernel.Gen.facts, Cert.KernelIdeal.Gen.facts, Cert.ReferenceIdeal.Gen.facts, Cert.Reference.Gen.facts,
  Cert.Valid.Gen.facts, Cert.ValidIdeal.Gen.facts, Cert.MaskedIdeal.Gen.facts, Mask.pre_facts,
  frame_kernel, frame_ideal, frame_reference_ideal, frame_reference, Mask.frame_valid, frame_valid_ideal,
  fun m ρ _ => frame_valid_ideal m ρ trivial, frame_masked, fun m ρ _ => frame_masked m ρ trivial,
  trivial, algebraic, bitexact, trivial, algebraic_valid⟩

end Cert.Proof

end
